-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_ada [hPre_finite_ada : Cert.Pre_finite_ada.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_ada.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_ada [hPre_finite_ada : Cert.Pre_finite_ada.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_ada.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_rwkv [hPre_finite_rwkv : Cert.Pre_finite_rwkv.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_rwkv.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_rwkv [hPre_finite_rwkv : Cert.Pre_finite_rwkv.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_rwkv.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_qk [hPre_finite_qk : Cert.Pre_finite_qk.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_qk.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_qk [hPre_finite_qk : Cert.Pre_finite_qk.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_qk.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_ada [hKernel6Ideal : Cert.Kernel6Ideal.Facts] [hPre_finite_ada : Cert.Pre_finite_ada.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_ada m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_ada [hReference6Ideal : Cert.Reference6Ideal.Facts] [hPre_finite_ada : Cert.Pre_finite_ada.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_ada m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Kernel7Ideal_pre_finite_rwkv [hKernel7Ideal : Cert.Kernel7Ideal.Facts] [hPre_finite_rwkv : Cert.Pre_finite_rwkv.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_rwkv m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Reference7Ideal_pre_finite_rwkv [hReference7Ideal : Cert.Reference7Ideal.Facts] [hPre_finite_rwkv : Cert.Pre_finite_rwkv.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_rwkv m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite_qk [hKernel8Ideal : Cert.Kernel8Ideal.Facts] [hPre_finite_qk : Cert.Pre_finite_qk.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_qk m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite_qk [hReference8Ideal : Cert.Reference8Ideal.Facts] [hPre_finite_qk : Cert.Pre_finite_qk.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_qk m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)) (v2 : (c : Dev Cert.Kernel5Ideal.nD) → Buf (Elt Ideal) ((c.tc : Thread Cert.Kernel5Ideal.nD Cert.Kernel5Ideal.τ).loc Cert.Kernel5Ideal.main_v12_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_v12_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v53) = v0 c
          ∧ r.2.mem ((c.tc : Thread Cert.Reference5Ideal.nD Cert.Reference5Ideal.τ).loc Cert.Reference5Ideal.main_v54) = v1 c
          ∧ r.2.mem ((c.tc : Thread Cert.Reference5Ideal.nD Cert.Reference5Ideal.τ).loc Cert.Reference5Ideal.main_v52) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal_pre_finite_ada [hKernel6Ideal : Cert.Kernel6Ideal.Facts] [hReference6Ideal : Cert.Reference6Ideal.Facts] [hPre_finite_ada : Cert.Pre_finite_ada.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_ada m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_rwkv [hKernel7Ideal : Cert.Kernel7Ideal.Facts] [hReference7Ideal : Cert.Reference7Ideal.Facts] [hPre_finite_rwkv : Cert.Pre_finite_rwkv.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_rwkv m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v20_0)) (v1 : (c : Dev Cert.Kernel7Ideal.nD) → Buf (Elt Ideal) ((c.tc : Thread Cert.Kernel7Ideal.nD Cert.Kernel7Ideal.τ).loc Cert.Kernel7Ideal.main_v20_1)) (v2 : (c : Dev Cert.Kernel7Ideal.nD) → Buf (Elt Ideal) ((c.tc : Thread Cert.Kernel7Ideal.nD Cert.Kernel7Ideal.τ).loc Cert.Kernel7Ideal.main_v20_2)) (v3 : (c : Dev Cert.Kernel7Ideal.nD) → Buf (Elt Ideal) ((c.tc : Thread Cert.Kernel7Ideal.nD Cert.Kernel7Ideal.τ).loc Cert.Kernel7Ideal.main_v20_3)) (v4 : (c : Dev Cert.Kernel7Ideal.nD) → Buf (Elt Ideal) ((c.tc : Thread Cert.Kernel7Ideal.nD Cert.Kernel7Ideal.τ).loc Cert.Kernel7Ideal.main_v20_4)) (v5 : (c : Dev Cert.Kernel7Ideal.nD) → Buf (Elt Ideal) ((c.tc : Thread Cert.Kernel7Ideal.nD Cert.Kernel7Ideal.τ).loc Cert.Kernel7Ideal.main_v20_5)) (v6 : (c : Dev Cert.Kernel7Ideal.nD) → Buf (Elt Ideal) ((c.tc : Thread Cert.Kernel7Ideal.nD Cert.Kernel7Ideal.τ).loc Cert.Kernel7Ideal.main_v20_6)) (v7 : (c : Dev Cert.Kernel7Ideal.nD) → Buf (Elt Ideal) ((c.tc : Thread Cert.Kernel7Ideal.nD Cert.Kernel7Ideal.τ).loc Cert.Kernel7Ideal.main_v20_7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v20_0) = v0 c
          ∧ r.2.mem ((c.tc : Thread Cert.Kernel7Ideal.nD Cert.Kernel7Ideal.τ).loc Cert.Kernel7Ideal.main_v20_1) = v1 c
          ∧ r.2.mem ((c.tc : Thread Cert.Kernel7Ideal.nD Cert.Kernel7Ideal.τ).loc Cert.Kernel7Ideal.main_v20_2) = v2 c
          ∧ r.2.mem ((c.tc : Thread Cert.Kernel7Ideal.nD Cert.Kernel7Ideal.τ).loc Cert.Kernel7Ideal.main_v20_3) = v3 c
          ∧ r.2.mem ((c.tc : Thread Cert.Kernel7Ideal.nD Cert.Kernel7Ideal.τ).loc Cert.Kernel7Ideal.main_v20_4) = v4 c
          ∧ r.2.mem ((c.tc : Thread Cert.Kernel7Ideal.nD Cert.Kernel7Ideal.τ).loc Cert.Kernel7Ideal.main_v20_5) = v5 c
          ∧ r.2.mem ((c.tc : Thread Cert.Kernel7Ideal.nD Cert.Kernel7Ideal.τ).loc Cert.Kernel7Ideal.main_v20_6) = v6 c
          ∧ r.2.mem ((c.tc : Thread Cert.Kernel7Ideal.nD Cert.Kernel7Ideal.τ).loc Cert.Kernel7Ideal.main_v20_7) = v7 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v82) = v0 c
          ∧ r.2.mem ((c.tc : Thread Cert.Reference7Ideal.nD Cert.Reference7Ideal.τ).loc Cert.Reference7Ideal.main_v85) = v1 c
          ∧ r.2.mem ((c.tc : Thread Cert.Reference7Ideal.nD Cert.Reference7Ideal.τ).loc Cert.Reference7Ideal.main_v86) = v2 c
          ∧ r.2.mem ((c.tc : Thread Cert.Reference7Ideal.nD Cert.Reference7Ideal.τ).loc Cert.Reference7Ideal.main_v87) = v3 c
          ∧ r.2.mem ((c.tc : Thread Cert.Reference7Ideal.nD Cert.Reference7Ideal.τ).loc Cert.Reference7Ideal.main_v88) = v4 c
          ∧ r.2.mem ((c.tc : Thread Cert.Reference7Ideal.nD Cert.Reference7Ideal.τ).loc Cert.Reference7Ideal.main_v90) = v5 c
          ∧ r.2.mem ((c.tc : Thread Cert.Reference7Ideal.nD Cert.Reference7Ideal.τ).loc Cert.Reference7Ideal.main_v91) = v6 c
          ∧ r.2.mem ((c.tc : Thread Cert.Reference7Ideal.nD Cert.Reference7Ideal.τ).loc Cert.Reference7Ideal.main_v92) = v7 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def preserves_Kernel8_Kernel8Ideal : Prop :=
  True

def algebraic_Kernel8Ideal_Reference8Ideal_pre_finite_qk [hKernel8Ideal : Cert.Kernel8Ideal.Facts] [hReference8Ideal : Cert.Reference8Ideal.Facts] [hPre_finite_qk : Cert.Pre_finite_qk.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_qk m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v26_0)) (v1 : (c : Dev Cert.Kernel8Ideal.nD) → Buf (Elt Ideal) ((c.tc : Thread Cert.Kernel8Ideal.nD Cert.Kernel8Ideal.τ).loc Cert.Kernel8Ideal.main_v26_1)) (v2 : (c : Dev Cert.Kernel8Ideal.nD) → Buf (Elt Ideal) ((c.tc : Thread Cert.Kernel8Ideal.nD Cert.Kernel8Ideal.τ).loc Cert.Kernel8Ideal.main_v26_2)) (v3 : (c : Dev Cert.Kernel8Ideal.nD) → Buf (Elt Ideal) ((c.tc : Thread Cert.Kernel8Ideal.nD Cert.Kernel8Ideal.τ).loc Cert.Kernel8Ideal.main_v26_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v26_0) = v0 c
          ∧ r.2.mem ((c.tc : Thread Cert.Kernel8Ideal.nD Cert.Kernel8Ideal.τ).loc Cert.Kernel8Ideal.main_v26_1) = v1 c
          ∧ r.2.mem ((c.tc : Thread Cert.Kernel8Ideal.nD Cert.Kernel8Ideal.τ).loc Cert.Kernel8Ideal.main_v26_2) = v2 c
          ∧ r.2.mem ((c.tc : Thread Cert.Kernel8Ideal.nD Cert.Kernel8Ideal.τ).loc Cert.Kernel8Ideal.main_v26_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v105) = v0 c
          ∧ r.2.mem ((c.tc : Thread Cert.Reference8Ideal.nD Cert.Reference8Ideal.τ).loc Cert.Reference8Ideal.main_v107) = v1 c
          ∧ r.2.mem ((c.tc : Thread Cert.Reference8Ideal.nD Cert.Reference8Ideal.τ).loc Cert.Reference8Ideal.main_v109) = v2 c
          ∧ r.2.mem ((c.tc : Thread Cert.Reference8Ideal.nD Cert.Reference8Ideal.τ).loc Cert.Reference8Ideal.main_v110) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite_ada : Cert.Pre_finite_ada.Facts) (hPre_finite_rwkv : Cert.Pre_finite_rwkv.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_ada (hKernel6Ideal := hKernel6Ideal) (hPre_finite_ada := hPre_finite_ada)
    ∧ quiescent_Reference6Ideal (hReference6Ideal := hReference6Ideal)
    ∧ quiescent_Reference6Ideal_pre_finite_ada (hReference6Ideal := hReference6Ideal) (hPre_finite_ada := hPre_finite_ada)
    ∧ quiescent_Kernel7 (hKernel7 := hKernel7)
    ∧ quiescent_Kernel7Ideal (hKernel7Ideal := hKernel7Ideal)
    ∧ quiescent_Kernel7Ideal_pre_finite_rwkv (hKernel7Ideal := hKernel7Ideal) (hPre_finite_rwkv := hPre_finite_rwkv)
    ∧ quiescent_Reference7Ideal (hReference7Ideal := hReference7Ideal)
    ∧ quiescent_Reference7Ideal_pre_finite_rwkv (hReference7Ideal := hReference7Ideal) (hPre_finite_rwkv := hPre_finite_rwkv)
    ∧ quiescent_Kernel8 (hKernel8 := hKernel8)
    ∧ quiescent_Kernel8Ideal (hKernel8Ideal := hKernel8Ideal)
    ∧ quiescent_Kernel8Ideal_pre_finite_qk (hKernel8Ideal := hKernel8Ideal) (hPre_finite_qk := hPre_finite_qk)
    ∧ quiescent_Reference8Ideal (hReference8Ideal := hReference8Ideal)
    ∧ quiescent_Reference8Ideal_pre_finite_qk (hReference8Ideal := hReference8Ideal) (hPre_finite_qk := hPre_finite_qk)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_ada (hKernel6Ideal := hKernel6Ideal) (hReference6Ideal := hReference6Ideal) (hPre_finite_ada := hPre_finite_ada)
    ∧ preserves_Kernel7_Kernel7Ideal
    ∧ algebraic_Kernel7Ideal_Reference7Ideal_pre_finite_rwkv (hKernel7Ideal := hKernel7Ideal) (hReference7Ideal := hReference7Ideal) (hPre_finite_rwkv := hPre_finite_rwkv)
    ∧ preserves_Kernel8_Kernel8Ideal
    ∧ algebraic_Kernel8Ideal_Reference8Ideal_pre_finite_qk (hKernel8Ideal := hKernel8Ideal) (hReference8Ideal := hReference8Ideal) (hPre_finite_qk := hPre_finite_qk)
-- ==== Pre_finite.lean ====
abbrev S32768x512 : Shape := ⟨2, ![32768, 512]⟩
abbrev S128x1x512 : Shape := ⟨3, ![128, 1, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S128x1x512 : S_.BroadcastsInDim S128x1x512 (![] : Fin 0 → Fin S128x1x512.rank)
  reducesTo_S128x1x512_S_d0_1_2 : S128x1x512.ReducesTo [0, 1, 2] S_

variable [Facts]

def fn {F : FTy → Type} [FloatOps F] (main_arg0 : FVec F S32768x512 .bf16) (main_arg1 : FVec F S32768x512 .bf16) (main_arg2 : FVec F S32768x512 .bf16) (main_arg3 : FVec F S128x1x512 .f32) : IVec S_ 1 :=
  let main_v0 : FVec F S32768x512 .bf16 := Host.absf main_arg0
  let main_cst : FVec F S_ .bf16 := constant S_ .bf16 0x7F80#16
  let main_v1 : FVec F S32768x512 .bf16 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .bf16 := Host.absf main_arg1
  let main_cst_0 : FVec F S_ .bf16 := constant S_ .bf16 0x7F80#16
  let main_v5 : FVec F S32768x512 .bf16 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S128x1x512 .f32 := Host.absf main_arg3
  let main_cst_2 : FVec F S_ .f32 := constant S_ .f32 0x7F800000#32
  let main_v10 : FVec F S128x1x512 .f32 := broadcastInDim S128x1x512 ![] bcast_S_S128x1x512 main_cst_2
  let main_v11 : IVec S128x1x512 1 := cmpf .olt main_v9 main_v10
  let main_c_3 : IVec S_ 1 := constantI S_ 1 1#1
  let main_v12 : IVec S_ 1 := (fun x v => Host.reduce IntOp.andi x v reducesTo_S128x1x512_S_d0_1_2 h_S_) main_v11 main_c_3
  let main_v13 : IVec S_ 1 := andi main_v8 main_v12
  main_v13
-- ==== Pre_finite_ada.lean ====
abbrev S4x1024 : Shape := ⟨2, ![4, 1024]⟩
abbrev S1x1024x6144 : Shape := ⟨3, ![1, 1024, 6144]⟩
abbrev S1x6144 : Shape := ⟨2, ![1, 6144]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel
  bcast_S_S1x1024x6144 : S_.BroadcastsInDim S1x1024x6144 (![] : Fin 0 → Fin S1x1024x6144.rank)
  reducesTo_S1x1024x6144_S_d0_1_2 : S1x1024x6144.ReducesTo [0, 1, 2] S_

variable [Facts]

def fn {F : FTy → Type} [FloatOps F] (main_arg0 : FVec F S4x1024 .f32) (main_arg1 : FVec F S1x1024x6144 .f32) (main_arg2 : FVec F S1x6144 .f32) : IVec S_ 1 :=
  let main_v0 : FVec F S4x1024 .f32 := Host.absf main_arg0
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_c : IVec S_ 1 := constantI S_ 1 1#1
  let main_v3 : IVec S_ 1 := (fun x v => Host.reduce IntOp.andi x v reducesTo_S4x1024_S_d0_1 h_S_) main_v2 main_c
  let main_v4 : FVec F S1x1024x6144 .f32 := Host.absf main_arg1
  let main_cst_0 : FVec F S_ .f32 := constant S_ .f32 0x7F800000#32
  let main_v5 : FVec F S1x1024x6144 .f32 := broadcastInDim S1x1024x6144 ![] bcast_S_S1x1024x6144 main_cst_0
  let main_v6 : IVec S1x1024x6144 1 := cmpf .olt main_v4 main_v5
  let main_c_1 : IVec S_ 1 := constantI S_ 1 1#1
  let main_v7 : IVec S_ 1 := (fun x v => Host.reduce IntOp.andi x v reducesTo_S1x1024x6144_S_d0_1_2 h_S_) main_v6 main_c_1
  let main_v8 : IVec S_ 1 := andi main_v3 main_v7
  main_v8
-- ==== Pre_finite_qk.lean ====
abbrev S32768x1536 : Shape := ⟨2, ![32768, 1536]⟩
abbrev S4x8192 : Shape := ⟨2, ![4, 8192]⟩
abbrev S1x64 : Shape := ⟨2, ![1, 64]⟩
abbrev S_ : Shape := ⟨0, ![]⟩

class Facts : Prop where
  bcast_S_S32768x1536 : S_.BroadcastsInDim S32768x1536 (![] : Fin 0 → Fin S32768x1536.rank)
  reducesTo_S32768x1536_S_d0_1 : S32768x1536.ReducesTo [0, 1] S_
  h_S_ : 0 < S_.numel

variable [Facts]

def fn {F : FTy → Type} [FloatOps F] (main_arg0 : FVec F S32768x1536 .f32) (main_arg1 : IVec S4x8192 32) (main_arg2 : FVec F S1x64 .f32) (main_arg3 : FVec F S1x64 .f32) : IVec S_ 1 :=
  let main_v0 : FVec F S32768x1536 .f32 := Host.absf main_arg0
  let main_cst : FVec F S_ .f32 := constant S_ .f32 0x7F800000#32
  let main_v1 : FVec F S32768x1536 .f32 := broadcastInDim S32768x1536 ![] bcast_S_S32768x1536 main_cst
  let main_v2 : IVec S32768x1536 1 := cmpf .olt main_v0 main_v1
  let main_c : IVec S_ 1 := constantI S_ 1 1#1
  let main_v3 : IVec S_ 1 := (fun x v => Host.reduce IntOp.andi x v reducesTo_S32768x1536_S_d0_1 h_S_) main_v2 main_c
  main_v3
-- ==== Pre_finite_rwkv.lean ====
abbrev S32768x1792 : Shape := ⟨2, ![32768, 1792]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x8x64 : Shape := ⟨3, ![1, 8, 64]⟩
abbrev S_ : Shape := ⟨0, ![]⟩

class Facts : Prop where
  bcast_S_S32768x1792 : S_.BroadcastsInDim S32768x1792 (![] : Fin 0 → Fin S32768x1792.rank)
  reducesTo_S32768x1792_S_d0_1 : S32768x1792.ReducesTo [0, 1] S_
  h_S_ : 0 < S_.numel
  bcast_S_S1x1792 : S_.BroadcastsInDim S1x1792 (![] : Fin 0 → Fin S1x1792.rank)
  reducesTo_S1x1792_S_d0_1 : S1x1792.ReducesTo [0, 1] S_
  bcast_S_S1x64x512 : S_.BroadcastsInDim S1x64x512 (![] : Fin 0 → Fin S1x64x512.rank)
  reducesTo_S1x64x512_S_d0_1_2 : S1x64x512.ReducesTo [0, 1, 2] S_
  bcast_S_S1x128x512 : S_.BroadcastsInDim S1x128x512 (![] : Fin 0 → Fin S1x128x512.rank)
  reducesTo_S1x128x512_S_d0_1_2 : S1x128x512.ReducesTo [0, 1, 2] S_
  bcast_S_S1x512 : S_.BroadcastsInDim S1x512 (![] : Fin 0 → Fin S1x512.rank)
  reducesTo_S1x512_S_d0_1 : S1x512.ReducesTo [0, 1] S_
  bcast_S_S1x8x64 : S_.BroadcastsInDim S1x8x64 (![] : Fin 0 → Fin S1x8x64.rank)
  reducesTo_S1x8x64_S_d0_1_2 : S1x8x64.ReducesTo [0, 1, 2] S_

variable [Facts]

def fn_part2 {F : FTy → Type} [FloatOps F] (main_arg9 : FVec F S1x8x64 .f32) (main_v33 : IVec S_ 1) : IVec S_ 1 :=
  let main_v34 : FVec F S1x8x64 .f32 := Host.absf main_arg9
  let main_cst_12 : FVec F S_ .f32 := constant S_ .f32 0x7F800000#32
  let main_v35 : FVec F S1x8x64 .f32 := broadcastInDim S1x8x64 ![] bcast_S_S1x8x64 main_cst_12
  let main_v36 : IVec S1x8x64 1 := cmpf .olt main_v34 main_v35
  let main_c_13 : IVec S_ 1 := constantI S_ 1 1#1
  let main_v37 : IVec S_ 1 := (fun x v => Host.reduce IntOp.andi x v reducesTo_S1x8x64_S_d0_1_2 h_S_) main_v36 main_c_13
  let main_v38 : IVec S_ 1 := andi main_v33 main_v37
  main_v38

def fn_part1 {F : FTy → Type} [FloatOps F] (main_arg6 : FVec F S1x128x512 .f32) (main_arg7 : FVec F S1x512 .f32) (main_arg8 : FVec F S1x512 .f32) (main_arg9 : FVec F S1x8x64 .f32) (main_v13 : IVec S_ 1) (main_v16 : IVec S1x64x512 1) : IVec S_ 1 :=
  let main_c_5 : IVec S_ 1 := constantI S_ 1 1#1
  let main_v17 : IVec S_ 1 := (fun x v => Host.reduce IntOp.andi x v reducesTo_S1x64x512_S_d0_1_2 h_S_) main_v16 main_c_5
  let main_v18 : IVec S_ 1 := andi main_v13 main_v17
  let main_v19 : FVec F S1x128x512 .f32 := Host.absf main_arg6
  let main_cst_6 : FVec F S_ .f32 := constant S_ .f32 0x7F800000#32
  let main_v20 : FVec F S1x128x512 .f32 := broadcastInDim S1x128x512 ![] bcast_S_S1x128x512 main_cst_6
  let main_v21 : IVec S1x128x512 1 := cmpf .olt main_v19 main_v20
  let main_c_7 : IVec S_ 1 := constantI S_ 1 1#1
  let main_v22 : IVec S_ 1 := (fun x v => Host.reduce IntOp.andi x v reducesTo_S1x128x512_S_d0_1_2 h_S_) main_v21 main_c_7
  let main_v23 : IVec S_ 1 := andi main_v18 main_v22
  let main_v24 : FVec F S1x512 .f32 := Host.absf main_arg7
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1x512 .f32 := Host.absf main_arg8
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg9 main_v33

def fn {F : FTy → Type} [FloatOps F] (main_arg0 : FVec F S32768x1792 .f32) (main_arg1 : FVec F S1x1792 .f32) (main_arg2 : FVec F S1x512 .f32) (main_arg3 : FVec F S1x64x512 .f32) (main_arg4 : FVec F S1x512 .f32) (main_arg5 : FVec F S1x64x512 .f32) (main_arg6 : FVec F S1x128x512 .f32) (main_arg7 : FVec F S1x512 .f32) (main_arg8 : FVec F S1x512 .f32) (main_arg9 : FVec F S1x8x64 .f32) : IVec S_ 1 :=
  let main_v0 : FVec F S32768x1792 .f32 := Host.absf main_arg0
  let main_cst : FVec F S_ .f32 := constant S_ .f32 0x7F800000#32
  let main_v1 : FVec F S32768x1792 .f32 := broadcastInDim S32768x1792 ![] bcast_S_S32768x1792 main_cst
  let main_v2 : IVec S32768x1792 1 := cmpf .olt main_v0 main_v1
  let main_c : IVec S_ 1 := constantI S_ 1 1#1
  let main_v3 : IVec S_ 1 := (fun x v => Host.reduce IntOp.andi x v reducesTo_S32768x1792_S_d0_1 h_S_) main_v2 main_c
  let main_v4 : FVec F S1x1792 .f32 := Host.absf main_arg1
  let main_cst_0 : FVec F S_ .f32 := constant S_ .f32 0x7F800000#32
  let main_v5 : FVec F S1x1792 .f32 := broadcastInDim S1x1792 ![] bcast_S_S1x1792 main_cst_0
  let main_v6 : IVec S1x1792 1 := cmpf .olt main_v4 main_v5
  let main_c_1 : IVec S_ 1 := constantI S_ 1 1#1
  let main_v7 : IVec S_ 1 := (fun x v => Host.reduce IntOp.andi x v reducesTo_S1x1792_S_d0_1 h_S_) main_v6 main_c_1
  let main_v8 : IVec S_ 1 := andi main_v3 main_v7
  let main_v9 : FVec F S1x64x512 .f32 := Host.absf main_arg3
  let main_cst_2 : FVec F S_ .f32 := constant S_ .f32 0x7F800000#32
  let main_v10 : FVec F S1x64x512 .f32 := broadcastInDim S1x64x512 ![] bcast_S_S1x64x512 main_cst_2
  let main_v11 : IVec S1x64x512 1 := cmpf .olt main_v9 main_v10
  let main_c_3 : IVec S_ 1 := constantI S_ 1 1#1
  let main_v12 : IVec S_ 1 := (fun x v => Host.reduce IntOp.andi x v reducesTo_S1x64x512_S_d0_1_2 h_S_) main_v11 main_c_3
  let main_v13 : IVec S_ 1 := andi main_v8 main_v12
  let main_v14 : FVec F S1x64x512 .f32 := Host.absf main_arg5
  let main_cst_4 : FVec F S_ .f32 := constant S_ .f32 0x7F800000#32
  let main_v15 : FVec F S1x64x512 .f32 := broadcastInDim S1x64x512 ![] bcast_S_S1x64x512 main_cst_4
  let main_v16 : IVec S1x64x512 1 := cmpf .olt main_v14 main_v15
  fn_part1 (F := F) main_arg6 main_arg7 main_arg8 main_arg9 main_v13 main_v16
-- ==== Kernel.lean ====
abbrev S32768x512 : Shape := ⟨2, ![32768, 512]⟩
abbrev S128x1x512 : Shape := ⟨3, ![128, 1, 512]⟩
abbrev S4x8192x512 : Shape := ⟨3, ![4, 8192, 512]⟩
abbrev S4x32x512 : Shape := ⟨3, ![4, 32, 512]⟩
abbrev S_ : Shape := ⟨0, ![]⟩
abbrev S4x128x512 : Shape := ⟨3, ![4, 128, 512]⟩
abbrev S1x256x128 : Shape := ⟨3, ![1, 256, 128]⟩
abbrev S1x8192x128 : Shape := ⟨3, ![1, 8192, 128]⟩
abbrev S1x128x128 : Shape := ⟨3, ![1, 128, 128]⟩
abbrev S256x128 : Shape := ⟨2, ![256, 128]⟩
abbrev S128x128 : Shape := ⟨2, ![128, 128]⟩
abbrev S128x256 : Shape := ⟨2, ![128, 256]⟩
abbrev S256x256 : Shape := ⟨2, ![256, 256]⟩
abbrev S256 : Shape := ⟨1, ![256]⟩
abbrev S1x256 : Shape := ⟨2, ![1, 256]⟩
abbrev S256x1 : Shape := ⟨2, ![256, 1]⟩
abbrev S1x512x128 : Shape := ⟨3, ![1, 512, 128]⟩
abbrev S512x128 : Shape := ⟨2, ![512, 128]⟩
abbrev S256x512 : Shape := ⟨2, ![256, 512]⟩

abbrev nBuf : Space → Nat
  | .hbm => 12
  | .vmem => 10
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S128x1x512, .f32⟩
  | .hbm, ⟨4, _⟩ => ⟨S4x8192x512, .bf16⟩
  | .hbm, ⟨5, _⟩ => ⟨S4x8192x512, .bf16⟩
  | .hbm, ⟨6, _⟩ => ⟨S4x8192x512, .bf16⟩
  | .hbm, ⟨7, _⟩ => ⟨S4x32x512, .f32⟩
  | .hbm, ⟨8, _⟩ => ⟨S_, .i32⟩
  | .hbm, ⟨9, _⟩ => ⟨S_, .f32⟩
  | .hbm, ⟨10, _⟩ => ⟨S4x128x512, .f32⟩
  | .hbm, ⟨11, _⟩ => ⟨S4x8192x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x128x128, .f32⟩
  | .local _ .vmem, ⟨7, _⟩ => ⟨S1x128x128, .f32⟩
  | .local _ .vmem, ⟨8, _⟩ => ⟨S1x256x128, .bf16⟩
  | .local _ .vmem, ⟨9, _⟩ => ⟨S1x256x128, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 32], ![false, false, false]⟩

def k0_mult1 (i : grid0.Coords) : BitVec 32 :=
  let arg2 : BitVec 32 := BitVec.ofNat 32 (i 2).val
  let c256_i32 : BitVec 32 := 256#32
  let v9 : BitVec 32 := Scalar.muli arg2 c256_i32
  v9
def k0_off1 (i : grid0.Coords) : Fin 3 → Nat :=
  let c0_5 : Index := 0#32
  let arg2 : BitVec 32 := BitVec.ofNat 32 (i 2).val
  let c256_i32 : BitVec 32 := 256#32
  let v9 : BitVec 32 := Scalar.muli arg2 c256_i32
  let v10 : BitVec 32 := v9
  let v11 : Index := Scalar.indexCast v10
  let c0_6 : Index := 0#32
  ![0, v11.toNat, 0]
@[reducible] def k0_t1_loop (i : grid0.Coords) : Scf.Loop 32 :=
  let c0_i32_64 : BitVec 32 := 0#32
  let arg2 : BitVec 32 := BitVec.ofNat 32 (i 2).val
  let c1_i32_57 : BitVec 32 := 1#32
  let v169 : BitVec 32 := Scalar.addi arg2 c1_i32_57
  let c0_i32_58 : BitVec 32 := 0#32
  let v171 : BitVec 1 := Scalar.cmpi .sgt v169 c0_i32_58
  let v172 : BitVec 32 := Scalar.extui v171
  let c0_i32_59 : BitVec 32 := 0#32
  let v173 : BitVec 1 := Scalar.cmpi .slt v169 c0_i32_59
  let v174 : BitVec 32 := Scalar.extui v173
  let v175 : BitVec 32 := Scalar.subi v172 v174
  let c2_i32 : BitVec 32 := 2#32
  let c0_i32_60 : BitVec 32 := 0#32
  let v176 : BitVec 1 := Scalar.cmpi .sgt c2_i32 c0_i32_60
  let v177 : BitVec 32 := Scalar.extui v176
  let c0_i32_61 : BitVec 32 := 0#32
  let v178 : BitVec 1 := Scalar.cmpi .slt c2_i32 c0_i32_61
  let v179 : BitVec 32 := Scalar.extui v178
  let v180 : BitVec 32 := Scalar.subi v177 v179
  let v181 : BitVec 1 := Scalar.cmpi .ne v175 v180
  let v182 : BitVec 32 := Scalar.remsi v169 c2_i32
  let c0_i32_62 : BitVec 32 := 0#32
  let v183 : BitVec 1 := Scalar.cmpi .ne v182 c0_i32_62
  let v184 : BitVec 1 := Scalar.andi v181 v183
  let v170 : BitVec 32 := Scalar.divsi v169 c2_i32
  let c1_i32_63 : BitVec 32 := 1#32
  let v185 : BitVec 32 := Scalar.subi v170 c1_i32_63
  let v186 : BitVec 32 := Scalar.select v184 v185 v170
  let v187 : BitVec 32 := Scalar.subi v186 c0_i32_64
  let c1_i32_65 : BitVec 32 := 1#32
  let v189 : BitVec 32 := Scalar.divsi v187 c1_i32_65
  let v190 : BitVec 32 := Scalar.muli v189 c1_i32_65
  let v191 : BitVec 32 := Scalar.addi c0_i32_64 v190
  let c1_i32_66 : BitVec 32 := 1#32
  ⟨c0_i32_64, v191, c1_i32_66⟩
def k0_mult2 (i : grid0.Coords) (k0_t1 : Fin (k0_t1_loop i).trips) : BitVec 32 :=
  let c0_i32_64 : BitVec 32 := 0#32
  let c1_i32_66 : BitVec 32 := 1#32
  let arg8 : BitVec 32 := Scf.iv c0_i32_64 c1_i32_66 k0_t1
  let c512_i32 : BitVec 32 := 512#32
  let v205 : BitVec 32 := Scalar.muli arg8 c512_i32
  v205
def k0_off2 (i : grid0.Coords) (k0_t1 : Fin (k0_t1_loop i).trips) : Fin 3 → Nat :=
  let c0_73 : Index := 0#32
  let c0_i32_64 : BitVec 32 := 0#32
  let c1_i32_66 : BitVec 32 := 1#32
  let arg8 : BitVec 32 := Scf.iv c0_i32_64 c1_i32_66 k0_t1
  let c512_i32 : BitVec 32 := 512#32
  let v205 : BitVec 32 := Scalar.muli arg8 c512_i32
  let v206 : BitVec 32 := v205
  let v207 : Index := Scalar.indexCast v206
  let c0_74 : Index := 0#32
  ![0, v207.toNat, 0]
@[reducible] def k0_t2_loop (i : grid0.Coords) : Scf.Loop 32 :=
  let c0_i32_64 : BitVec 32 := 0#32
  let arg2 : BitVec 32 := BitVec.ofNat 32 (i 2).val
  let c1_i32_57 : BitVec 32 := 1#32
  let v169 : BitVec 32 := Scalar.addi arg2 c1_i32_57
  let c0_i32_58 : BitVec 32 := 0#32
  let v171 : BitVec 1 := Scalar.cmpi .sgt v169 c0_i32_58
  let v172 : BitVec 32 := Scalar.extui v171
  let c0_i32_59 : BitVec 32 := 0#32
  let v173 : BitVec 1 := Scalar.cmpi .slt v169 c0_i32_59
  let v174 : BitVec 32 := Scalar.extui v173
  let v175 : BitVec 32 := Scalar.subi v172 v174
  let c2_i32 : BitVec 32 := 2#32
  let c0_i32_60 : BitVec 32 := 0#32
  let v176 : BitVec 1 := Scalar.cmpi .sgt c2_i32 c0_i32_60
  let v177 : BitVec 32 := Scalar.extui v176
  let c0_i32_61 : BitVec 32 := 0#32
  let v178 : BitVec 1 := Scalar.cmpi .slt c2_i32 c0_i32_61
  let v179 : BitVec 32 := Scalar.extui v178
  let v180 : BitVec 32 := Scalar.subi v177 v179
  let v181 : BitVec 1 := Scalar.cmpi .ne v175 v180
  let v182 : BitVec 32 := Scalar.remsi v169 c2_i32
  let c0_i32_62 : BitVec 32 := 0#32
  let v183 : BitVec 1 := Scalar.cmpi .ne v182 c0_i32_62
  let v184 : BitVec 1 := Scalar.andi v181 v183
  let v170 : BitVec 32 := Scalar.divsi v169 c2_i32
  let c1_i32_63 : BitVec 32 := 1#32
  let v185 : BitVec 32 := Scalar.subi v170 c1_i32_63
  let v186 : BitVec 32 := Scalar.select v184 v185 v170
  let v187 : BitVec 32 := Scalar.subi v186 c0_i32_64
  let c1_i32_65 : BitVec 32 := 1#32
  let v189 : BitVec 32 := Scalar.divsi v187 c1_i32_65
  let v190 : BitVec 32 := Scalar.muli v189 c1_i32_65
  let v191 : BitVec 32 := Scalar.addi c0_i32_64 v190
  let v188 : BitVec 32 := Scalar.addi c0_i32_64 v187
  let c1_i32_67 : BitVec 32 := 1#32
  ⟨v191, v188, c1_i32_67⟩
def k0_mult3 (i : grid0.Coords) (k0_t2 : Fin (k0_t2_loop i).trips) : BitVec 32 :=
  let c0_i32_64 : BitVec 32 := 0#32
  let arg2 : BitVec 32 := BitVec.ofNat 32 (i 2).val
  let c1_i32_57 : BitVec 32 := 1#32
  let v169 : BitVec 32 := Scalar.addi arg2 c1_i32_57
  let c0_i32_58 : BitVec 32 := 0#32
  let v171 : BitVec 1 := Scalar.cmpi .sgt v169 c0_i32_58
  let v172 : BitVec 32 := Scalar.extui v171
  let c0_i32_59 : BitVec 32 := 0#32
  let v173 : BitVec 1 := Scalar.cmpi .slt v169 c0_i32_59
  let v174 : BitVec 32 := Scalar.extui v173
  let v175 : BitVec 32 := Scalar.subi v172 v174
  let c2_i32 : BitVec 32 := 2#32
  let c0_i32_60 : BitVec 32 := 0#32
  let v176 : BitVec 1 := Scalar.cmpi .sgt c2_i32 c0_i32_60
  let v177 : BitVec 32 := Scalar.extui v176
  let c0_i32_61 : BitVec 32 := 0#32
  let v178 : BitVec 1 := Scalar.cmpi .slt c2_i32 c0_i32_61
  let v179 : BitVec 32 := Scalar.extui v178
  let v180 : BitVec 32 := Scalar.subi v177 v179
  let v181 : BitVec 1 := Scalar.cmpi .ne v175 v180
  let v182 : BitVec 32 := Scalar.remsi v169 c2_i32
  let c0_i32_62 : BitVec 32 := 0#32
  let v183 : BitVec 1 := Scalar.cmpi .ne v182 c0_i32_62
  let v184 : BitVec 1 := Scalar.andi v181 v183
  let v170 : BitVec 32 := Scalar.divsi v169 c2_i32
  let c1_i32_63 : BitVec 32 := 1#32
  let v185 : BitVec 32 := Scalar.subi v170 c1_i32_63
  let v186 : BitVec 32 := Scalar.select v184 v185 v170
  let v187 : BitVec 32 := Scalar.subi v186 c0_i32_64
  let c1_i32_65 : BitVec 32 := 1#32
  let v189 : BitVec 32 := Scalar.divsi v187 c1_i32_65
  let v190 : BitVec 32 := Scalar.muli v189 c1_i32_65
  let v191 : BitVec 32 := Scalar.addi c0_i32_64 v190
  let c1_i32_67 : BitVec 32 := 1#32
  let arg8 : BitVec 32 := Scf.iv v191 c1_i32_67 k0_t2
  let c512_i32 : BitVec 32 := 512#32
  let v205 : BitVec 32 := Scalar.muli arg8 c512_i32
  v205
def k0_off3 (i : grid0.Coords) (k0_t2 : Fin (k0_t2_loop i).trips) : Fin 3 → Nat :=
  let c0_73 : Index := 0#32
  let c0_i32_64 : BitVec 32 := 0#32
  let arg2 : BitVec 32 := BitVec.ofNat 32 (i 2).val
  let c1_i32_57 : BitVec 32 := 1#32
  let v169 : BitVec 32 := Scalar.addi arg2 c1_i32_57
  let c0_i32_58 : BitVec 32 := 0#32
  let v171 : BitVec 1 := Scalar.cmpi .sgt v169 c0_i32_58
  let v172 : BitVec 32 := Scalar.extui v171
  let c0_i32_59 : BitVec 32 := 0#32
  let v173 : BitVec 1 := Scalar.cmpi .slt v169 c0_i32_59
  let v174 : BitVec 32 := Scalar.extui v173
  let v175 : BitVec 32 := Scalar.subi v172 v174
  let c2_i32 : BitVec 32 := 2#32
  let c0_i32_60 : BitVec 32 := 0#32
  let v176 : BitVec 1 := Scalar.cmpi .sgt c2_i32 c0_i32_60
  let v177 : BitVec 32 := Scalar.extui v176
  let c0_i32_61 : BitVec 32 := 0#32
  let v178 : BitVec 1 := Scalar.cmpi .slt c2_i32 c0_i32_61
  let v179 : BitVec 32 := Scalar.extui v178
  let v180 : BitVec 32 := Scalar.subi v177 v179
  let v181 : BitVec 1 := Scalar.cmpi .ne v175 v180
  let v182 : BitVec 32 := Scalar.remsi v169 c2_i32
  let c0_i32_62 : BitVec 32 := 0#32
  let v183 : BitVec 1 := Scalar.cmpi .ne v182 c0_i32_62
  let v184 : BitVec 1 := Scalar.andi v181 v183
  let v170 : BitVec 32 := Scalar.divsi v169 c2_i32
  let c1_i32_63 : BitVec 32 := 1#32
  let v185 : BitVec 32 := Scalar.subi v170 c1_i32_63
  let v186 : BitVec 32 := Scalar.select v184 v185 v170
  let v187 : BitVec 32 := Scalar.subi v186 c0_i32_64
  let c1_i32_65 : BitVec 32 := 1#32
  let v189 : BitVec 32 := Scalar.divsi v187 c1_i32_65
  let v190 : BitVec 32 := Scalar.muli v189 c1_i32_65
  let v191 : BitVec 32 := Scalar.addi c0_i32_64 v190
  let c1_i32_67 : BitVec 32 := 1#32
  let arg8 : BitVec 32 := Scf.iv v191 c1_i32_67 k0_t2
  let c512_i32 : BitVec 32 := 512#32
  let v205 : BitVec 32 := Scalar.muli arg8 c512_i32
  let v206 : BitVec 32 := v205
  let v207 : Index := Scalar.indexCast v206
  let c0_74 : Index := 0#32
  ![0, v207.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S32768x512 : Shape := ⟨2, ![32768, 512]⟩
abbrev S128x1x512 : Shape := ⟨3, ![128, 1, 512]⟩
abbrev S4x8192x8x64 : Shape := ⟨4, ![4, 8192, 8, 64]⟩
abbrev S4x8x8192x64 : Shape := ⟨4, ![4, 8, 8192, 64]⟩
abbrev S4x32x8x64 : Shape := ⟨4, ![4, 32, 8, 64]⟩
abbrev S4x8x32x64 : Shape := ⟨4, ![4, 8, 32, 64]⟩
abbrev S32 : Shape := ⟨1, ![32]⟩
abbrev S32x256 : Shape := ⟨2, ![32, 256]⟩
abbrev S8192 : Shape := ⟨1, ![8192]⟩
abbrev S4x8x8192x32 : Shape := ⟨4, ![4, 8, 8192, 32]⟩
abbrev S1x32 : Shape := ⟨2, ![1, 32]⟩
abbrev S8192x1 : Shape := ⟨2, ![8192, 1]⟩
abbrev S8192x32 : Shape := ⟨2, ![8192, 32]⟩
abbrev S_ : Shape := ⟨0, ![]⟩
abbrev S4x8x8192x3 : Shape := ⟨4, ![4, 8, 8192, 3]⟩
abbrev S3 : Shape := ⟨1, ![3]⟩
abbrev S1x3 : Shape := ⟨2, ![1, 3]⟩
abbrev S8192x3 : Shape := ⟨2, ![8192, 3]⟩
abbrev S4x8x8192x3x1 : Shape := ⟨5, ![4, 8, 8192, 3, 1]⟩
abbrev S1x1x1x1x32 : Shape := ⟨5, ![1, 1, 1, 1, 32]⟩
abbrev S4x8x8192x3x32 : Shape := ⟨5, ![4, 8, 8192, 3, 32]⟩
abbrev S8192x3x1 : Shape := ⟨3, ![8192, 3, 1]⟩
abbrev S1x1x8192x3x1 : Shape := ⟨5, ![1, 1, 8192, 3, 1]⟩
abbrev S1x8192 : Shape := ⟨2, ![1, 8192]⟩
abbrev S8192x8192 : Shape := ⟨2, ![8192, 8192]⟩
abbrev S4x8x8192x32x256 : Shape := ⟨5, ![4, 8, 8192, 32, 256]⟩
abbrev S4x8x8192x8192 : Shape := ⟨4, ![4, 8, 8192, 8192]⟩
abbrev S1x1x8192x8192 : Shape := ⟨4, ![1, 1, 8192, 8192]⟩
abbrev S4x8x8192 : Shape := ⟨3, ![4, 8, 8192]⟩
abbrev S4x8x8192x1 : Shape := ⟨4, ![4, 8, 8192, 1]⟩
abbrev S4x8192x512 : Shape := ⟨3, ![4, 8192, 512]⟩

abbrev nBuf : Space → Nat
  | .hbm => 89
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S128x1x512, .f32⟩
  | .hbm, ⟨4, _⟩ => ⟨S4x8192x8x64, .bf16⟩
  | .hbm, ⟨5, _⟩ => ⟨S4x8x8192x64, .bf16⟩
  | .hbm, ⟨6, _⟩ => ⟨S4x8192x8x64, .bf16⟩
  | .hbm, ⟨7, _⟩ => ⟨S4x8x8192x64, .bf16⟩
  | .hbm, ⟨8, _⟩ => ⟨S4x8192x8x64, .bf16⟩
  | .hbm, ⟨9, _⟩ => ⟨S4x8x8192x64, .bf16⟩
  | .hbm, ⟨10, _⟩ => ⟨S4x32x8x64, .f32⟩
  | .hbm, ⟨11, _⟩ => ⟨S4x8x32x64, .f32⟩
  | .hbm, ⟨12, _⟩ => ⟨S32, .i32⟩
  | .hbm, ⟨13, _⟩ => ⟨S32x256, .i32⟩
  | .hbm, ⟨14, _⟩ => ⟨S8192, .i32⟩
  | .hbm, ⟨15, _⟩ => ⟨S4x8x8192x64, .f32⟩
  | .hbm, ⟨16, _⟩ => ⟨S4x8x8192x32, .f32⟩
  | .hbm, ⟨17, _⟩ => ⟨S32, .i32⟩
  | .hbm, ⟨18, _⟩ => ⟨S1x32, .i32⟩
  | .hbm, ⟨19, _⟩ => ⟨S8192x1, .i32⟩
  | .hbm, ⟨20, _⟩ => ⟨S8192x32, .i32⟩
  | .hbm, ⟨21, _⟩ => ⟨S8192x32, .i32⟩
  | .hbm, ⟨22, _⟩ => ⟨S8192x32, .i1⟩
  | .hbm, ⟨23, _⟩ => ⟨S_, .f32⟩
  | .hbm, ⟨24, _⟩ => ⟨S_, .f32⟩
  | .hbm, ⟨25, _⟩ => ⟨S4x8x8192x32, .i1⟩
  | .hbm, ⟨26, _⟩ => ⟨S4x8x8192x32, .f32⟩
  | .hbm, ⟨27, _⟩ => ⟨S4x8x8192x32, .f32⟩
  | .hbm, ⟨28, _⟩ => ⟨S4x8x8192x3, .f32⟩
  | .hbm, ⟨29, _⟩ => ⟨S4x8x8192x3, .i32⟩
  | .hbm, ⟨30, _⟩ => ⟨S3, .i32⟩
  | .hbm, ⟨31, _⟩ => ⟨S1x3, .i32⟩
  | .hbm, ⟨32, _⟩ => ⟨S8192x1, .i32⟩
  | .hbm, ⟨33, _⟩ => ⟨S8192x3, .i32⟩
  | .hbm, ⟨34, _⟩ => ⟨S8192x3, .i32⟩
  | .hbm, ⟨35, _⟩ => ⟨S8192x3, .i1⟩
  | .hbm, ⟨36, _⟩ => ⟨S4x8x8192x3x1, .i32⟩
  | .hbm, ⟨37, _⟩ => ⟨S32, .i32⟩
  | .hbm, ⟨38, _⟩ => ⟨S1x1x1x1x32, .i32⟩
  | .hbm, ⟨39, _⟩ => ⟨S4x8x8192x3x32, .i32⟩
  | .hbm, ⟨40, _⟩ => ⟨S4x8x8192x3x32, .i32⟩
  | .hbm, ⟨41, _⟩ => ⟨S4x8x8192x3x32, .i1⟩
  | .hbm, ⟨42, _⟩ => ⟨S8192x3x1, .i1⟩
  | .hbm, ⟨43, _⟩ => ⟨S1x1x8192x3x1, .i1⟩
  | .hbm, ⟨44, _⟩ => ⟨S4x8x8192x3x32, .i1⟩
  | .hbm, ⟨45, _⟩ => ⟨S4x8x8192x3x32, .i1⟩
  | .hbm, ⟨46, _⟩ => ⟨S_, .i1⟩
  | .hbm, ⟨47, _⟩ => ⟨S4x8x8192x32, .i1⟩
  | .hbm, ⟨48, _⟩ => ⟨S8192x1, .i32⟩
  | .hbm, ⟨49, _⟩ => ⟨S1x8192, .i32⟩
  | .hbm, ⟨50, _⟩ => ⟨S8192x8192, .i32⟩
  | .hbm, ⟨51, _⟩ => ⟨S8192x8192, .i32⟩
  | .hbm, ⟨52, _⟩ => ⟨S8192x8192, .i1⟩
  | .hbm, ⟨53, _⟩ => ⟨S8192, .i32⟩
  | .hbm, ⟨54, _⟩ => ⟨S1x8192, .i32⟩
  | .hbm, ⟨55, _⟩ => ⟨S8192, .i32⟩
  | .hbm, ⟨56, _⟩ => ⟨S8192x1, .i32⟩
  | .hbm, ⟨57, _⟩ => ⟨S8192x8192, .i32⟩
  | .hbm, ⟨58, _⟩ => ⟨S8192x8192, .i32⟩
  | .hbm, ⟨59, _⟩ => ⟨S8192x8192, .i1⟩
  | .hbm, ⟨60, _⟩ => ⟨S8192x8192, .i1⟩
  | .hbm, ⟨61, _⟩ => ⟨S4x8x8192x32x256, .i1⟩
  | .hbm, ⟨62, _⟩ => ⟨S4x8x8192x8192, .i1⟩
  | .hbm, ⟨63, _⟩ => ⟨S1x1x8192x8192, .i1⟩
  | .hbm, ⟨64, _⟩ => ⟨S4x8x8192x8192, .i1⟩
  | .hbm, ⟨65, _⟩ => ⟨S4x8x8192x8192, .i1⟩
  | .hbm, ⟨66, _⟩ => ⟨S4x8x8192x8192, .f32⟩
  | .hbm, ⟨67, _⟩ => ⟨S_, .f32⟩
  | .hbm, ⟨68, _⟩ => ⟨S_, .f32⟩
  | .hbm, ⟨69, _⟩ => ⟨S4x8x8192x8192, .f32⟩
  | .hbm, ⟨70, _⟩ => ⟨S4x8x8192x8192, .f32⟩
  | .hbm, ⟨71, _⟩ => ⟨S_, .f32⟩
  | .hbm, ⟨72, _⟩ => ⟨S4x8x8192, .f32⟩
  | .hbm, ⟨73, _⟩ => ⟨S4x8x8192x1, .f32⟩
  | .hbm, ⟨74, _⟩ => ⟨S4x8x8192x8192, .f32⟩
  | .hbm, ⟨75, _⟩ => ⟨S4x8x8192x8192, .f32⟩
  | .hbm, ⟨76, _⟩ => ⟨S_, .f32⟩
  | .hbm, ⟨77, _⟩ => ⟨S4x8x8192x8192, .f32⟩
  | .hbm, ⟨78, _⟩ => ⟨S4x8x8192x8192, .f32⟩
  | .hbm, ⟨79, _⟩ => ⟨S_, .f32⟩
  | .hbm, ⟨80, _⟩ => ⟨S4x8x8192, .f32⟩
  | .hbm, ⟨81, _⟩ => ⟨S4x8x8192x1, .f32⟩
  | .hbm, ⟨82, _⟩ => ⟨S4x8x8192x8192, .f32⟩
  | .hbm, ⟨83, _⟩ => ⟨S4x8x8192x8192, .f32⟩
  | .hbm, ⟨84, _⟩ => ⟨S4x8x8192x8192, .bf16⟩
  | .hbm, ⟨85, _⟩ => ⟨S4x8x8192x64, .f32⟩
  | .hbm, ⟨86, _⟩ => ⟨S4x8x8192x64, .bf16⟩
  | .hbm, ⟨87, _⟩ => ⟨S4x8192x8x64, .bf16⟩
  | .hbm, ⟨88, _⟩ => ⟨S4x8192x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v19 : Ref sig .tc := ⟨.hbm, 27, rfl⟩
abbrev main_values : Ref sig .tc := ⟨.hbm, 28, rfl⟩
abbrev main_indices : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_0 : Ref sig .tc := ⟨.hbm, 67, rfl⟩
abbrev main_call1_v0 : Ref sig .tc := ⟨.hbm, 68, rfl⟩
abbrev main_call1_v1 : Ref sig .tc := ⟨.hbm, 69, rfl⟩
abbrev main_v56 : Ref sig .tc := ⟨.hbm, 70, rfl⟩
abbrev main_cst_1 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_2 : Ref sig .tc := ⟨.hbm, 76, rfl⟩
abbrev main_v61 : Ref sig .tc := ⟨.hbm, 77, rfl⟩
abbrev main_v62 : Ref sig .tc := ⟨.hbm, 78, rfl⟩
abbrev main_cst_3 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x1x6144 : Shape := ⟨3, ![4, 1, 6144]⟩
abbrev S1x1024 : Shape := ⟨2, ![1, 1024]⟩
abbrev S1x1024x5376 : Shape := ⟨3, ![1, 1024, 5376]⟩
abbrev S32768x1024 : Shape := ⟨2, ![32768, 1024]⟩
abbrev S1024x5376 : Shape := ⟨2, ![1024, 5376]⟩
abbrev S1024 : Shape := ⟨1, ![1024]⟩
abbrev S1024x1536 : Shape := ⟨2, ![1024, 1536]⟩
abbrev S32768x1536 : Shape := ⟨2, ![32768, 1536]⟩
abbrev S512x1024 : Shape := ⟨2, ![512, 1024]⟩
abbrev S1x1x6144 : Shape := ⟨3, ![1, 1, 6144]⟩
abbrev S512x1536 : Shape := ⟨2, ![512, 1536]⟩
abbrev S1x6144 : Shape := ⟨2, ![1, 6144]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S4x1x6144, .f32⟩
  | .hbm, ⟨2, _⟩ => ⟨S1x1024, .f32⟩
  | .hbm, ⟨3, _⟩ => ⟨S1x1024x5376, .f32⟩
  | .hbm, ⟨4, _⟩ => ⟨S32768x1024, .f32⟩
  | .hbm, ⟨5, _⟩ => ⟨S1024x5376, .f32⟩
  | .hbm, ⟨6, _⟩ => ⟨S1024x5376, .bf16⟩
  | .hbm, ⟨7, _⟩ => ⟨S1024, .f32⟩
  | .hbm, ⟨8, _⟩ => ⟨S1x1024, .f32⟩
  | .hbm, ⟨9, _⟩ => ⟨S1024x1536, .bf16⟩
  | .hbm, ⟨10, _⟩ => ⟨S32768x1536, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x1536, .bf16⟩
  | .local _ .vmem, ⟨6, _⟩ => ⟨S512x1536, .f32⟩
  | .local _ .vmem, ⟨7, _⟩ => ⟨S512x1536, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S4x8192x1024 : Shape := ⟨3, ![4, 8192, 1024]⟩
abbrev S4x1x6144 : Shape := ⟨3, ![4, 1, 6144]⟩
abbrev S1x1024 : Shape := ⟨2, ![1, 1024]⟩
abbrev S1x1024x5376 : Shape := ⟨3, ![1, 1024, 5376]⟩
abbrev S4x1x1024 : Shape := ⟨3, ![4, 1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x5376 : Shape := ⟨2, ![1024, 5376]⟩
abbrev S4x8192x5376 : Shape := ⟨3, ![4, 8192, 5376]⟩
abbrev S4x8192x1536 : Shape := ⟨3, ![4, 8192, 1536]⟩
abbrev S32768x1536 : Shape := ⟨2, ![32768, 1536]⟩

abbrev nBuf : Space → Nat
  | .hbm => 38
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x6144, .f32⟩
  | .hbm, ⟨2, _⟩ => ⟨S1x1024, .f32⟩
  | .hbm, ⟨3, _⟩ => ⟨S1x1024x5376, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S1024x5376, .f32⟩
  | .hbm, ⟨35, _⟩ => ⟨S4x8192x5376, .f32⟩
  | .hbm, ⟨36, _⟩ => ⟨S4x8192x1536, .f32⟩
  | .hbm, ⟨37, _⟩ => ⟨S32768x1536, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x1x6144 : Shape := ⟨3, ![4, 1, 6144]⟩
abbrev S1x1024 : Shape := ⟨2, ![1, 1024]⟩
abbrev S1x1024x5376 : Shape := ⟨3, ![1, 1024, 5376]⟩
abbrev S32768x1024 : Shape := ⟨2, ![32768, 1024]⟩
abbrev S1024x5376 : Shape := ⟨2, ![1024, 5376]⟩
abbrev S1024 : Shape := ⟨1, ![1024]⟩
abbrev S1024x1792 : Shape := ⟨2, ![1024, 1792]⟩
abbrev S32768x1792 : Shape := ⟨2, ![32768, 1792]⟩
abbrev S512x1024 : Shape := ⟨2, ![512, 1024]⟩
abbrev S1x1x6144 : Shape := ⟨3, ![1, 1, 6144]⟩
abbrev S512x1792 : Shape := ⟨2, ![512, 1792]⟩
abbrev S1x6144 : Shape := ⟨2, ![1, 6144]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S4x1x6144, .f32⟩
  | .hbm, ⟨2, _⟩ => ⟨S1x1024, .f32⟩
  | .hbm, ⟨3, _⟩ => ⟨S1x1024x5376, .f32⟩
  | .hbm, ⟨4, _⟩ => ⟨S32768x1024, .f32⟩
  | .hbm, ⟨5, _⟩ => ⟨S1024x5376, .f32⟩
  | .hbm, ⟨6, _⟩ => ⟨S1024x5376, .bf16⟩
  | .hbm, ⟨7, _⟩ => ⟨S1024, .f32⟩
  | .hbm, ⟨8, _⟩ => ⟨S1x1024, .f32⟩
  | .hbm, ⟨9, _⟩ => ⟨S1024x1792, .bf16⟩
  | .hbm, ⟨10, _⟩ => ⟨S32768x1792, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x1792, .bf16⟩
  | .local _ .vmem, ⟨6, _⟩ => ⟨S512x1792, .f32⟩
  | .local _ .vmem, ⟨7, _⟩ => ⟨S512x1792, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S4x8192x1024 : Shape := ⟨3, ![4, 8192, 1024]⟩
abbrev S4x1x6144 : Shape := ⟨3, ![4, 1, 6144]⟩
abbrev S1x1024 : Shape := ⟨2, ![1, 1024]⟩
abbrev S1x1024x5376 : Shape := ⟨3, ![1, 1024, 5376]⟩
abbrev S4x1x1024 : Shape := ⟨3, ![4, 1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x5376 : Shape := ⟨2, ![1024, 5376]⟩
abbrev S4x8192x5376 : Shape := ⟨3, ![4, 8192, 5376]⟩
abbrev S4x8192x1792 : Shape := ⟨3, ![4, 8192, 1792]⟩
abbrev S32768x1792 : Shape := ⟨2, ![32768, 1792]⟩

abbrev nBuf : Space → Nat
  | .hbm => 38
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x6144, .f32⟩
  | .hbm, ⟨2, _⟩ => ⟨S1x1024, .f32⟩
  | .hbm, ⟨3, _⟩ => ⟨S1x1024x5376, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S1024x5376, .f32⟩
  | .hbm, ⟨35, _⟩ => ⟨S4x8192x5376, .f32⟩
  | .hbm, ⟨36, _⟩ => ⟨S4x8192x1792, .f32⟩
  | .hbm, ⟨37, _⟩ => ⟨S32768x1792, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x1x6144 : Shape := ⟨3, ![4, 1, 6144]⟩
abbrev S1x1024 : Shape := ⟨2, ![1, 1024]⟩
abbrev S1x1024x5376 : Shape := ⟨3, ![1, 1024, 5376]⟩
abbrev S32768x1024 : Shape := ⟨2, ![32768, 1024]⟩
abbrev S1024x5376 : Shape := ⟨2, ![1024, 5376]⟩
abbrev S1024 : Shape := ⟨1, ![1024]⟩
abbrev S1024x2048 : Shape := ⟨2, ![1024, 2048]⟩
abbrev S32768x2048 : Shape := ⟨2, ![32768, 2048]⟩
abbrev S512x1024 : Shape := ⟨2, ![512, 1024]⟩
abbrev S1x1x6144 : Shape := ⟨3, ![1, 1, 6144]⟩
abbrev S512x2048 : Shape := ⟨2, ![512, 2048]⟩
abbrev S1x6144 : Shape := ⟨2, ![1, 6144]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S4x1x6144, .f32⟩
  | .hbm, ⟨2, _⟩ => ⟨S1x1024, .f32⟩
  | .hbm, ⟨3, _⟩ => ⟨S1x1024x5376, .f32⟩
  | .hbm, ⟨4, _⟩ => ⟨S32768x1024, .f32⟩
  | .hbm, ⟨5, _⟩ => ⟨S1024x5376, .f32⟩
  | .hbm, ⟨6, _⟩ => ⟨S1024x5376, .bf16⟩
  | .hbm, ⟨7, _⟩ => ⟨S1024, .f32⟩
  | .hbm, ⟨8, _⟩ => ⟨S1x1024, .f32⟩
  | .hbm, ⟨9, _⟩ => ⟨S1024x2048, .bf16⟩
  | .hbm, ⟨10, _⟩ => ⟨S32768x2048, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S4x8192x1024 : Shape := ⟨3, ![4, 8192, 1024]⟩
abbrev S4x1x6144 : Shape := ⟨3, ![4, 1, 6144]⟩
abbrev S1x1024 : Shape := ⟨2, ![1, 1024]⟩
abbrev S1x1024x5376 : Shape := ⟨3, ![1, 1024, 5376]⟩
abbrev S4x1x1024 : Shape := ⟨3, ![4, 1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x5376 : Shape := ⟨2, ![1024, 5376]⟩
abbrev S4x8192x5376 : Shape := ⟨3, ![4, 8192, 5376]⟩
abbrev S4x8192x2048 : Shape := ⟨3, ![4, 8192, 2048]⟩
abbrev S32768x2048 : Shape := ⟨2, ![32768, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x6144, .f32⟩
  | .hbm, ⟨2, _⟩ => ⟨S1x1024, .f32⟩
  | .hbm, ⟨3, _⟩ => ⟨S1x1024x5376, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S1024x5376, .f32⟩
  | .hbm, ⟨35, _⟩ => ⟨S4x8192x5376, .f32⟩
  | .hbm, ⟨36, _⟩ => ⟨S4x8192x2048, .f32⟩
  | .hbm, ⟨37, _⟩ => ⟨S32768x2048, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel5.lean ====
abbrev S4x8192x1024 : Shape := ⟨3, ![4, 8192, 1024]⟩
abbrev S4x8192x512 : Shape := ⟨3, ![4, 8192, 512]⟩
abbrev S32768x512 : Shape := ⟨2, ![32768, 512]⟩
abbrev S32768x2048 : Shape := ⟨2, ![32768, 2048]⟩
abbrev S4x1x6144 : Shape := ⟨3, ![4, 1, 6144]⟩
abbrev S1x1024 : Shape := ⟨2, ![1, 1024]⟩
abbrev S1x512x1024 : Shape := ⟨3, ![1, 512, 1024]⟩
abbrev S1x1024x1024 : Shape := ⟨3, ![1, 1024, 1024]⟩
abbrev S1x1024x2048 : Shape := ⟨3, ![1, 1024, 2048]⟩
abbrev S32768x1024 : Shape := ⟨2, ![32768, 1024]⟩
abbrev S1024 : Shape := ⟨1, ![1024]⟩
abbrev S512x1024 : Shape := ⟨2, ![512, 1024]⟩
abbrev S1024x1024 : Shape := ⟨2, ![1024, 1024]⟩
abbrev S1024x2048 : Shape := ⟨2, ![1024, 2048]⟩
abbrev S512x512 : Shape := ⟨2, ![512, 512]⟩
abbrev S512x2048 : Shape := ⟨2, ![512, 2048]⟩
abbrev S1x1x6144 : Shape := ⟨3, ![1, 1, 6144]⟩
abbrev S1x6144 : Shape := ⟨2, ![1, 6144]⟩
abbrev S512 : Shape := ⟨1, ![512]⟩
abbrev S512x1 : Shape := ⟨2, ![512, 1]⟩

abbrev nBuf : Space → Nat
  | .hbm => 25
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S32768x512, .bf16⟩
  | .hbm, ⟨3, _⟩ => ⟨S32768x2048, .f32⟩
  | .hbm, ⟨4, _⟩ => ⟨S4x1x6144, .f32⟩
  | .hbm, ⟨5, _⟩ => ⟨S1x1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024x2048, .f32⟩
  | .hbm, ⟨10, _⟩ => ⟨S32768x1024, .f32⟩
  | .hbm, ⟨11, _⟩ => ⟨S32768x512, .bf16⟩
  | .hbm, ⟨12, _⟩ => ⟨S1024, .f32⟩
  | .hbm, ⟨13, _⟩ => ⟨S1x1024, .f32⟩
  | .hbm, ⟨14, _⟩ => ⟨S512x1024, .f32⟩
  | .hbm, ⟨15, _⟩ => ⟨S512x1024, .bf16⟩
  | .hbm, ⟨16, _⟩ => ⟨S512x1024, .f32⟩
  | .hbm, ⟨17, _⟩ => ⟨S512x1024, .bf16⟩
  | .hbm, ⟨18, _⟩ => ⟨S1024x1024, .f32⟩
  | .hbm, ⟨19, _⟩ => ⟨S1024x1024, .bf16⟩
  | .hbm, ⟨20, _⟩ => ⟨S1024x2048, .f32⟩
  | .hbm, ⟨21, _⟩ => ⟨S1024x2048, .bf16⟩
  | .hbm, ⟨22, _⟩ => ⟨S32768x1024, .f32⟩
  | .hbm, ⟨23, _⟩ => ⟨S32768x1024, .f32⟩
  | .hbm, ⟨24, _⟩ => ⟨S32768x2048, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S1x1x6144, .f32⟩
  | .local _ .vmem, ⟨9, _⟩ => ⟨S1x1x6144, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1024x2048, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x2048, .f32⟩
  | .local _ .vmem, ⟨20, _⟩ => ⟨S512x2048, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S4x8192x1024 : Shape := ⟨3, ![4, 8192, 1024]⟩
abbrev S4x8192x512 : Shape := ⟨3, ![4, 8192, 512]⟩
abbrev S32768x512 : Shape := ⟨2, ![32768, 512]⟩
abbrev S32768x2048 : Shape := ⟨2, ![32768, 2048]⟩
abbrev S4x1x6144 : Shape := ⟨3, ![4, 1, 6144]⟩
abbrev S1x1024 : Shape := ⟨2, ![1, 1024]⟩
abbrev S1x512x1024 : Shape := ⟨3, ![1, 512, 1024]⟩
abbrev S1x1024x1024 : Shape := ⟨3, ![1, 1024, 1024]⟩
abbrev S1x1024x2048 : Shape := ⟨3, ![1, 1024, 2048]⟩
abbrev S4x1x1024 : Shape := ⟨3, ![4, 1, 1024]⟩
abbrev S4x8192x2048 : Shape := ⟨3, ![4, 8192, 2048]⟩
abbrev S_ : Shape := ⟨0, ![]⟩
abbrev S512x1024 : Shape := ⟨2, ![512, 1024]⟩
abbrev S1024x1024 : Shape := ⟨2, ![1024, 1024]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩
abbrev S1024x2048 : Shape := ⟨2, ![1024, 2048]⟩

abbrev nBuf : Space → Nat
  | .hbm => 71
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S32768x512, .bf16⟩
  | .hbm, ⟨3, _⟩ => ⟨S32768x2048, .f32⟩
  | .hbm, ⟨4, _⟩ => ⟨S4x1x6144, .f32⟩
  | .hbm, ⟨5, _⟩ => ⟨S1x1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024x2048, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x8192x512, .f32⟩
  | .hbm, ⟨17, _⟩ => ⟨S4x8192x512, .bf16⟩
  | .hbm, ⟨18, _⟩ => ⟨S4x8192x512, .f32⟩
  | .hbm, ⟨19, _⟩ => ⟨S4x8192x2048, .f32⟩
  | .hbm, ⟨20, _⟩ => ⟨S4x8192x2048, .f32⟩
  | .hbm, ⟨21, _⟩ => ⟨S4x8192x2048, .f32⟩
  | .hbm, ⟨22, _⟩ => ⟨S_, .f32⟩
  | .hbm, ⟨23, _⟩ => ⟨S4x8192x2048, .f32⟩
  | .hbm, ⟨24, _⟩ => ⟨S4x8192x2048, .f32⟩
  | .hbm, ⟨25, _⟩ => ⟨S_, .f32⟩
  | .hbm, ⟨26, _⟩ => ⟨S4x8192x2048, .f32⟩
  | .hbm, ⟨27, _⟩ => ⟨S4x8192x2048, .f32⟩
  | .hbm, ⟨28, _⟩ => ⟨S4x8192x1024, .f32⟩
  | .hbm, ⟨29, _⟩ => ⟨S4x8192x1024, .f32⟩
  | .hbm, ⟨30, _⟩ => ⟨S512x1024, .f32⟩
  | .hbm, ⟨31, _⟩ => ⟨S4x8192x1024, .f32⟩
  | .hbm, ⟨32, _⟩ => ⟨S4x8192x1024, .f32⟩
  | .hbm, ⟨33, _⟩ => ⟨S512x1024, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S1024x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S1024, .f32⟩
  | .hbm, ⟨43, _⟩ => ⟨S4x8192x1024, .f32⟩
  | .hbm, ⟨44, _⟩ => ⟨S_, .f32⟩
  | .hbm, ⟨45, _⟩ => ⟨S4x8192, .f32⟩
  | .hbm, ⟨46, _⟩ => ⟨S4x8192x1, .f32⟩
  | .hbm, ⟨47, _⟩ => ⟨S_, .f32⟩
  | .hbm, ⟨48, _⟩ => ⟨S4x8192x1, .f32⟩
  | .hbm, ⟨49, _⟩ => ⟨S4x8192x1, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S4x8192x1, .f32⟩
  | .hbm, ⟨54, _⟩ => ⟨S4x8192x1024, .f32⟩
  | .hbm, ⟨55, _⟩ => ⟨S4x8192x1024, .f32⟩
  | .hbm, ⟨56, _⟩ => ⟨S1x1x1024, .f32⟩
  | .hbm, ⟨57, _⟩ => ⟨S4x8192x1024, .f32⟩
  | .hbm, ⟨58, _⟩ => ⟨S4x8192x1024, .f32⟩
  | .hbm, ⟨59, _⟩ => ⟨S_, .f32⟩
  | .hbm, ⟨60, _⟩ => ⟨S4x1x1024, .f32⟩
  | .hbm, ⟨61, _⟩ => ⟨S4x1x1024, .f32⟩
  | .hbm, ⟨62, _⟩ => ⟨S4x8192x1024, .f32⟩
  | .hbm, ⟨63, _⟩ => ⟨S4x8192x1024, .f32⟩
  | .hbm, ⟨64, _⟩ => ⟨S4x8192x1024, .f32⟩
  | .hbm, ⟨65, _⟩ => ⟨S4x8192x1024, .f32⟩
  | .hbm, ⟨66, _⟩ => ⟨S32768x1024, .f32⟩
  | .hbm, ⟨67, _⟩ => ⟨S1024x2048, .f32⟩
  | .hbm, ⟨68, _⟩ => ⟨S32768x2048, .f32⟩
  | .hbm, ⟨69, _⟩ => ⟨S32768x1024, .f32⟩
  | .hbm, ⟨70, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== Kernel6.lean ====
abbrev S4x1024 : Shape := ⟨2, ![4, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S4x6144 : Shape := ⟨2, ![4, 6144]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S4x6144, .f32⟩
  | .local _ .vmem, ⟨0, _⟩ => ⟨S4x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S4x1024 : Shape := ⟨2, ![4, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S4x6144 : Shape := ⟨2, ![4, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1x1024x6144, .f32⟩
  | .hbm, ⟨2, _⟩ => ⟨S1x6144, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4x1024, .f32⟩
  | .hbm, ⟨7, _⟩ => ⟨S4x1024, .f32⟩
  | .hbm, ⟨8, _⟩ => ⟨S_, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S1024x6144, .f32⟩
  | .hbm, ⟨13, _⟩ => ⟨S4x6144, .f32⟩
  | .hbm, ⟨14, _⟩ => ⟨S6144, .f32⟩
  | .hbm, ⟨15, _⟩ => ⟨S1x6144, .f32⟩
  | .hbm, ⟨16, _⟩ => ⟨S4x6144, .f32⟩
  | .hbm, ⟨17, _⟩ => ⟨S4x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel7.lean ====
abbrev S32768x1792 : Shape := ⟨2, ![32768, 1792]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x8x64 : Shape := ⟨3, ![1, 8, 64]⟩
abbrev S1792 : Shape := ⟨1, ![1792]⟩
abbrev S512 : Shape := ⟨1, ![512]⟩
abbrev S64x512 : Shape := ⟨2, ![64, 512]⟩
abbrev S_ : Shape := ⟨0, ![]⟩
abbrev S128x512 : Shape := ⟨2, ![128, 512]⟩
abbrev S32768x512 : Shape := ⟨2, ![32768, 512]⟩
abbrev S512x1792 : Shape := ⟨2, ![512, 1792]⟩
abbrev S8x1792 : Shape := ⟨2, ![8, 1792]⟩
abbrev S512x512 : Shape := ⟨2, ![512, 512]⟩
abbrev S512x1 : Shape := ⟨2, ![512, 1]⟩
abbrev S512x128 : Shape := ⟨2, ![512, 128]⟩

abbrev nBuf : Space → Nat
  | .hbm => 40
  | .vmem => 29
  | .smem => 0
  | _ => 0

abbrev bufTy : (tb : Table) → Fin (tcTables nBuf tb) → BufTy
  | .hbm, ⟨0, _⟩ => ⟨S32768x1792, .f32⟩
  | .hbm, ⟨1, _⟩ => ⟨S1x1792, .f32⟩
  | .hbm, ⟨2, _⟩ => ⟨S1x512, .f32⟩
  | .hbm, ⟨3, _⟩ => ⟨S1x64x512, .f32⟩
  | .hbm, ⟨4, _⟩ => ⟨S1x512, .f32⟩
  | .hbm, ⟨5, _⟩ => ⟨S1x64x512, .f32⟩
  | .hbm, ⟨6, _⟩ => ⟨S1x128x512, .f32⟩
  | .hbm, ⟨7, _⟩ => ⟨S1x512, .f32⟩
  | .hbm, ⟨8, _⟩ => ⟨S1x512, .f32⟩
  | .hbm, ⟨9, _⟩ => ⟨S1x8x64, .f32⟩
  | .hbm, ⟨10, _⟩ => ⟨S1792, .f32⟩
  | .hbm, ⟨11, _⟩ => ⟨S1x1792, .f32⟩
  | .hbm, ⟨12, _⟩ => ⟨S512, .f32⟩
  | .hbm, ⟨13, _⟩ => ⟨S1x512, .f32⟩
  | .hbm, ⟨14, _⟩ => ⟨S64x512, .f32⟩
  | .hbm, ⟨15, _⟩ => ⟨S_, .f32⟩
  | .hbm, ⟨16, _⟩ => ⟨S64x512, .f32⟩
  | .hbm, ⟨17, _⟩ => ⟨S128x512, .f32⟩
  | .hbm, ⟨18, _⟩ => ⟨S512, .f32⟩
  | .hbm, ⟨19, _⟩ => ⟨S1x512, .f32⟩
  | .hbm, ⟨20, _⟩ => ⟨S64x512, .f32⟩
  | .hbm, ⟨21, _⟩ => ⟨S_, .f32⟩
  | .hbm, ⟨22, _⟩ => ⟨S64x512, .f32⟩
  | .hbm, ⟨23, _⟩ => ⟨S128x512, .f32⟩
  | .hbm, ⟨24, _⟩ => ⟨S128x512, .f32⟩
  | .hbm, ⟨25, _⟩ => ⟨S512, .f32⟩
  | .hbm, ⟨26, _⟩ => ⟨S1x512, .f32⟩
  | .hbm, ⟨27, _⟩ => ⟨S512, .f32⟩
  | .hbm, ⟨28, _⟩ => ⟨S1x512, .f32⟩
  | .hbm, ⟨29, _⟩ => ⟨S1x512, .f32⟩
  | .hbm, ⟨30, _⟩ => ⟨S512, .f32⟩
  | .hbm, ⟨31, _⟩ => ⟨S1x512, .f32⟩
  | .hbm, ⟨32, _⟩ => ⟨S32768x512, .f32⟩
  | .hbm, ⟨33, _⟩ => ⟨S32768x512, .f32⟩
  | .hbm, ⟨34, _⟩ => ⟨S32768x512, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S32768x512, .f32⟩
  | .hbm, ⟨39, _⟩ => ⟨S32768x512, .f32⟩
  | .local _ .vmem, ⟨0, _⟩ => ⟨S512x1792, .f32⟩
  | .local _ .vmem, ⟨1, _⟩ => ⟨S512x1792, .f32⟩
  | .local _ .vmem, ⟨2, _⟩ => ⟨S8x1792, .f32⟩
  | .local _ .vmem, ⟨3, _⟩ => ⟨S8x1792, .f32⟩
  | .local _ .vmem, ⟨4, _⟩ => ⟨S1x1792, .f32⟩
  | .local _ .vmem, ⟨5, _⟩ => ⟨S1x512, .f32⟩
  | .local _ .vmem, ⟨6, _⟩ => ⟨S128x512, .f32⟩
  | .local _ .vmem, ⟨7, _⟩ => ⟨S1x512, .f32⟩
  | .local _ .vmem, ⟨8, _⟩ => ⟨S128x512, .f32⟩
  | .local _ .vmem, ⟨9, _⟩ => ⟨S128x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | _, _ => ⟨S32768x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v20_3 : Ref sig .tc := ⟨.hbm, 35, rfl⟩
abbrev main_v20_4 : Ref sig .tc := ⟨.hbm, 36, rfl⟩
abbrev main_v20_5 : Ref sig .tc := ⟨.hbm, 37, rfl⟩
abbrev main_v20_6 : Ref sig .tc := ⟨.hbm, 38, rfl⟩
abbrev main_v20_7 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference7Ideal.lean ====
abbrev S32768x1792 : Shape := ⟨2, ![32768, 1792]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x8x64 : Shape := ⟨3, ![1, 8, 64]⟩
abbrev S4x8192x1792 : Shape := ⟨3, ![4, 8192, 1792]⟩
abbrev S1792 : Shape := ⟨1, ![1792]⟩
abbrev S_ : Shape := ⟨0, ![]⟩
abbrev S4x8193x1792 : Shape := ⟨3, ![4, 8193, 1792]⟩
abbrev S1x1x1792 : Shape := ⟨3, ![1, 1, 1792]⟩
abbrev S4x8192x512 : Shape := ⟨3, ![4, 8192, 512]⟩
abbrev S4x8192x64 : Shape := ⟨3, ![4, 8192, 64]⟩
abbrev S4x8192x128 : Shape := ⟨3, ![4, 8192, 128]⟩
abbrev S512 : Shape := ⟨1, ![512]⟩
abbrev S64x512 : Shape := ⟨2, ![64, 512]⟩
abbrev S1x1x512 : Shape := ⟨3, ![1, 1, 512]⟩
abbrev S128x512 : Shape := ⟨2, ![128, 512]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S8x64 : Shape := ⟨2, ![8, 64]⟩
abbrev S1x1x8x64 : Shape := ⟨4, ![1, 1, 8, 64]⟩
abbrev S32768x512 : Shape := ⟨2, ![32768, 512]⟩

abbrev nBuf : Space → Nat
  | .hbm => 128
  | .vmem => 0
  | .smem => 0
  | _ => 0

abbrev bufTy : (tb : Table) → Fin (tcTables nBuf tb) → BufTy
  | .hbm, ⟨0, _⟩ => ⟨S32768x1792, .f32⟩
  | .hbm, ⟨1, _⟩ => ⟨S1x1792, .f32⟩
  | .hbm, ⟨2, _⟩ => ⟨S1x512, .f32⟩
  | .hbm, ⟨3, _⟩ => ⟨S1x64x512, .f32⟩
  | .hbm, ⟨4, _⟩ => ⟨S1x512, .f32⟩
  | .hbm, ⟨5, _⟩ => ⟨S1x64x512, .f32⟩
  | .hbm, ⟨6, _⟩ => ⟨S1x128x512, .f32⟩
  | .hbm, ⟨7, _⟩ => ⟨S1x512, .f32⟩
  | .hbm, ⟨8, _⟩ => ⟨S1x512, .f32⟩
  | .hbm, ⟨9, _⟩ => ⟨S1x8x64, .f32⟩
  | .hbm, ⟨10, _⟩ => ⟨S4x8192x1792, .f32⟩
  | .hbm, ⟨11, _⟩ => ⟨S1792, .f32⟩
  | .hbm, ⟨12, _⟩ => ⟨S_, .i32⟩
  | .hbm, ⟨13, _⟩ => ⟨S_, .f32⟩
  | .hbm, ⟨14, _⟩ => ⟨S4x8193x1792, .f32⟩
  | .hbm, ⟨15, _⟩ => ⟨S4x8192x1792, .f32⟩
  | .hbm, ⟨16, _⟩ => ⟨S4x8192x1792, .f32⟩
  | .hbm, ⟨17, _⟩ => ⟨S1x1x1792, .f32⟩
  | .hbm, ⟨18, _⟩ => ⟨S4x8192x1792, .f32⟩
  | .hbm, ⟨19, _⟩ => ⟨S4x8192x1792, .f32⟩
  | .hbm, ⟨20, _⟩ => ⟨S4x8192x1792, .f32⟩
  | .hbm, ⟨21, _⟩ => ⟨S4x8192x512, .f32⟩
  | .hbm, ⟨22, _⟩ => ⟨S4x8192x512, .f32⟩
  | .hbm, ⟨23, _⟩ => ⟨S4x8192x512, .f32⟩
  | .hbm, ⟨24, _⟩ => ⟨S4x8192x64, .f32⟩
  | .hbm, ⟨25, _⟩ => ⟨S4x8192x64, .f32⟩
  | .hbm, ⟨26, _⟩ => ⟨S4x8192x128, .f32⟩
  | .hbm, ⟨27, _⟩ => ⟨S512, .f32⟩
  | .hbm, ⟨28, _⟩ => ⟨S4x8192x64, .f32⟩
  | .hbm, ⟨29, _⟩ => ⟨S64x512, .f32⟩
  | .hbm, ⟨30, _⟩ => ⟨S4x8192x512, .f32⟩
  | .hbm, ⟨31, _⟩ => ⟨S1x1x512, .f32⟩
  | .hbm, ⟨32, _⟩ => ⟨S4x8192x512, .f32⟩
  | .hbm, ⟨33, _⟩ => ⟨S4x8192x512, .f32⟩
  | .hbm, ⟨34, _⟩ => ⟨S4x8192x512, .f32⟩
  | .hbm, ⟨35, _⟩ => ⟨S_, .f32⟩
  | .hbm, ⟨36, _⟩ => ⟨S4x8192x512, .f32⟩
  | .hbm, ⟨37, _⟩ => ⟨S4x8192x512, .f32⟩
  | .hbm, ⟨38, _⟩ => ⟨S4x8192x512, .f32⟩
  | .hbm, ⟨39, _⟩ => ⟨S4x8192x512, .f32⟩
  | .hbm, ⟨40, _⟩ => ⟨S4x8192x512, .i1⟩
  | .hbm, ⟨41, _⟩ => ⟨S4x8192x512, .f32⟩
  | .hbm, ⟨42, _⟩ => ⟨S4x8192x512, .f32⟩
  | .hbm, ⟨43, _⟩ => ⟨S4x8192x512, .f32⟩
  | .hbm, ⟨44, _⟩ => ⟨S4x8192x512, .f32⟩
  | .hbm, ⟨45, _⟩ => ⟨S4x8192x512, .f32⟩
  | .hbm, ⟨46, _⟩ => ⟨S4x8192x512, .f32⟩
  | .hbm, ⟨47, _⟩ => ⟨S4x8192x512, .f32⟩
  | .hbm, ⟨48, _⟩ => ⟨S4x8192x512, .f32⟩
  | .hbm, ⟨49, _⟩ => ⟨S4x8192x512, .f32⟩
  | .hbm, ⟨50, _⟩ => ⟨S_, .f32⟩
  | .hbm, ⟨51, _⟩ => ⟨S4x8192x512, .f32⟩
  | .hbm, ⟨52, _⟩ => ⟨S4x8192x512, .f32⟩
  | .hbm, ⟨53, _⟩ => ⟨S512, .f32⟩
  | .hbm, ⟨54, _⟩ => ⟨S64x512, .f32⟩
  | .hbm, ⟨55, _⟩ => ⟨S4x8192x512, .f32⟩
  | .hbm, ⟨56, _⟩ => ⟨S1x1x512, .f32⟩
  | .hbm, ⟨57, _⟩ => ⟨S4x8192x512, .f32⟩
  | .hbm, ⟨58, _⟩ => ⟨S4x8192x512, .f32⟩
  | .hbm, ⟨59, _⟩ => ⟨S4x8192x512, .f32⟩
  | .hbm, ⟨60, _⟩ => ⟨S4x8192x512, .f32⟩
  | .hbm, ⟨61, _⟩ => ⟨S_, .f32⟩
  | .hbm, ⟨62, _⟩ => ⟨S4x8192x512, .f32⟩
  | .hbm, ⟨63, _⟩ => ⟨S4x8192x512, .f32⟩
  | .hbm, ⟨64, _⟩ => ⟨S_, .f32⟩
  | .hbm, ⟨65, _⟩ => ⟨S4x8192x512, .f32⟩
  | .hbm, ⟨66, _⟩ => ⟨S4x8192x512, .f32⟩
  | .hbm, ⟨67, _⟩ => ⟨S4x8192x128, .f32⟩
  | .hbm, ⟨68, _⟩ => ⟨S4x8192x128, .f32⟩
  | .hbm, ⟨69, _⟩ => ⟨S_, .f32⟩
  | .hbm, ⟨70, _⟩ => ⟨S4x8192x128, .f32⟩
  | .hbm, ⟨71, _⟩ => ⟨S4x8192x128, .f32⟩
  | .hbm, ⟨72, _⟩ => ⟨S_, .f32⟩
  | .hbm, ⟨73, _⟩ => ⟨S4x8192x128, .f32⟩
  | .hbm, ⟨74, _⟩ => ⟨S4x8192x128, .f32⟩
  | .hbm, ⟨75, _⟩ => ⟨S128x512, .f32⟩
  | .hbm, ⟨76, _⟩ => ⟨S4x8192x512, .f32⟩
  | .hbm, ⟨77, _⟩ => ⟨S512, .f32⟩
  | .hbm, ⟨78, _⟩ => ⟨S1x1x512, .f32⟩
  | .hbm, ⟨79, _⟩ => ⟨S4x8192x512, .f32⟩
  | .hbm, ⟨80, _⟩ => ⟨S4x8192x512, .f32⟩
  | .hbm, ⟨81, _⟩ => ⟨S4x8192x8x64, .f32⟩
  | .hbm, ⟨82, _⟩ => ⟨S4x8192x8x64, .f32⟩
  | .hbm, ⟨83, _⟩ => ⟨S_, .f32⟩
  | .hbm, ⟨84, _⟩ => ⟨S4x8192x8, .f32⟩
  | .hbm, ⟨85, _⟩ => ⟨S4x8192x8x1, .f32⟩
  | .hbm, ⟨86, _⟩ => ⟨S4x8192x8x1, .f32⟩
  | .hbm, ⟨87, _⟩ => ⟨S_, .f32⟩
  | .hbm, ⟨88, _⟩ => ⟨S4x8192x8x1, .f32⟩
  | .hbm, ⟨89, _⟩ => ⟨S4x8192x8x1, .f32⟩
  | .hbm, ⟨90, _⟩ => ⟨S4x8192x8x64, .f32⟩
  | .hbm, ⟨91, _⟩ => ⟨S4x8192x8x64, .f32⟩
  | .hbm, ⟨92, _⟩ => ⟨S_, .f32⟩
  | .hbm, ⟨93, _⟩ => ⟨S4x8192x512, .f32⟩
  | .hbm, ⟨94, _⟩ => ⟨S4x8192x512, .f32⟩
  | .hbm, ⟨95, _⟩ => ⟨S512, .f32⟩
  | .hbm, ⟨96, _⟩ => ⟨S1x1x512, .f32⟩
  | .hbm, ⟨97, _⟩ => ⟨S4x8192x512, .f32⟩
  | .hbm, ⟨98, _⟩ => ⟨S4x8192x512, .f32⟩
  | .hbm, ⟨99, _⟩ => ⟨S_, .f32⟩
  | .hbm, ⟨100, _⟩ => ⟨S4x8192x512, .f32⟩
  | .hbm, ⟨101, _⟩ => ⟨S4x8192x512, .f32⟩
  | .hbm, ⟨102, _⟩ => ⟨S4x8192x512, .f32⟩
  | .hbm, ⟨103, _⟩ => ⟨S4x8192x8x64, .f32⟩
  | .hbm, ⟨104, _⟩ => ⟨S4x8192x8x64, .f32⟩
  | .hbm, ⟨105, _⟩ => ⟨S4x8192x8x64, .f32⟩
  | .hbm, ⟨106, _⟩ => ⟨S4x8192x8x64, .f32⟩
  | .hbm, ⟨107, _⟩ => ⟨S4x8192x8x64, .f32⟩
  | .hbm, ⟨108, _⟩ => ⟨S8x64, .f32⟩
  | .hbm, ⟨109, _⟩ => ⟨S1x1x8x64, .f32⟩
  | .hbm, ⟨110, _⟩ => ⟨S4x8192x8x64, .f32⟩
  | .hbm, ⟨111, _⟩ => ⟨S4x8192x8x64, .f32⟩
  | .hbm, ⟨112, _⟩ => ⟨S_, .f32⟩
  | .hbm, ⟨113, _⟩ => ⟨S4x8192x8, .f32⟩
  | .hbm, ⟨114, _⟩ => ⟨S4x8192x8x1, .f32⟩
  | .hbm, ⟨115, _⟩ => ⟨S4x8192x8x64, .f32⟩
  | .hbm, ⟨116, _⟩ => ⟨S4x8192x8x64, .f32⟩
  | .hbm, ⟨117, _⟩ => ⟨S32768x512, .f32⟩
  | .hbm, ⟨118, _⟩ => ⟨S4x8192x512, .f32⟩
  | .hbm, ⟨119, _⟩ => ⟨S4x8192x512, .f32⟩
  | .hbm, ⟨120, _⟩ => ⟨S32768x512, .f32⟩
  | .hbm, ⟨121, _⟩ => ⟨S32768x512, .f32⟩
  | .hbm, ⟨122, _⟩ => ⟨S32768x512, .f32⟩
  | .hbm, ⟨123, _⟩ => ⟨S32768x512, .f32⟩
  | .hbm, ⟨124, _⟩ => ⟨S4x8192x8x64, .f32⟩
  | .hbm, ⟨125, _⟩ => ⟨S32768x512, .f32⟩
  | .hbm, ⟨126, _⟩ => ⟨S32768x512, .f32⟩
  | .hbm, ⟨127, _⟩ => ⟨S32768x512, .f32⟩
  | _, _ => ⟨S32768x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_v23 : Ref sig .tc := ⟨.hbm, 48, rfl⟩
abbrev main_v24 : Ref sig .tc := ⟨.hbm, 49, rfl⟩
abbrev main_cst : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_0 : Ref sig .tc := ⟨.hbm, 61, rfl⟩
abbrev main_v35 : Ref sig .tc := ⟨.hbm, 62, rfl⟩
abbrev main_v36 : Ref sig .tc := ⟨.hbm, 63, rfl⟩
abbrev main_cst_1 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_2 : Ref sig .tc := ⟨.hbm, 69, rfl⟩
abbrev main_v41 : Ref sig .tc := ⟨.hbm, 70, rfl⟩
abbrev main_v42 : Ref sig .tc := ⟨.hbm, 71, rfl⟩
abbrev main_cst_3 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_4 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_5 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_6 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_7 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_8 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩

abbrev nD : Nat := 1
abbrev τ : Topo := Topo.v7x

variable {F : FTy → Type} [FloatOps F]
-- ==== Kernel8.lean ====
abbrev S32768x1536 : Shape := ⟨2, ![32768, 1536]⟩
abbrev S4x8192 : Shape := ⟨2, ![4, 8192]⟩
abbrev S1x64 : Shape := ⟨2, ![1, 64]⟩
abbrev S128 : Shape := ⟨1, ![128]⟩
abbrev S32768x1 : Shape := ⟨2, ![32768, 1]⟩
abbrev S64 : Shape := ⟨1, ![64]⟩
abbrev S8x64 : Shape := ⟨2, ![8, 64]⟩
abbrev S512 : Shape := ⟨1, ![512]⟩
abbrev S1x512 : Shape := ⟨2, ![1, 512]⟩
abbrev S8 : Shape := ⟨1, ![8]⟩
abbrev S_ : Shape := ⟨0, ![]⟩
abbrev S128x1 : Shape := ⟨2, ![128, 1]⟩
abbrev S1x128 : Shape := ⟨2, ![1, 128]⟩
abbrev S32768x512 : Shape := ⟨2, ![32768, 512]⟩
abbrev S128x1x512 : Shape := ⟨3, ![128, 1, 512]⟩
abbrev S256x1536 : Shape := ⟨2, ![256, 1536]⟩
abbrev S256x1 : Shape := ⟨2, ![256, 1]⟩
abbrev S256x512 : Shape := ⟨2, ![256, 512]⟩
abbrev S1x1x512 : Shape := ⟨3, ![1, 1, 512]⟩
abbrev S512x512 : Shape := ⟨2, ![512, 512]⟩
abbrev S256x128 : Shape := ⟨2, ![256, 128]⟩

abbrev nBuf : Space → Nat
  | .hbm => 44
  | .vmem => 15
  | .smem => 0
  | _ => 0

abbrev bufTy : (tb : Table) → Fin (tcTables nBuf tb) → BufTy
  | .hbm, ⟨0, _⟩ => ⟨S32768x1536, .f32⟩
  | .hbm, ⟨1, _⟩ => ⟨S4x8192, .i32⟩
  | .hbm, ⟨2, _⟩ => ⟨S1x64, .f32⟩
  | .hbm, ⟨3, _⟩ => ⟨S1x64, .f32⟩
  | .hbm, ⟨4, _⟩ => ⟨S128, .i32⟩
  | .hbm, ⟨5, _⟩ => ⟨S128, .i1⟩
  | .hbm, ⟨6, _⟩ => ⟨S128, .i1⟩
  | .hbm, ⟨7, _⟩ => ⟨S32768x1, .i32⟩
  | .hbm, ⟨8, _⟩ => ⟨S64, .f32⟩
  | .hbm, ⟨9, _⟩ => ⟨S1x64, .f32⟩
  | .hbm, ⟨10, _⟩ => ⟨S8x64, .f32⟩
  | .hbm, ⟨11, _⟩ => ⟨S512, .f32⟩
  | .hbm, ⟨12, _⟩ => ⟨S1x512, .f32⟩
  | .hbm, ⟨13, _⟩ => ⟨S64, .f32⟩
  | .hbm, ⟨14, _⟩ => ⟨S1x64, .f32⟩
  | .hbm, ⟨15, _⟩ => ⟨S8x64, .f32⟩
  | .hbm, ⟨16, _⟩ => ⟨S512, .f32⟩
  | .hbm, ⟨17, _⟩ => ⟨S1x512, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S128x1, .i32⟩
  | .hbm, ⟨34, _⟩ => ⟨S128, .f32⟩
  | .hbm, ⟨35, _⟩ => ⟨S_, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S1x128, .f32⟩
  | .hbm, ⟨40, _⟩ => ⟨S32768x512, .bf16⟩
  | .hbm, ⟨41, _⟩ => ⟨S32768x512, .bf16⟩
  | .hbm, ⟨42, _⟩ => ⟨S32768x512, .bf16⟩
  | .hbm, ⟨43, _⟩ => ⟨S128x1x512, .f32⟩
  | .local _ .vmem, ⟨0, _⟩ => ⟨S256x1536, .f32⟩
  | .local _ .vmem, ⟨1, _⟩ => ⟨S256x1536, .f32⟩
  | .local _ .vmem, ⟨2, _⟩ => ⟨S256x1, .i32⟩
  | .local _ .vmem, ⟨3, _⟩ => ⟨S256x1, .i32⟩
  | .local _ .vmem, ⟨4, _⟩ => ⟨S1x512, .f32⟩
  | .local _ .vmem, ⟨5, _⟩ => ⟨S1x512, .f32⟩
  | .local _ .vmem, ⟨6, _⟩ => ⟨S1x128, .f32⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S1x1x512, .f32⟩
  | .local _ .vmem, ⟨14, _⟩ => ⟨S1x1x512, .f32⟩
  | _, _ => ⟨S32768x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v26_2 : Ref sig .tc := ⟨.hbm, 42, rfl⟩
abbrev main_v26_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S32768x1536 : Shape := ⟨2, ![32768, 1536]⟩
abbrev S4x8192 : Shape := ⟨2, ![4, 8192]⟩
abbrev S1x64 : Shape := ⟨2, ![1, 64]⟩
abbrev S32768x512 : Shape := ⟨2, ![32768, 512]⟩
abbrev S4x8192x8x64 : Shape := ⟨4, ![4, 8192, 8, 64]⟩
abbrev S64 : Shape := ⟨1, ![64]⟩
abbrev S_ : Shape := ⟨0, ![]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S8 : Shape := ⟨1, ![8]⟩
abbrev S4x8192x1 : Shape := ⟨3, ![4, 8192, 1]⟩
abbrev S1x1x8 : Shape := ⟨3, ![1, 1, 8]⟩
abbrev S4x8192x1x8 : Shape := ⟨4, ![4, 8192, 1, 8]⟩
abbrev S4x8192x8x8 : Shape := ⟨4, ![4, 8192, 8, 8]⟩
abbrev S4x8192x8x48 : Shape := ⟨4, ![4, 8192, 8, 48]⟩
abbrev S4x32x256x8x64 : Shape := ⟨5, ![4, 32, 256, 8, 64]⟩
abbrev S4x32x8x64 : Shape := ⟨4, ![4, 32, 8, 64]⟩
abbrev S128x1x512 : Shape := ⟨3, ![128, 1, 512]⟩

abbrev nBuf : Space → Nat
  | .hbm => 130
  | .vmem => 0
  | .smem => 0
  | _ => 0

abbrev hbmTy0_0 (i : Nat) : BufTy := match i % 128 with
  | 0 => ⟨S32768x1536, .f32⟩
  | 1 => ⟨S4x8192, .i32⟩
  | 2 => ⟨S1x64, .f32⟩
  | 3 => ⟨S1x64, .f32⟩
  | 4 => ⟨S32768x512, .f32⟩
  | 5 => ⟨S32768x512, .f32⟩
  | 6 => ⟨S32768x512, .f32⟩
  | 7 => ⟨S4x8192x8x64, .f32⟩
  | 8 => ⟨S4x8192x8x64, .f32⟩
  | 9 => ⟨S4x8192x8x64, .f32⟩
  | 10 => ⟨S64, .f32⟩
  | 11 => ⟨S4x8192x8x64, .f32⟩
  | 12 => ⟨S_, .f32⟩
  | 13 => ⟨S4x8192x8, .f32⟩
  | 14 => ⟨S4x8192x8x1, .f32⟩
  | 15 => ⟨S_, .f32⟩
  | 16 => ⟨S4x8192x8x1, .f32⟩
  | 17 => ⟨S4x8192x8x1, .f32⟩
  | 18 => ⟨S_, .f32⟩
  | 19 => ⟨S4x8192x8x1, .f32⟩
  | 20 => ⟨S4x8192x8x1, .f32⟩
  | 21 => ⟨S4x8192x8x1, .f32⟩
  | 22 => ⟨S4x8192x8x64, .f32⟩
  | 23 => ⟨S4x8192x8x64, .f32⟩
  | 24 => ⟨S1x1x1x64, .f32⟩
  | 25 => ⟨S4x8192x8x64, .f32⟩
  | 26 => ⟨S4x8192x8x64, .f32⟩
  | 27 => ⟨S8, .f32⟩
  | 28 => ⟨S_, .f32⟩
  | 29 => ⟨S8, .f32⟩
  | 30 => ⟨S8, .f32⟩
  | 31 => ⟨S8, .f32⟩
  | 32 => ⟨S_, .f32⟩
  | 33 => ⟨S8, .f32⟩
  | 34 => ⟨S8, .f32⟩
  | 35 => ⟨S_, .f32⟩
  | 36 => ⟨S8, .f32⟩
  | 37 => ⟨S8, .f32⟩
  | 38 => ⟨S4x8192, .f32⟩
  | 39 => ⟨S4x8192x1, .f32⟩
  | 40 => ⟨S1x1x8, .f32⟩
  | 41 => ⟨S4x8192x8, .f32⟩
  | 42 => ⟨S4x8192x8, .f32⟩
  | 43 => ⟨S4x8192x8, .f32⟩
  | 44 => ⟨S4x8192x8, .f32⟩
  | 45 => ⟨S4x8192x1x8, .f32⟩
  | 46 => ⟨S4x8192x8, .f32⟩
  | 47 => ⟨S4x8192x1x8, .f32⟩
  | 48 => ⟨S4x8192x8x8, .f32⟩
  | 49 => ⟨S4x8192x8x8, .f32⟩
  | 50 => ⟨S4x8192x8x8, .f32⟩
  | 51 => ⟨S4x8192x8x8, .f32⟩
  | 52 => ⟨S4x8192x8x8, .f32⟩
  | 53 => ⟨S4x8192x8x8, .f32⟩
  | 54 => ⟨S4x8192x8x8, .f32⟩
  | 55 => ⟨S4x8192x8x8, .f32⟩
  | 56 => ⟨S4x8192x8x8, .f32⟩
  | 57 => ⟨S4x8192x8x8, .f32⟩
  | 58 => ⟨S4x8192x8x8, .f32⟩
  | 59 => ⟨S4x8192x8x8, .f32⟩
  | 60 => ⟨S4x8192x8x48, .f32⟩
  | 61 => ⟨S4x8192x8x64, .f32⟩
  | 62 => ⟨S64, .f32⟩
  | 63 => ⟨S4x8192x8x64, .f32⟩
  | 64 => ⟨S_, .f32⟩
  | 65 => ⟨S4x8192x8, .f32⟩
  | 66 => ⟨S4x8192x8x1, .f32⟩
  | 67 => ⟨S_, .f32⟩
  | 68 => ⟨S4x8192x8x1, .f32⟩
  | 69 => ⟨S4x8192x8x1, .f32⟩
  | 70 => ⟨S_, .f32⟩
  | 71 => ⟨S4x8192x8x1, .f32⟩
  | 72 => ⟨S4x8192x8x1, .f32⟩
  | 73 => ⟨S4x8192x8x1, .f32⟩
  | 74 => ⟨S4x8192x8x64, .f32⟩
  | 75 => ⟨S4x8192x8x64, .f32⟩
  | 76 => ⟨S1x1x1x64, .f32⟩
  | 77 => ⟨S4x8192x8x64, .f32⟩
  | 78 => ⟨S4x8192x8x64, .f32⟩
  | 79 => ⟨S8, .f32⟩
  | 80 => ⟨S_, .f32⟩
  | 81 => ⟨S8, .f32⟩
  | 82 => ⟨S8, .f32⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S4x8192, .f32⟩
  | 91 => ⟨S4x8192x1, .f32⟩
  | 92 => ⟨S1x1x8, .f32⟩
  | 93 => ⟨S4x8192x8, .f32⟩
  | 94 => ⟨S4x8192x8, .f32⟩
  | 95 => ⟨S4x8192x8, .f32⟩
  | 96 => ⟨S4x8192x8, .f32⟩
  | 97 => ⟨S4x8192x1x8, .f32⟩
  | 98 => ⟨S4x8192x8, .f32⟩
  | 99 => ⟨S4x8192x1x8, .f32⟩
  | 100 => ⟨S4x8192x8x8, .f32⟩
  | 101 => ⟨S4x8192x8x8, .f32⟩
  | 102 => ⟨S4x8192x8x8, .f32⟩
  | 103 => ⟨S4x8192x8x8, .f32⟩
  | 104 => ⟨S4x8192x8x8, .f32⟩
  | 105 => ⟨S4x8192x8x8, .f32⟩
  | 106 => ⟨S4x8192x8x8, .f32⟩
  | 107 => ⟨S4x8192x8x8, .f32⟩
  | 108 => ⟨S4x8192x8x8, .f32⟩
  | 109 => ⟨S4x8192x8x8, .f32⟩
  | 110 => ⟨S4x8192x8x8, .f32⟩
  | 111 => ⟨S4x8192x8x8, .f32⟩
  | 112 => ⟨S4x8192x8x48, .f32⟩
  | 113 => ⟨S4x8192x8x64, .f32⟩
  | 114 => ⟨S4x32x256x8x64, .f32⟩
  | 115 => ⟨S_, .f32⟩
  | 116 => ⟨S4x32x8x64, .f32⟩
  | 117 => ⟨S_, .f32⟩
  | 118 => ⟨S4x32x8x64, .f32⟩
  | 119 => ⟨S4x32x8x64, .f32⟩
  | 120 => ⟨S_, .f32⟩
  | 121 => ⟨S4x8192x8x64, .f32⟩
  | 122 => ⟨S4x8192x8x64, .f32⟩
  | 123 => ⟨S32768x512, .f32⟩
  | 124 => ⟨S32768x512, .bf16⟩
  | 125 => ⟨S32768x512, .f32⟩
  | 126 => ⟨S32768x512, .bf16⟩
  | 127 => ⟨S32768x512, .f32⟩
  | _ => ⟨S32768x1536, .f32⟩

abbrev hbmTy0_1 (i : Nat) : BufTy := match i % 128 with
  | 0 => ⟨S32768x512, .bf16⟩
  | 1 => ⟨S128x1x512, .f32⟩
  | _ => ⟨S32768x1536, .f32⟩

abbrev hbmTy (i : Nat) : BufTy := match i / 128 with
  | 0 => hbmTy0_0 i
  | 1 => hbmTy0_1 i
  | _ => ⟨S32768x1536, .f32⟩

abbrev bufTy : (tb : Table) → Fin (tcTables nBuf tb) → BufTy
  | .hbm, ⟨i, _⟩ => hbmTy i
  | _, _ => ⟨S32768x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_5 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_8 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_9 : Ref sig .tc := ⟨.hbm, 84, rfl⟩
abbrev main_v70 : Ref sig .tc := ⟨.hbm, 85, rfl⟩
abbrev main_v71 : Ref sig .tc := ⟨.hbm, 86, rfl⟩
abbrev main_cst_10 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_cst_11 : Ref sig .tc := ⟨.hbm, 115, rfl⟩
abbrev main_v99 : Ref sig .tc := ⟨.hbm, 116, rfl⟩
abbrev main_cst_12 : Ref sig .tc := ⟨.hbm, 117, rfl⟩
abbrev main_v100 : Ref sig .tc := ⟨.hbm, 118, rfl⟩
abbrev main_v101 : Ref sig .tc := ⟨.hbm, 119, rfl⟩
abbrev main_cst_13 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩

abbrev nD : Nat := 1
abbrev τ : Topo := Topo.v7x

variable {F : FTy → Type} [FloatOps F]
-- ==== Proof.MobaOpen.lean ====
/-
  The kernel's block opened: what one grid point leaves in its output block, as the printed payloads over the loop's
  carried values, and the loop's carried values as a recursion over its trips.
-/
module

public import proofs.«01_k».proof.Proof.Gen.KernelIdeal.Value
public import Idealize.ShloMosaic.Lib.Pointwise
public import Idealize.ShloMosaic.Lib.KernelVsHost
public import Idealize.ShloMosaic.Lib.LoopRemainder
public import Idealize.ShloMosaic.Lib.WordArith.Masks

@[expose] public section
noncomputable section
namespace Cert.Moba
open Idealize.ShloMosaic Idealize.SL.Sem Idealize.ShloMosaic.Pointwise Cert.KernelIdeal Cert.KernelIdeal.Gen

/-- The loop's carried values: for each of the two heads the running maximum and the accumulator. -/
abbrev Carry : Type := FVec Ideal S256x1 .f32 × FVec Ideal S256x128 .f32 × FVec Ideal S256x1 .f32 × FVec Ideal S256x128 .f32

/-- Lane numbers, block numbers (rows), query and key positions of the kernel's tiles. -/
abbrev lanes : IVec S256x128 32 := iota .tc S256x128 32 [1] iota_S256x128_d1_w32
abbrev brows : IVec S128x256 32 := iota .tc S128x256 32 [0] iota_S128x256_d0_w32
abbrev qpos : IVec S256x256 32 := iota .tc S256x256 32 [0] iota_S256x256_d0_w32
abbrev kpos : IVec S256x256 32 := iota .tc S256x256 32 [1] iota_S256x256_d1_w32

/-- The 256 rows of a head-pair's keys or values that the point's own block takes. -/
def ownRows (i : grid0.Coords) (x : Vec Ideal S1x8192x128 .bf16) : Vec Ideal S1x256x128 .bf16 :=
  View.ld (Val := Elt Ideal) x (Rect.unit (s := S1x8192x128) (k0_off1 i) S1x256x128.size (k0_off1_inb i))

/-- The 512 rows a trip takes. -/
def pairRows (i : grid0.Coords) (k : Fin (k0_t1_loop i).trips) (x : Vec Ideal S1x8192x128 .bf16) : Vec Ideal S1x512x128 .bf16 :=
  View.ld (Val := Elt Ideal) x (Rect.unit (s := S1x8192x128) (k0_off2 i k) S1x512x128.size (k0_off2_inb i k))

/-- The first head's biases. -/
def bias0 (i : grid0.Coords) (x0 : Vec Ideal S1x256x128 .bf16) (x3 : Vec Ideal S1x128x128 .f32) : FVec Ideal S256x128 .f32 :=
  let v34 := k0_pay54 i x0 x3
  let v72 := k0_pay62 brows v34
  let v80 := k0_pay65 brows v34
  k0_pay75 (k0_pay68 brows (k0_pay60 brows v34) v72 v80 128#32) (k0_pay73 brows v72 v80 128#32) (k0_pay74 brows v72 v80 128#32)

/-- The second head's biases. -/
def bias1 (i : grid0.Coords) (x0 : Vec Ideal S1x256x128 .bf16) (x3 : Vec Ideal S1x128x128 .f32) : FVec Ideal S256x128 .f32 :=
  let v28 := k0_pay53 x0
  let v36 := k0_pay55 i
  let v37 := k0_pay56 x3
  let v74 := k0_pay63 brows v28 v36 v37
  let v78 := k0_pay64 brows v28 v36 v37
  k0_pay76 brows (k0_pay69 brows (k0_pay61 brows v28 v36 v37) v74 v78) (k0_pay71 brows v74 v78) (k0_pay72 brows v74 v78)

/-- The carried values before the loop: the point's own block. -/
def start (x0 y1 y2 : Vec Ideal S1x256x128 .bf16) : Carry :=
  let v13 := k0_pay48 y1
  let v16 := k0_pay49 y2
  let v26 := k0_pay52 x0
  let v28 := k0_pay53 x0
  (k0_pay79 qpos kpos v13 v26, k0_pay81 qpos kpos v13 v16 k0_pay50 v26, k0_pay80 qpos kpos v13 v28,
    k0_pay82 qpos kpos v13 v16 k0_pay51 v28)

/-- One trip's carried values from the ones before. -/
def tripVal (i : grid0.Coords) (v5 : IVec S256x128 32) (v26 v28 : FVec Ideal S256x128 .bf16) (v138 v142 : FVec Ideal S256x128 .f32)
    (x1 x2 : Vec Ideal S1x8192x128 .bf16) (k : Fin (k0_t1_loop i).trips) (acc : Carry) : Carry :=
  let v208 := pairRows i k x1
  let v212 := k0_pay7 (pairRows i k x2)
  let v214 := k0_pay8 v26 v208
  let v216 := k0_pay9 v26 v208
  let v218 := k0_pay10 v28 v208
  let v220 := k0_pay11 v28 v208
  let v228 := k0_pay12 i v5 v138 0#32 1#32 k
  let v236 := k0_pay13 i v5 v138 0#32 1#32 k
  let v242 := k0_pay14 i v5 v142 0#32 1#32 k
  let arg8 := Scf.iv 0#32 1#32 k
  (k0_pay19 acc.1 v214 v216 v228 v236,
    k0_pay1 acc.2.1 v212 (k0_pay21 acc.1 v214 v216 v228 v236) (k0_pay23 acc.1 v214 v216 v228 v236) k0_pay25,
    k0_pay20 v5 v142 acc.2.2.1 arg8 v218 v220 v242,
    k0_pay2 acc.2.2.2 v212 (k0_pay22 v5 v142 acc.2.2.1 arg8 v218 v220 v242) (k0_pay24 v5 v142 acc.2.2.1 arg8 v218 v220 v242)
      (iota .tc S512x128 32 [1] iota_S512x128_d1_w32))

section
variable (𝒱 : Variants) (c : Dev nD) (bd : Option 𝒱.V) (i : grid0.Coords)
  (arg3 : Memref sig .tc .vmem S1x256x128 .bf16) (harg3 : arg3.IsWhole) (arg4 : Memref sig .tc .vmem S1x8192x128 .bf16) (harg4 : arg4.IsWhole)
  (arg5 : Memref sig .tc .vmem S1x8192x128 .bf16) (harg5 : arg5.IsWhole) (arg6 : Memref sig .tc .vmem S1x128x128 .f32) (harg6 : arg6.IsWhole)
  (arg7 : Memref sig .tc .vmem S1x256x128 .bf16) (harg7 : arg7.IsWhole)

/-- A trip of the run is `tripVal`. -/
theorem tripR_eq (v5 : IVec S256x128 32) (v26 v28 : FVec Ideal S256x128 .bf16) (v138 v142 : FVec Ideal S256x128 .f32)
    (x1 x2 : Vec Ideal S1x8192x128 .bf16) (k : Fin (k0_t1_loop i).trips) (acc : Carry) :
    tripR_k0_t1 (F := Ideal) 𝒱 c bd i arg3 harg3 arg4 harg4 arg5 harg5 arg6 harg6 arg7 harg7 v5 v26 v28 v138 v142
        (harg4.unread x1) (harg5.unread x2) k acc
      = tripVal i v5 v26 v28 v138 v142 x1 x2 k acc := by
  have e1 : View.readAt (Elt Ideal) arg4.view (Rect.unit (s := S1x8192x128) (k0_off2 i k) S1x512x128.size (k0_off2_inb i k)).toLoadRect (harg4.unread x1)
      = pairRows i k x1 := by
    unfold pairRows
    rw [View.readAt_eq_ld, harg4.read_unread]
  have e2 : View.readAt (Elt Ideal) arg5.view (Rect.unit (s := S1x8192x128) (k0_off2 i k) S1x512x128.size (k0_off2_inb i k)).toLoadRect (harg5.unread x2)
      = pairRows i k x2 := by
    unfold pairRows
    rw [View.readAt_eq_ld, harg5.read_unread]
  unfold tripVal
  rw [← e1, ← e2]
  unfold tripR_k0_t1 trip_k0_t1
  rfl

/-- The carried values after `k` trips. -/
def after (i : grid0.Coords) (v5 : IVec S256x128 32) (v26 v28 : FVec Ideal S256x128 .bf16) (v138 v142 : FVec Ideal S256x128 .f32)
    (x1 x2 : Vec Ideal S1x8192x128 .bf16) (init : Carry) : ℕ → Carry
  | 0 => init
  | k + 1 => if h : k < (k0_t1_loop i).trips then tripVal i v5 v26 v28 v138 v142 x1 x2 ⟨k, h⟩ (after i v5 v26 v28 v138 v142 x1 x2 init k)
      else after i v5 v26 v28 v138 v142 x1 x2 init k

theorem st_eq (v5 : IVec S256x128 32) (v26 v28 : FVec Ideal S256x128 .bf16) (v138 v142 : FVec Ideal S256x128 .f32)
    (x1 x2 : Vec Ideal S1x8192x128 .bf16) (init : Carry) (k : ℕ) (hk : k ≤ (k0_t1_loop i).trips) :
    st_k0_t1 (F := Ideal) 𝒱 c bd i arg3 harg3 arg4 harg4 arg5 harg5 arg6 harg6 arg7 harg7 v5 v26 v28 v138 v142
        (harg4.unread x1) (harg5.unread x2) init k
      = after i v5 v26 v28 v138 v142 x1 x2 init k := by
  induction k with
  | zero => rfl
  | succ k ih =>
    have h := st_k0_t1_succ (F := Ideal) 𝒱 c bd i arg3 harg3 arg4 harg4 arg5 harg5 arg6 harg6 arg7 harg7 v5 v26 v28 v138 v142
      (harg4.unread x1) (harg5.unread x2) init ⟨k, hk⟩
    rw [show k + 1 = (⟨k, hk⟩ : Fin (k0_t1_loop i).trips).val + 1 from rfl, h, ih (Nat.le_of_succ_le hk), tripR_eq]
    rw [after, dif_pos (show k < (k0_t1_loop i).trips from hk)]

/-- The second loop makes no trip. -/
theorem t2_trips : (k0_t2_loop i).trips = 0 := Scf.rem_trips _ _

theorem st2_eq (v5 : IVec S256x128 32) (v26 v28 : FVec Ideal S256x128 .bf16) (v138 v142 : FVec Ideal S256x128 .f32) (v191 : BitVec 32)
    (X4 : BufTy.Contents (Elt Ideal) arg4.view.ty) (X5 : BufTy.Contents (Elt Ideal) arg5.view.ty) (init : Carry) :
    st_k0_t2 (F := Ideal) 𝒱 c bd i arg3 harg3 arg4 harg4 arg5 harg5 arg6 harg6 arg7 harg7 v5 v26 v28 v138 v142 v191
        X4 X5 init (k0_t2_loop i).trips = init := by
  rw [t2_trips]; rfl

/-- The first loop makes half of the block's number of trips, rounded up. -/
theorem t1_trips : (k0_t1_loop i).trips = ((i 2).val + 1) / 2 := by
  have h : ∀ n : Fin 32, (fun a : BitVec 32 => Scf.trips 0#32 (Scalar.addi 0#32 (Scalar.muli (Scalar.divsi (Scalar.subi
      (Scalar.select (Scalar.andi (Scalar.cmpi .ne (Scalar.subi (Scalar.extui (Scalar.cmpi .sgt a 0#32)) (Scalar.extui (Scalar.cmpi .slt a 0#32)))
        (Scalar.subi (Scalar.extui (Scalar.cmpi .sgt 2#32 0#32)) (Scalar.extui (Scalar.cmpi .slt 2#32 0#32))))
        (Scalar.cmpi .ne (Scalar.remsi a 2#32) 0#32)) (Scalar.subi (Scalar.divsi a 2#32) 1#32) (Scalar.divsi a 2#32)) 0#32) 1#32) 1#32)) 1#32)
      (Scalar.addi (BitVec.ofNat 32 n.val) 1#32) = (n.val + 1) / 2 := by decide
  exact h (i 2)

/-- **What a grid point leaves in its output block.** -/
theorem out_open (x0 : Vec Ideal S1x256x128 .bf16) (x1 x2 : Vec Ideal S1x8192x128 .bf16) (x3 : Vec Ideal S1x128x128 .f32) :
    out0_A_4 (F := Ideal) c i arg3 harg3 arg4 harg4 arg5 harg5 arg6 harg6 arg7 harg7 x0 x1 x2 x3
      = k0_pay5 lanes
          (after i lanes (k0_pay52 x0) (k0_pay53 x0) (bias0 i x0 x3) (bias1 i x0 x3) x1 x2 (start x0 (ownRows i x1) (ownRows i x2)) (((i 2).val + 1) / 2)).2.1
          (after i lanes (k0_pay52 x0) (k0_pay53 x0) (bias0 i x0 x3) (bias1 i x0 x3) x1 x2 (start x0 (ownRows i x1) (ownRows i x2)) (((i 2).val + 1) / 2)).2.2.2 := by
  have hz3 : (![0, 0, 0] : Fin 3 → ℕ) = fun _ => 0 := by funext a; fin_cases a <;> rfl
  rw [← t1_trips]
  have hst := st_eq Variants.none c none i arg3 harg3 arg4 harg4 arg5 harg5 arg6 harg6 arg7 harg7 lanes
    (k0_pay52 x0) (k0_pay53 x0) (bias0 i x0 x3) (bias1 i x0 x3) x1 x2 (start x0 (ownRows i x1) (ownRows i x2)) (k0_t1_loop i).trips (le_refl _)
  rw [← hst]
  have e0 : View.readAt (Elt Ideal) arg3.view (Rect.unit (s := S1x256x128) ![0, 0, 0] S1x256x128.size inb_S1x256x128_S1x256x128_0_0_0).toLoadRect (harg3.unread x0) = x0 := by
    rw [View.readAt_eq_ld, harg3.read_unread]; exact View.ld_unit_zero hz3 _ _
  have e3 : View.readAt (Elt Ideal) arg6.view (Rect.unit (s := S1x128x128) ![0, 0, 0] S1x128x128.size inb_S1x128x128_S1x128x128_0_0_0).toLoadRect (harg6.unread x3) = x3 := by
    rw [View.readAt_eq_ld, harg6.read_unread]; exact View.ld_unit_zero hz3 _ _
  have e1 : View.readAt (Elt Ideal) arg4.view (Rect.unit (s := S1x8192x128) (k0_off1 i) S1x256x128.size (k0_off1_inb i)).toLoadRect (harg4.unread x1) = ownRows i x1 := by
    unfold ownRows; rw [View.readAt_eq_ld, harg4.read_unread]
  have e2 : View.readAt (Elt Ideal) arg5.view (Rect.unit (s := S1x8192x128) (k0_off1 i) S1x256x128.size (k0_off1_inb i)).toLoadRect (harg5.unread x2) = ownRows i x2 := by
    unfold ownRows; rw [View.readAt_eq_ld, harg5.read_unread]
  unfold out0_A_4
  rw [View.read_writes_eq_canon _ _ _ (cover0_A_4 c i arg3 harg3 arg4 harg4 arg5 harg5 arg6 harg6 arg7 harg7 x0 x1 x2 x3)]
  unfold kernelRun0_A
  refine (View.canon_unit_zero hz3 _ _).trans ?_
  refine congrArg (fun s : Carry => k0_pay5 lanes s.2.1 s.2.2.2) (Eq.trans (st2_eq _ _ _ _ _ _ _ _ _ _ _ _ _ _ _ _ _ _ _ _ _ _ _) ?_)
  have hF : ∀ (y0 y1 y2 z0 z1 z2 : Vec Ideal S1x256x128 .bf16) (y3 z3 : Vec Ideal S1x128x128 .f32), y0 = z0 → y1 = z1 → y2 = z2 → y3 = z3 →
      st_k0_t1 (F := Ideal) Variants.none c none i arg3 harg3 arg4 harg4 arg5 harg5 arg6 harg6 arg7 harg7 lanes (k0_pay52 y0) (k0_pay53 y0)
          (bias0 i y0 y3) (bias1 i y0 y3) (harg4.unread x1) (harg5.unread x2) (start y0 y1 y2) (k0_t1_loop i).trips
        = st_k0_t1 (F := Ideal) Variants.none c none i arg3 harg3 arg4 harg4 arg5 harg5 arg6 harg6 arg7 harg7 lanes (k0_pay52 z0) (k0_pay53 z0)
          (bias0 i z0 z3) (bias1 i z0 z3) (harg4.unread x1) (harg5.unread x2) (start z0 z1 z2) (k0_t1_loop i).trips := by
    intro y0 y1 y2 z0 z1 z2 y3 z3 h0 h1 h2 h3
    subst h0 h1 h2 h3
    rfl
  exact hF _ _ _ _ _ _ _ _ e0 e1 e2 e3
end

end Cert.Moba
-- ==== Proof.MobaSelect.lean ====
/-
  The choice of the three best past blocks, as pure mathematics: `Sel g N n` says that block `n` has a score above
  minus infinity and fewer than three blocks come before it (a higher score, or the same score and a smaller number).
  The kernel's three rounds of "the first maximum, struck out" choose exactly these blocks (`rounds_iff`), and so
  do the first three entries of a stable descending sort (`sortedFrom_eq_iff`, `first_three_iff`).
-/
module

public import Idealize.ShloMosaic.PureOps.Ideal
public import Idealize.ShloMosaic.Lib.SortFacts
public import Idealize.ShloMosaic.Lib.SortPrefix

@[expose] public section

noncomputable section

namespace Cert.Moba
open Idealize.ShloMosaic
open scoped Classical

/-- Block `a` comes before block `b`: a higher score, or the same score and a smaller number. -/
def Before (g : ℕ → EReal) (a b : ℕ) : Prop := g b < g a ∨ (g a = g b ∧ a < b)

/-- How many of the first `N` blocks come before block `n`. -/
def rank (g : ℕ → EReal) (N n : ℕ) : ℕ := ((Finset.range N).filter fun a => Before g a n).card

/-- Block `n` is chosen: its score is above minus infinity and fewer than three blocks come before it. -/
def Sel (g : ℕ → EReal) (N n : ℕ) : Prop := ⊥ < g n ∧ rank g N n < 3

/-- One round's pick: nothing comes before `n`, and its score is above minus infinity. -/
def Pick (g : ℕ → EReal) (N n : ℕ) : Prop := (∀ a < N, ¬ Before g a n) ∧ ⊥ < g n

/-- The scores after a round: the pick is struck out. -/
def strike (g : ℕ → EReal) (N : ℕ) : ℕ → EReal := fun n => if Pick g N n then ⊥ else g n

theorem before_total (g : ℕ → EReal) (a b : ℕ) (h : a ≠ b) : Before g a b ∨ Before g b a := by
  rcases lt_trichotomy (g a) (g b) with h1 | h1 | h1
  · exact Or.inr (Or.inl h1)
  · rcases Nat.lt_or_gt_of_ne h with h2 | h2
    · exact Or.inl (Or.inr ⟨h1, h2⟩)
    · exact Or.inr (Or.inr ⟨h1.symm, h2⟩)
  · exact Or.inl (Or.inl h1)

theorem before_irrefl (g : ℕ → EReal) (a : ℕ) : ¬ Before g a a := by
  rintro (h | ⟨_, h⟩)
  · exact lt_irrefl _ h
  · exact Nat.lt_irrefl _ h

theorem before_trans (g : ℕ → EReal) (a b c : ℕ) (h : Before g a b) (h' : Before g b c) : Before g a c := by
  rcases h with h | ⟨h, k⟩ <;> rcases h' with h' | ⟨h', k'⟩
  · exact Or.inl (h'.trans h)
  · exact Or.inl (h' ▸ h)
  · exact Or.inl (h ▸ h')
  · exact Or.inr ⟨h.trans h', k.trans k'⟩

theorem rank_eq_zero_iff (g : ℕ → EReal) (N n : ℕ) : rank g N n = 0 ↔ ∀ a < N, ¬ Before g a n := by
  unfold rank
  rw [Finset.card_eq_zero, Finset.filter_eq_empty_iff]
  simp only [Finset.mem_range]

theorem pick_iff (g : ℕ → EReal) (N n : ℕ) : Pick g N n ↔ rank g N n = 0 ∧ ⊥ < g n := by
  rw [rank_eq_zero_iff]; rfl

/-- Two picks of one round are the same block. -/
theorem pick_unique (g : ℕ → EReal) (N a b : ℕ) (ha : a < N) (hb : b < N) (h : Pick g N a) (h' : Pick g N b) : a = b := by
  by_contra hne
  rcases before_total g a b hne with hh | hh
  · exact h'.1 a ha hh
  · exact h.1 b hb hh

/-- If some block comes before `n`, some block with nothing before it comes before `n`. -/
theorem exists_first (g : ℕ → EReal) (N n : ℕ) (h : 0 < rank g N n) : ∃ p < N, Before g p n ∧ rank g N p = 0 := by
  have hne : ((Finset.range N).filter fun a => Before g a n).Nonempty := Finset.card_pos.1 h
  obtain ⟨p, hp, hmin⟩ := Finset.exists_min_image _ (fun a => rank g N a) hne
  rw [Finset.mem_filter, Finset.mem_range] at hp
  refine ⟨p, hp.1, hp.2, ?_⟩
  by_contra hpos
  have hne' : ((Finset.range N).filter fun a => Before g a p).Nonempty := Finset.card_pos.1 (Nat.pos_of_ne_zero hpos)
  obtain ⟨c, hc⟩ := hne'
  rw [Finset.mem_filter, Finset.mem_range] at hc
  have hcn : Before g c n := before_trans g c p n hc.2 hp.2
  have hle := hmin c (by rw [Finset.mem_filter, Finset.mem_range]; exact ⟨hc.1, hcn⟩)
  have hlt : rank g N c < rank g N p := by
    unfold rank
    apply Finset.card_lt_card
    refine ⟨fun x hx => ?_, fun hsub => ?_⟩
    · rw [Finset.mem_filter] at hx ⊢
      exact ⟨hx.1, before_trans g x c p hx.2 hc.2⟩
    · have : c ∈ (Finset.range N).filter fun a => Before g a c :=
        hsub (by rw [Finset.mem_filter, Finset.mem_range]; exact hc)
      rw [Finset.mem_filter] at this
      exact before_irrefl g c this.2
  omega

theorem strike_of_not_pick (g : ℕ → EReal) (N n : ℕ) (h : ¬ Pick g N n) : strike g N n = g n := if_neg h

theorem bot_lt_strike_iff (g : ℕ → EReal) (N n : ℕ) : ⊥ < strike g N n ↔ ⊥ < g n ∧ rank g N n ≠ 0 := by
  unfold strike
  split
  · next h => rw [pick_iff] at h; simp [h.1]
  · next h =>
    rw [pick_iff] at h
    constructor
    · intro hb; exact ⟨hb, fun h0 => h ⟨h0, hb⟩⟩
    · intro hb; exact hb.1

/-- After a round every block that is left has one block less before it. -/
theorem rank_strike (g : ℕ → EReal) (N n : ℕ) (hg : ⊥ < g n) (hr : rank g N n ≠ 0) :
    rank (strike g N) N n + 1 = rank g N n := by
  obtain ⟨p, hpN, hpn, hp0⟩ := exists_first g N n (Nat.pos_of_ne_zero hr)
  have hgp : ⊥ < g p := by
    rcases hpn with h | ⟨h, _⟩
    · exact hg.trans h
    · rw [h]; exact hg
  have hpick : Pick g N p := (pick_iff g N p).2 ⟨hp0, hgp⟩
  have hnn : ¬ Pick g N n := fun h => hr ((pick_iff g N n).1 h).1
  have hsn : strike g N n = g n := strike_of_not_pick g N n hnn
  have hset : ((Finset.range N).filter fun a => Before g a n)
      = insert p ((Finset.range N).filter fun a => Before (strike g N) a n) := by
    ext a
    simp only [Finset.mem_filter, Finset.mem_range, Finset.mem_insert]
    by_cases hap : a = p
    · subst hap
      exact ⟨fun _ => Or.inl rfl, fun _ => ⟨hpN, hpn⟩⟩
    · constructor
      · rintro ⟨haN, hab⟩
        refine Or.inr ⟨haN, ?_⟩
        have hna : ¬ Pick g N a := fun h => hap (pick_unique g N a p haN hpN h hpick)
        unfold Before
        rw [hsn, strike_of_not_pick g N a hna]
        exact hab
      · rintro (h | ⟨haN, hab⟩)
        · exact absurd h hap
        · have hna : ¬ Pick g N a := fun h => hap (pick_unique g N a p haN hpN h hpick)
          unfold Before at hab
          rw [hsn, strike_of_not_pick g N a hna] at hab
          exact ⟨haN, hab⟩
  have hnot : p ∉ ((Finset.range N).filter fun a => Before (strike g N) a n) := by
    rw [Finset.mem_filter]
    rintro ⟨_, hb⟩
    unfold Before at hb
    have hsp : strike g N p = ⊥ := if_pos hpick
    rw [hsn, hsp] at hb
    rcases hb with h | ⟨h, _⟩
    · exact not_lt_bot h
    · rw [← h] at hg; exact lt_irrefl _ hg
  have := congrArg Finset.card hset
  rw [Finset.card_insert_of_notMem hnot] at this
  exact this.symm

/-- Three rounds choose exactly the blocks with fewer than three before them. -/
theorem rounds_iff (g : ℕ → EReal) (N n : ℕ) :
    (Pick g N n ∨ Pick (strike g N) N n ∨ Pick (strike (strike g N) N) N n) ↔ Sel g N n := by
  rw [pick_iff, pick_iff, pick_iff, bot_lt_strike_iff, bot_lt_strike_iff, bot_lt_strike_iff]
  unfold Sel
  constructor
  · rintro (⟨h0, hg⟩ | ⟨h0, hg, hr⟩ | ⟨h0, ⟨hg, hr⟩, hr'⟩)
    · exact ⟨hg, by omega⟩
    · have := rank_strike g N n hg hr
      exact ⟨hg, by omega⟩
    · have h1 := rank_strike g N n hg hr
      have h2 := rank_strike (strike g N) N n ((bot_lt_strike_iff g N n).2 ⟨hg, hr⟩) hr'
      exact ⟨hg, by omega⟩
  · rintro ⟨hg, hr⟩
    by_cases h0 : rank g N n = 0
    · exact Or.inl ⟨h0, hg⟩
    · have h1 := rank_strike g N n hg h0
      by_cases h0' : rank (strike g N) N n = 0
      · exact Or.inr (Or.inl ⟨h0', hg, h0⟩)
      · have h2 := rank_strike (strike g N) N n ((bot_lt_strike_iff g N n).2 ⟨hg, h0⟩) h0'
        exact Or.inr (Or.inr ⟨by omega, ⟨hg, h0⟩, h0'⟩)

/-- Scores that agree give the same ranks. -/
theorem rank_congr (g g' : ℕ → EReal) (N n : ℕ) (hn : g n = g' n) (h : ∀ a < N, g a = g' a) : rank g N n = rank g' N n := by
  unfold rank
  congr 1
  apply Finset.filter_congr
  intro a ha
  unfold Before
  rw [hn, h a (Finset.mem_range.1 ha)]

/-- Blocks at minus infinity past the first `M` do not count for a block above minus infinity. -/
theorem rank_restrict (g : ℕ → EReal) (M N n : ℕ) (hMN : M ≤ N) (hb : ∀ a, M ≤ a → a < N → g a = ⊥) (hg : ⊥ < g n) :
    rank g N n = rank g M n := by
  unfold rank
  congr 1
  ext a
  simp only [Finset.mem_filter, Finset.mem_range]
  constructor
  · rintro ⟨haN, hab⟩
    refine ⟨?_, hab⟩
    by_contra hM
    have := hb a (by omega) haN
    rcases hab with h | ⟨h, _⟩
    · rw [this] at h; exact not_lt_bot h
    · rw [← h, this] at hg; exact lt_irrefl _ hg
  · rintro ⟨haM, hab⟩
    exact ⟨by omega, hab⟩

/-! ## The stable descending sort -/

/-- A stable sort by the key alone is the sort by key and then position. -/
theorem stableSort_refine {n : ℕ} (R B : Fin n → Fin n → Bool) (h : ∀ a b, a < b → R b a = B b a) (l : List (Fin n))
    (hl : l.Pairwise (· < ·)) : stableSort R l = stableSort B l := by
  induction l with
  | nil => rfl
  | cons a l ih =>
    rw [List.pairwise_cons] at hl
    show insertBefore R a (stableSort R l) = insertBefore B a (stableSort B l)
    rw [ih hl.2]
    exact insertBefore_congr R B a _ fun b hb => h a b (hl.1 b ((perm_stableSort B l).mem_iff.1 hb))

/-- The `k`-th entry of a stable descending sort is the position with exactly `k` positions before it. -/
theorem sortedFrom_eq_iff {n : ℕ} (g : ℕ → EReal) (R : Fin n → Fin n → Bool)
    (hR : ∀ a b : Fin n, R a b = decide (g b.val < g a.val)) (k p : Fin n) :
    sortedFrom R k = p ↔ rank g n p.val = k.val := by
  set B : Fin n → Fin n → Bool := fun a b => decide (Before g a.val b.val) with hBdef
  have hB : StrictTotalBefore B := by
    refine ⟨fun a => ?_, fun a b c h1 h2 => ?_, fun a b hab => ?_⟩
    · simp only [hBdef, decide_eq_false_iff_not]; exact before_irrefl g a.val
    · simp only [hBdef, decide_eq_true_eq] at h1 h2 ⊢; exact before_trans g _ _ _ h1 h2
    · simp only [hBdef, decide_eq_true_eq]
      exact before_total g _ _ fun hv => hab (Fin.ext hv)
  have hsort : sortPositions n R = sortPositions n B := by
    refine stableSort_refine R B (fun a b hab => ?_) _ (List.pairwise_lt_finRange n)
    rw [hR]
    simp only [hBdef, decide_eq_decide]
    unfold Before
    constructor
    · exact Or.inl
    · rintro (h | ⟨_, h⟩)
      · exact h
      · exact absurd hab (by rw [Fin.lt_def]; omega)
  have hfrom : ∀ j, sortedFrom R j = sortedFrom B j := by
    intro j
    unfold sortedFrom
    simp only [List.get_eq_getElem, Fin.val_cast]
    congr 1
  have hinj : Function.Injective (sortedFrom B) := sortedFrom_injective B
  have hsurj : Function.Surjective (sortedFrom B) := sortedFrom_surjective B
  have hord : ∀ i j : Fin n, i < j → Before g (sortedFrom B i).val (sortedFrom B j).val := by
    intro i j hij
    have h1 := sortedFrom_noInversion B B (fun a b h => hB.asymm a b h) (fun _ _ h => h) (fun a b c => hB.negTrans a b c) i j hij
    have hne : sortedFrom B i ≠ sortedFrom B j := fun h => (Fin.ne_of_lt hij) (hinj h)
    rcases hB.total _ _ hne with h | h
    · simpa only [hBdef, decide_eq_true_eq] using h
    · rw [h] at h1; exact absurd h1 (by decide)
  have hrank : ∀ j : Fin n, rank g n (sortedFrom B j).val = j.val := by
    intro j
    unfold rank
    have : ((Finset.range n).filter fun a => Before g a (sortedFrom B j).val)
        = (Finset.univ.filter fun i : Fin n => i < j).image fun i => (sortedFrom B i).val := by
      ext a
      simp only [Finset.mem_filter, Finset.mem_range, Finset.mem_image, Finset.mem_univ, true_and]
      constructor
      · rintro ⟨han, hab⟩
        obtain ⟨i, hi⟩ := hsurj ⟨a, han⟩
        have hiv : (sortedFrom B i).val = a := by rw [hi]
        refine ⟨i, ?_, hiv⟩
        rw [← hiv] at hab
        by_contra hij
        rcases Nat.lt_or_ge j.val i.val with h | h
        · exact before_irrefl g _ (before_trans g _ _ _ hab (hord j i h))
        · have : i = j := Fin.ext (by rw [Fin.lt_def] at hij; omega)
          rw [this] at hab; exact before_irrefl g _ hab
      · rintro ⟨i, hij, hi⟩
        rw [← hi]
        exact ⟨(sortedFrom B i).isLt, hord i j hij⟩
    rw [this, Finset.card_image_of_injective _ fun a b h => hinj (Fin.ext h)]
    have hI : (Finset.univ.filter fun i : Fin n => i < j) = Finset.Iio j := by
      ext x; simp only [Finset.mem_filter, Finset.mem_univ, true_and, Finset.mem_Iio]
    rw [hI, Fin.card_Iio]
  rw [hfrom]
  constructor
  · intro h; rw [← h]; exact hrank k
  · intro h
    obtain ⟨j, hj⟩ := hsurj p
    have := hrank j
    rw [hj, h] at this
    have hkj : k = j := Fin.ext this
    rw [hkj, hj]

/-- Among the first `M` blocks, all and only those above minus infinity, block `n` is one of the first three entries
    of the sort, at a place smaller than `M`, exactly when it is chosen. -/
theorem first_three_iff (g : ℕ → EReal) (M N n : ℕ) (hMN : M ≤ N) (hnN : n < N) (hpast : ∀ a < M, ⊥ < g a)
    (hrest : ∀ a, M ≤ a → a < N → g a = ⊥) :
    (∃ j, j < 3 ∧ j < M ∧ rank g N n = j) ↔ Sel g N n := by
  constructor
  · rintro ⟨j, hj3, hjM, hj⟩
    refine ⟨?_, by omega⟩
    by_contra hb
    have hb' : g n = ⊥ := not_bot_lt_iff.1 hb
    have hsub : Finset.range M ⊆ (Finset.range N).filter fun a => Before g a n := by
      intro a ha
      rw [Finset.mem_range] at ha
      rw [Finset.mem_filter, Finset.mem_range]
      exact ⟨by omega, Or.inl (by rw [hb']; exact hpast a ha)⟩
    have := Finset.card_le_card hsub
    rw [Finset.card_range] at this
    unfold rank at hj
    omega
  · rintro ⟨hb, hr⟩
    have hnM : n < M := by
      by_contra h
      rw [hrest n (by omega) hnN] at hb
      exact lt_irrefl _ hb
    refine ⟨rank g N n, hr, ?_, rfl⟩
    rw [rank_restrict g M N n hMN hrest hb]
    unfold rank
    calc ((Finset.range M).filter fun a => Before g a n).card < (Finset.range M).card := by
          apply Finset.card_lt_card
          refine ⟨Finset.filter_subset _ _, fun hs => ?_⟩
          have := hs (Finset.mem_range.2 hnM)
          rw [Finset.mem_filter] at this
          exact before_irrefl g n this.2
      _ = M := Finset.card_range M

end Cert.Moba
-- ==== Proof.MobaSoftmax.lean ====
/-
  The softmax in base 2 that is carried along block by block, as pure mathematics over the extended reals: a running
  maximum `m` (any real will do), the weighted sum and the sum of the weights relative to it, rescaled when `m` moves,
  and divided at the end, give the plain softmax over all the keys (`row_eq`).
-/
module

public import Idealize.ShloMosaic.PureOps.Ideal
public import Idealize.ShloMosaic.PureOps.Ideal.Laws

@[expose] public section

noncomputable section

namespace Cert.Moba
open Idealize.ShloMosaic
open scoped Classical

theorem exp2_bot : Ideal.exp2 ⊥ = 0 := rfl
theorem exp2_coe (r : ℝ) : Ideal.exp2 (r : EReal) = (((2 : ℝ) ^ r : ℝ) : EReal) := rfl

/-- A weight relative to a real maximum is a nonnegative real. -/
theorem exp2_sub_real (x : EReal) (m : ℝ) (hx : x ≠ ⊤) : ∃ e : ℝ, 0 ≤ e ∧ Ideal.exp2 (x - m) = (e : EReal) := by
  induction x using EReal.rec with
  | bot => exact ⟨0, le_refl _, by rw [EReal.bot_sub]; rfl⟩
  | top => exact absurd rfl hx
  | coe r => exact ⟨(2 : ℝ) ^ (r - m), (Real.rpow_pos_of_pos two_pos _).le, by rw [← EReal.coe_sub]; rfl⟩

theorem exp2_real_pos (a b : ℝ) : ∃ e : ℝ, 0 < e ∧ Ideal.exp2 ((a : EReal) - b) = (e : EReal) :=
  ⟨(2 : ℝ) ^ (a - b), Real.rpow_pos_of_pos two_pos _, by rw [← EReal.coe_sub]; rfl⟩

/-- Moving the maximum from `a` to `b` multiplies a weight. -/
theorem exp2_shift (x : EReal) (a b : ℝ) (hx : x ≠ ⊤) :
    Ideal.exp2 ((a : EReal) - b) * Ideal.exp2 (x - a) = Ideal.exp2 (x - b) := by
  induction x using EReal.rec with
  | bot => rw [EReal.bot_sub, EReal.bot_sub, exp2_bot, mul_zero]
  | top => exact absurd rfl hx
  | coe r =>
    rw [← EReal.coe_sub, ← EReal.coe_sub, ← EReal.coe_sub, exp2_coe, exp2_coe, exp2_coe, ← EReal.coe_mul,
      ← Real.rpow_add two_pos]
    congr 2; ring

/-- A nonnegative real goes inside a finite sum of extended reals. -/
theorem real_mul_sum {ι : Type} (I : Finset ι) (c : ℝ) (hc : 0 ≤ c) (f : ι → EReal) :
    (c : EReal) * ∑ x ∈ I, f x = ∑ x ∈ I, (c : EReal) * f x := by
  induction I using Finset.induction_on with
  | empty => simp
  | insert a s ha ih =>
    rw [Finset.sum_insert ha, Finset.sum_insert ha, ← ih]
    exact EReal.left_distrib_of_nonneg_of_ne_top (EReal.coe_nonneg.2 hc) (EReal.coe_ne_top c) _ _

/-- Rescaling a weighted sum when the maximum moves from `a` to `b`. -/
theorem rescale {ι : Type} (I : Finset ι) (S w : ι → EReal) (a b : ℝ) (hS : ∀ x ∈ I, S x ≠ ⊤) :
    Ideal.exp2 ((a : EReal) - b) * ∑ x ∈ I, Ideal.exp2 (S x - a) * w x = ∑ x ∈ I, Ideal.exp2 (S x - b) * w x := by
  obtain ⟨e, he, hee⟩ := exp2_real_pos a b
  rw [hee, real_mul_sum I e he.le, ← hee]
  refine Finset.sum_congr rfl fun x hx => ?_
  rw [← mul_assoc, exp2_shift _ _ _ (hS x hx)]

theorem exp2_add_distrib (a b : ℝ) (x y : EReal) :
    Ideal.exp2 ((a : EReal) - b) * (x + y) = Ideal.exp2 ((a : EReal) - b) * x + Ideal.exp2 ((a : EReal) - b) * y := by
  obtain ⟨e, he, hee⟩ := exp2_real_pos a b
  rw [hee]
  exact EReal.left_distrib_of_nonneg_of_ne_top (EReal.coe_nonneg.2 he.le) (EReal.coe_ne_top e) _ _

/-- The sum of the weights is a positive real once one score is a real. -/
theorem sum_weights_pos {ι : Type} (I : Finset ι) (S : ι → EReal) (m : ℝ) (hS : ∀ x ∈ I, S x ≠ ⊤) (y : ι) (hy : y ∈ I)
    (hyb : S y ≠ ⊥) : ∃ L : ℝ, 0 < L ∧ ∑ x ∈ I, Ideal.exp2 (S x - m) = (L : EReal) := by
  have hall : ∀ x, ∃ e : ℝ, 0 ≤ e ∧ (x ∈ I → Ideal.exp2 (S x - m) = (e : EReal)) := by
    intro x
    by_cases hx : x ∈ I
    · obtain ⟨e, he, h⟩ := exp2_sub_real (S x) m (hS x hx)
      exact ⟨e, he, fun _ => h⟩
    · exact ⟨0, le_refl _, fun h => absurd h hx⟩
  choose e he hee using hall
  refine ⟨∑ x ∈ I, e x, ?_, ?_⟩
  · refine Finset.sum_pos' (fun x _ => he x) ⟨y, hy, ?_⟩
    have h1 := hee y hy
    obtain ⟨r, hr⟩ : ∃ r : ℝ, S y = (r : EReal) := ⟨(S y).toReal, (EReal.coe_toReal (hS y hy) hyb).symm⟩
    obtain ⟨c, hc, hcc⟩ := exp2_real_pos r m
    rw [hr, hcc] at h1
    have : c = e y := EReal.coe_eq_coe_iff.1 h1
    rw [← this]; exact hc
  · rw [Finset.sum_congr rfl fun x hx => hee x hx]
    exact (map_sum (⟨⟨Real.toEReal, EReal.coe_zero⟩, EReal.coe_add⟩ : ℝ →+ EReal) e I).symm

/-- Dividing the weighted sum by the sum of the weights is the softmax, whatever real the weights are relative to. -/
theorem softmax_eq {ι : Type} (I : Finset ι) (S v : ι → EReal) (m M : ℝ) (hS : ∀ x ∈ I, S x ≠ ⊤) (y : ι) (hy : y ∈ I)
    (hyb : S y ≠ ⊥) :
    Ideal.div (∑ x ∈ I, Ideal.exp2 (S x - m) * v x) (∑ x ∈ I, Ideal.exp2 (S x - m) * 1)
      = ∑ x ∈ I, Ideal.div (Ideal.exp2 (S x - M)) (∑ z ∈ I, Ideal.exp2 (S z - M)) * v x := by
  obtain ⟨L, hL, hLL⟩ := sum_weights_pos I S M hS y hy hyb
  obtain ⟨c, hc, hcc⟩ := exp2_real_pos M m
  have e1 := rescale I S v M m hS
  have e2 := rescale I S (fun _ => 1) M m hS
  have e3 : ∑ x ∈ I, Ideal.exp2 (S x - M) * 1 = (L : EReal) := by
    rw [← hLL]; exact Finset.sum_congr rfl fun x _ => mul_one _
  rw [e3, hcc, ← EReal.coe_mul] at e2
  rw [hcc] at e1
  rw [← e1, ← e2, hLL, Ideal.div_coe (mul_pos hc hL).ne']
  have e4 : ((c : EReal) * ∑ x ∈ I, Ideal.exp2 (S x - M) * v x) * ((1 / (c * L) : ℝ) : EReal)
      = ((1 / L : ℝ) : EReal) * ∑ x ∈ I, Ideal.exp2 (S x - M) * v x := by
    rw [mul_comm (c : EReal), mul_assoc, ← EReal.coe_mul, mul_comm]
    congr 2
    field_simp
  rw [e4, real_mul_sum I _ (one_div_pos.2 hL).le]
  refine Finset.sum_congr rfl fun x _ => ?_
  rw [Ideal.div_coe hL.ne', ← mul_assoc, mul_comm ((1 / L : ℝ) : EReal)]

/-! ## One row of the kernel: its own block first, then the pairs of blocks -/

/-- The masked score of key `t` for row `r` of block `i`. -/
def maskedScore (i r : ℕ) (sel : ℕ → Prop) (s : ℕ → EReal) (t : ℕ) : EReal :=
  if sel (t / 256) ∨ (t / 256 = i ∧ t ≤ 256 * i + r) then s t else ⊥

/-- What the row's accumulator holds after its own block and `k` pairs, relative to `m`. -/
def partialSum (i r : ℕ) (sel : ℕ → Prop) (s w : ℕ → EReal) (m : EReal) (k : ℕ) : EReal :=
  (∑ u ∈ Finset.range 256, Ideal.exp2 ((if u ≤ r then s (256 * i + u) else ⊥) - m) * w (256 * i + u))
    + ∑ t ∈ Finset.range (512 * k), Ideal.exp2 ((s t + if sel (t / 256) then 0 else ⊥) - m) * w t

theorem add_bias_ne_top (x : EReal) (p : Prop) (hx : x ≠ ⊤) : (x + if p then 0 else ⊥) ≠ ⊤ := by
  split
  · rw [add_zero]; exact hx
  · rw [EReal.add_bot]; exact bot_ne_top

/-- One more pair of blocks: rescale, and add the pair's terms. -/
theorem partialSum_succ (i r : ℕ) (sel : ℕ → Prop) (s w : ℕ → EReal) (m m' : ℝ) (k : ℕ) (hs : ∀ t, s t ≠ ⊤) :
    Ideal.exp2 ((m : EReal) - m') * partialSum i r sel s w m k
        + ∑ u ∈ Finset.range 512, Ideal.exp2 ((s (512 * k + u) + if sel ((512 * k + u) / 256) then 0 else ⊥) - m')
            * w (512 * k + u)
      = partialSum i r sel s w m' (k + 1) := by
  unfold partialSum
  rw [exp2_add_distrib, rescale (Finset.range 256) (fun u => if u ≤ r then s (256 * i + u) else ⊥) (fun u => w (256 * i + u)),
    rescale (Finset.range (512 * k)) (fun t => s t + if sel (t / 256) then 0 else ⊥) w, add_assoc, Nat.mul_succ,
    Finset.sum_range_add]
  · intro t _; exact add_bias_ne_top _ _ (hs t)
  · intro u _; split
    · exact hs _
    · exact bot_ne_top

/-- After `(i + 1) / 2` pairs every key has had its term. -/
theorem partialSum_full (i r : ℕ) (sel : ℕ → Prop) (s w : ℕ → EReal) (m : ℝ) (hi : i < 32)
    (hsel : ∀ n, sel n → n < i) :
    partialSum i r sel s w m ((i + 1) / 2)
      = ∑ t ∈ Finset.range 8192, Ideal.exp2 (maskedScore i r sel s t - m) * w t := by
  unfold partialSum
  have hown : ∑ u ∈ Finset.range 256, Ideal.exp2 ((if u ≤ r then s (256 * i + u) else ⊥) - m) * w (256 * i + u)
      = ∑ t ∈ Finset.range 8192, if t / 256 = i then Ideal.exp2 (maskedScore i r sel s t - m) * w t else 0 := by
    rw [← Finset.sum_filter]
    refine Finset.sum_bij (fun u _ => 256 * i + u) ?_ ?_ ?_ ?_
    · intro u hu; rw [Finset.mem_range] at hu; rw [Finset.mem_filter, Finset.mem_range]; omega
    · intro a _ b _ h; omega
    · intro t ht; rw [Finset.mem_filter, Finset.mem_range] at ht
      exact ⟨t - 256 * i, Finset.mem_range.2 (by omega), by omega⟩
    · intro u hu
      rw [Finset.mem_range] at hu
      have h1 : (256 * i + u) / 256 = i := by omega
      have h2 : ¬ sel i := fun h => lt_irrefl _ (hsel i h)
      unfold maskedScore
      rw [h1]
      simp only [h2, false_or, true_and, Nat.add_le_add_iff_left]
  have hpair : ∑ t ∈ Finset.range (512 * ((i + 1) / 2)), Ideal.exp2 ((s t + if sel (t / 256) then 0 else ⊥) - m) * w t
      = ∑ t ∈ Finset.range 8192, if t / 256 = i then 0 else Ideal.exp2 (maskedScore i r sel s t - m) * w t := by
    have hsub : Finset.range (512 * ((i + 1) / 2)) ⊆ Finset.range 8192 := by
      intro t; rw [Finset.mem_range, Finset.mem_range]; omega
    rw [← Finset.sum_subset hsub]
    · refine Finset.sum_congr rfl fun t _ => ?_
      by_cases h : t / 256 = i
      · have h2 : ¬ sel (t / 256) := fun hh => absurd (hsel _ hh) (by omega)
        rw [if_neg h2, if_pos h, EReal.add_bot, EReal.bot_sub, exp2_bot, zero_mul]
      · rw [if_neg h]
        unfold maskedScore
        by_cases h2 : sel (t / 256)
        · rw [if_pos h2, if_pos (Or.inl h2), add_zero]
        · rw [if_neg h2, if_neg (by rintro (h3 | h3); exact h2 h3; exact h h3.1), EReal.add_bot]
    · intro t _ hnt
      rw [Finset.mem_range] at hnt
      by_cases h : t / 256 = i
      · rw [if_pos h]
      · rw [if_neg h]
        have h2 : ¬ sel (t / 256) := fun hh => absurd (hsel _ hh) (by omega)
        unfold maskedScore
        rw [if_neg (by rintro (h3 | h3); exact h2 h3; exact h h3.1), EReal.bot_sub, exp2_bot, zero_mul]
  rw [hown, hpair, ← Finset.sum_add_distrib]
  refine Finset.sum_congr rfl fun t _ => ?_
  split <;> simp

/-- **A row of the kernel is the row's softmax**: the accumulator after all pairs divided by the accumulator of ones. -/
theorem row_eq (i r : ℕ) (sel : ℕ → Prop) (s v : ℕ → EReal) (m M : ℝ) (hi : i < 32) (hr : r < 256)
    (hsel : ∀ n, sel n → n < i) (hs : ∀ t, s t ≠ ⊤) (hs' : ∀ t, t < 8192 → s t ≠ ⊥) :
    Ideal.div (partialSum i r sel s v m ((i + 1) / 2)) (partialSum i r sel s (fun _ => 1) m ((i + 1) / 2))
      = ∑ t ∈ Finset.range 8192,
          Ideal.div (Ideal.exp2 (maskedScore i r sel s t - M))
            (∑ z ∈ Finset.range 8192, Ideal.exp2 (maskedScore i r sel s z - M)) * v t := by
  rw [partialSum_full i r sel s v m hi hsel, partialSum_full i r sel s (fun _ => 1) m hi hsel]
  refine softmax_eq (Finset.range 8192) (maskedScore i r sel s) v m M (fun t _ => ?_) (256 * i) (Finset.mem_range.2 (by omega)) ?_
  · unfold maskedScore; split
    · exact hs t
    · exact bot_ne_top
  · unfold maskedScore
    rw [if_pos (Or.inr ⟨by omega, by omega⟩)]
    exact hs' _ (by omega)

/-- The running maximum of extended reals below plus infinity, one of them a real, is a real. -/
theorem max_real (m x : EReal) (hm : m ≠ ⊥) (hm' : m ≠ ⊤) (hx : x ≠ ⊤) : max m x ≠ ⊥ ∧ max m x ≠ ⊤ := by
  constructor
  · intro h
    have := le_max_left m x
    rw [h] at this
    exact hm (le_bot_iff.1 this)
  · rcases max_choice m x with h | h <;> rw [h] <;> assumption

theorem fold_max_ne_top {ι : Type} (I : Finset ι) (f : ι → EReal) (hf : ∀ x ∈ I, f x ≠ ⊤) : I.fold max ⊥ f ≠ ⊤ := by
  induction I using Finset.induction_on with
  | empty => rw [Finset.fold_empty]; exact bot_ne_top
  | insert a s ha ih =>
    rw [Finset.fold_insert ha]
    have h1 := hf a (Finset.mem_insert_self a s)
    have h2 := ih fun x hx => hf x (Finset.mem_insert_of_mem hx)
    rcases max_choice (f a) (s.fold max ⊥ f) with h | h <;> rw [h] <;> assumption

theorem le_fold_max {ι : Type} (I : Finset ι) (f : ι → EReal) (x : ι) (hx : x ∈ I) : f x ≤ I.fold max ⊥ f :=
  (Finset.le_fold_max (f x)).2 (Or.inr ⟨x, hx, le_refl _⟩)

theorem fold_max_real {ι : Type} (I : Finset ι) (f : ι → EReal) (hf : ∀ x ∈ I, f x ≠ ⊤) (y : ι) (hy : y ∈ I)
    (hyb : f y ≠ ⊥) : I.fold max ⊥ f ≠ ⊥ ∧ I.fold max ⊥ f ≠ ⊤ := by
  refine ⟨fun h => ?_, fold_max_ne_top I f hf⟩
  have := le_fold_max I f y hy
  rw [h] at this
  exact hyb (le_bot_iff.1 this)

end Cert.Moba
-- ==== Proof.MobaTrip.lean ====
/-
  The payloads of one point of the kernel, read at an index: the own block's scores, maximum and weighted sum, and what
  one trip makes of the running maximum and the accumulator, for each of the two heads.
-/
module

public import proofs.«01_k».proof.Proof.MobaOpen
public import proofs.«01_k».proof.Proof.MobaSelect
public import proofs.«01_k».proof.Proof.MobaSoftmax
public import Idealize.ShloMosaic.Lib.WordCmp
public import Idealize.ShloMosaic.Lib.Pipeline.ValueKit.Tiles

@[expose] public section
noncomputable section
namespace Cert.Moba
open Idealize.ShloMosaic Idealize.ShloMosaic.WordCmp Idealize.SL.Sem Idealize.ShloMosaic.Pointwise Cert.KernelIdeal Cert.KernelIdeal.Gen
open scoped Classical

/-- The word of minus infinity is minus infinity. -/
theorem negInf : Ideal.ofBits .f32 0xFF800000#32 = (⊥ : EReal) := by
  simp only [Ideal.ofBits, Ideal.ieee]
  rw [if_pos (by decide), if_pos (by decide), if_pos (by decide)]

/-- The named constant `mask` is minus infinity. -/
theorem maskVal : (Named.named (F := Ideal) κ "mask" (0xF149F2CA#32 : BitVec FTy.f32.bits) : Ideal .f32) = (⊥ : EReal) := rfl

theorem sel_eq_word {α : Type} (x n : ℕ) (hx : x < 2 ^ 32) (hn : n < 2 ^ 32) (a b : α) :
    Scalar.select (IntOp.cmpi .eq (BitVec.ofNat 32 x) (BitVec.ofNat 32 n)) a b = if x = n then a else b := by
  have h : IntOp.cmpi .eq (BitVec.ofNat 32 x) (BitVec.ofNat 32 n) = BitVec.ofBool (decide (x = n)) := by
    show BitVec.ofBool (BitVec.ofNat 32 x == BitVec.ofNat 32 n) = _
    congr 1
    rw [Bool.eq_iff_iff, beq_iff_eq, decide_eq_true_iff]
    constructor
    · intro e
      have := congrArg BitVec.toNat e
      rwa [BitVec.toNat_ofNat, BitVec.toNat_ofNat, Nat.mod_eq_of_lt hx, Nat.mod_eq_of_lt hn] at this
    · intro e; rw [e]
  rw [h]
  by_cases e : x = n <;> simp [e, Scalar.select]

theorem sel_slt_word {α : Type} (x n : ℕ) (hx : x < 2 ^ 31) (hn : n < 2 ^ 31) (a b : α) :
    Scalar.select (IntOp.cmpi .slt (BitVec.ofNat 32 x) (BitVec.ofNat 32 n)) a b = if x < n then a else b := by
  rw [cmpi_slt_eq, toInt_ofNat_of_lt (w := 32) hx, toInt_ofNat_of_lt (w := 32) hn]
  by_cases e : x < n <;> simp [e, Scalar.select]

theorem sel_sle_word {α : Type} (x n : ℕ) (hx : x < 2 ^ 31) (hn : n < 2 ^ 31) (a b : α) :
    Scalar.select (IntOp.cmpi .sle (BitVec.ofNat 32 x) (BitVec.ofNat 32 n)) a b = if x ≤ n then a else b := by
  rw [cmpi_sle_eq, toInt_ofNat_of_lt (w := 32) hx, toInt_ofNat_of_lt (w := 32) hn]
  by_cases e : x ≤ n <;> simp [e, Scalar.select]

/-- The head a lane belongs to, as the kernel tests it. -/
theorem sel_head {α : Type} (z : Fin 128) (hh : Fin 2) (a b : α) :
    Scalar.select (IntOp.cmpi .eq (IntOp.shrsi ArithUnit.vector (BitVec.ofNat 32 z.val) 6#32) (BitVec.ofNat 32 hh.val)) a b
      = if z.val / 64 = hh.val then a else b := by
  have h : ∀ z : Fin 128, ∀ hh : Fin 2, IntOp.cmpi .eq (IntOp.shrsi ArithUnit.vector (BitVec.ofNat 32 z.val) 6#32) (BitVec.ofNat 32 hh.val)
      = if z.val / 64 = hh.val then 1#1 else 0#1 := by decide
  rw [h z hh]
  split <;> rfl

theorem sel_head0 {α : Type} (z : Fin 128) (a b : α) :
    Scalar.select (IntOp.cmpi .eq (IntOp.shrsi ArithUnit.vector (BitVec.ofNat 32 z.val) 6#32) 0#32) a b
      = if z.val / 64 = 0 then a else b := sel_head z 0 a b
theorem sel_head1 {α : Type} (z : Fin 128) (a b : α) :
    Scalar.select (IntOp.cmpi .eq (IntOp.shrsi ArithUnit.vector (BitVec.ofNat 32 z.val) 6#32) 1#32) a b
      = if z.val / 64 = 1 then a else b := sel_head z 1 a b

theorem pair_word (k : ℕ) (hk : k < 16) (u : Fin 2) :
    Scalar.addi (Scalar.muli 2#32 (Scf.iv 0#32 1#32 k)) (BitVec.ofNat 32 u.val) = BitVec.ofNat 32 (2 * k + u.val) := by
  have h : ∀ k : Fin 16, ∀ u : Fin 2, Scalar.addi (Scalar.muli 2#32 (Scf.iv 0#32 1#32 k.val)) (BitVec.ofNat 32 u.val)
      = BitVec.ofNat 32 (2 * k.val + u.val) := by decide
  exact h ⟨k, hk⟩ u

/-- The bias of one block, picked out of a row of biases by a masked sum. -/
theorem pick_sum (k : ℕ) (hk : k < 16) (u : Fin 2) (b : ℕ → EReal) (v : Fin 128 → EReal) (hv : ∀ n : Fin 128, v n = b n.val) :
    ∑ x : Fin 128, Scalar.select (IntOp.cmpi .eq (BitVec.ofNat 32 x.val)
      (Scalar.addi (Scalar.muli 2#32 (Scf.iv 0#32 1#32 k)) (BitVec.ofNat 32 u.val))) (v x) 0 = b (2 * k + u.val) := by
  rw [pair_word k hk u]
  have hu := u.isLt
  rw [Finset.sum_eq_single (⟨2 * k + u.val, by omega⟩ : Fin 128)]
  · rw [sel_eq_word _ _ (by omega) (by omega), if_pos rfl, hv]
  · intro x _ hx
    rw [sel_eq_word _ _ (by have := x.isLt; omega) (by omega), if_neg]
    intro h; exact hx (Fin.ext h)
  · intro h; exact absurd (Finset.mem_univ _) h

theorem pick_sum0 (k : ℕ) (hk : k < 16) (b : ℕ → EReal) (v : Fin 128 → EReal) (hv : ∀ n : Fin 128, v n = b n.val) :
    ∑ x : Fin 128, Scalar.select (IntOp.cmpi .eq (BitVec.ofNat 32 x.val)
      (Scalar.addi (Scalar.muli 2#32 (Scf.iv 0#32 1#32 k)) 0#32)) (v x) 0 = b (2 * k) := pick_sum k hk 0 b v hv
theorem pick_sum1 (k : ℕ) (hk : k < 16) (b : ℕ → EReal) (v : Fin 128 → EReal) (hv : ∀ n : Fin 128, v n = b n.val) :
    ∑ x : Fin 128, Scalar.select (IntOp.cmpi .eq (BitVec.ofNat 32 x.val)
      (Scalar.addi (Scalar.muli 2#32 (Scf.iv 0#32 1#32 k)) 1#32)) (v x) 0 = b (2 * k + 1) := pick_sum k hk 1 b v hv

/-- The score of key `t` for the queries' row `r`. -/
def sc (q : FVec Ideal S256x128 .bf16) (x1 : Vec Ideal S1x8192x128 .bf16) (r : Fin 256) (t : ℕ) : EReal :=
  if h : t < 8192 then ∑ d : Fin 128, q (ix2 r d) * x1 (ix3 0 ⟨t, h⟩ d) else 0

/-- What the accumulator's lane `c` sums for head `hh`: the value's lane when it is the head's, else one. -/
def wt (x2 : Vec Ideal S1x8192x128 .bf16) (hh : ℕ) (c : Fin 128) (t : ℕ) : EReal :=
  if c.val / 64 = hh then (if h : t < 8192 then x2 (ix3 0 ⟨t, h⟩ c) else 0) else 1

theorem off2_eq (i : grid0.Coords) (k : Fin (k0_t1_loop i).trips) (hk : k.val < 16) : k0_off2 i k = ![0, 512 * k.val, 0] := by
  have h : ∀ k : Fin 16, (Scalar.indexCast (Scalar.muli (Scf.iv 0#32 1#32 k.val) 512#32)).toNat = 512 * k.val := by decide
  show ![0, (Scalar.indexCast (Scalar.muli (Scf.iv 0#32 1#32 k.val) 512#32)).toNat, 0] = _
  rw [h ⟨k.val, hk⟩]

theorem off1_eq (i : grid0.Coords) : k0_off1 i = ![0, 256 * (i 2).val, 0] := by
  have h : ∀ k : Fin 32, (Scalar.indexCast (Scalar.muli (BitVec.ofNat 32 k.val) 256#32)).toNat = 256 * k.val := by decide
  show ![0, (Scalar.indexCast (Scalar.muli (BitVec.ofNat 32 (i 2).val) 256#32)).toNat, 0] = _
  rw [h (i 2)]

theorem pairRows_apply (i : grid0.Coords) (k : Fin (k0_t1_loop i).trips) (hk : k.val < 16) (x : Vec Ideal S1x8192x128 .bf16)
    (u : Fin 512) (d : Fin 128) :
    pairRows i k x (ix3 0 u d) = x (ix3 0 ⟨512 * k.val + u.val, by have := u.isLt; omega⟩ d) := by
  unfold pairRows
  refine View.ld_unit_apply_of x _ _ _ _ _ fun a => ?_
  refine Eq.trans ?_ (congrArg (· + _) (congrFun (off2_eq i k hk) a).symm)
  fin_cases a
  · rfl
  · rfl
  · show d.val = 0 + d.val; omega

theorem ownRows_apply (i : grid0.Coords) (x : Vec Ideal S1x8192x128 .bf16) (u : Fin 256) (d : Fin 128) :
    ownRows i x (ix3 0 u d) = x (ix3 0 ⟨256 * (i 2).val + u.val, by have := u.isLt; have : (i 2).val < 32 := (i 2).isLt; omega⟩ d) := by
  unfold ownRows
  refine View.ld_unit_apply_of x _ _ _ _ _ fun a => ?_
  refine Eq.trans ?_ (congrArg (· + _) (congrFun (off1_eq i) a).symm)
  fin_cases a
  · rfl
  · rfl
  · show d.val = 0 + d.val; omega

section
variable (i : grid0.Coords) (v26 v28 : FVec Ideal S256x128 .bf16) (v138 v142 : FVec Ideal S256x128 .f32)
  (x1 x2 : Vec Ideal S1x8192x128 .bf16) (k : Fin (k0_t1_loop i).trips) (hk : k.val < 16) (acc : Carry) (r : Fin 256)
  (b : ℕ → EReal)

/-- A pair's scores with their biases. -/
def ps (q : FVec Ideal S256x128 .bf16) (x1 : Vec Ideal S1x8192x128 .bf16) (b : ℕ → EReal) (r : Fin 256) (k u : ℕ) : EReal :=
  sc q x1 r (512 * k + u) + b ((512 * k + u) / 256)

include hk in
theorem dot_lo (q : FVec Ideal S256x128 .bf16) (u : Fin 256) :
    ∑ x : Fin 128, q (ix2 r x) * pairRows i k x1 (ix3 0 ⟨u.val, by have := u.isLt; omega⟩ x) = sc q x1 r (512 * k.val + u.val) := by
  unfold sc
  rw [dif_pos (by have := u.isLt; omega)]
  exact Finset.sum_congr rfl fun d _ => by rw [pairRows_apply i k hk]

include hk in
theorem dot_hi (q : FVec Ideal S256x128 .bf16) (u : Fin 256) :
    ∑ x : Fin 128, q (ix2 r x) * pairRows i k x1 (ix3 0 ⟨256 + u.val, by have := u.isLt; omega⟩ x) = sc q x1 r (512 * k.val + (256 + u.val)) := by
  unfold sc
  rw [dif_pos (by have := u.isLt; omega)]
  exact Finset.sum_congr rfl fun d _ => by rw [pairRows_apply i k hk]

include hk in
/-- The first head's scores of the pair's first block. -/
theorem s00 (hb : ∀ n : Fin 128, v138 (ix2 r n) = b n.val) (u : Fin 256) :
    k0_pay15 (k0_pay8 v26 (pairRows i k x1)) (k0_pay12 i lanes v138 0#32 1#32 k) (ix2 r u) = ps v26 x1 b r k.val u.val := by
  pointwise [k0_pay15, k0_pay8, k0_pay6, k0_pay12]
  rw [pick_sum0 k.val hk b (fun x => v138 (ix2 r x)) hb]
  unfold ps
  rw [← dot_lo i x1 k hk r v26 u, show (512 * k.val + u.val) / 256 = 2 * k.val by have := u.isLt; omega]

include hk in
theorem s01 (hb : ∀ n : Fin 128, v138 (ix2 r n) = b n.val) (u : Fin 256) :
    k0_pay16 (k0_pay9 v26 (pairRows i k x1)) (k0_pay13 i lanes v138 0#32 1#32 k) (ix2 r u) = ps v26 x1 b r k.val (256 + u.val) := by
  pointwise [k0_pay16, k0_pay9, k0_pay6, k0_pay13]
  rw [pick_sum1 k.val hk b (fun x => v138 (ix2 r x)) hb]
  unfold ps
  rw [← dot_hi i x1 k hk r v26 u, show (512 * k.val + (256 + u.val)) / 256 = 2 * k.val + 1 by have := u.isLt; omega]

include hk in
theorem s10 (hb : ∀ n : Fin 128, v142 (ix2 r n) = b n.val) (u : Fin 256) :
    k0_pay17 (k0_pay10 v28 (pairRows i k x1)) (k0_pay14 i lanes v142 0#32 1#32 k) (ix2 r u) = ps v28 x1 b r k.val u.val := by
  pointwise [k0_pay17, k0_pay10, k0_pay6, k0_pay14]
  rw [pick_sum0 k.val hk b (fun x => v142 (ix2 r x)) hb]
  unfold ps
  rw [← dot_lo i x1 k hk r v28 u, show (512 * k.val + u.val) / 256 = 2 * k.val by have := u.isLt; omega]

include hk in
theorem s11 (hb : ∀ n : Fin 128, v142 (ix2 r n) = b n.val) (u : Fin 256) :
    k0_pay18 lanes v142 (Scf.iv 0#32 1#32 k) (k0_pay11 v28 (pairRows i k x1)) (ix2 r u) = ps v28 x1 b r k.val (256 + u.val) := by
  pointwise [k0_pay18, k0_pay11, k0_pay6]
  rw [pick_sum1 k.val hk b (fun x => v142 (ix2 r x)) hb]
  unfold ps
  rw [← dot_hi i x1 k hk r v28 u, show (512 * k.val + (256 + u.val)) / 256 = 2 * k.val + 1 by have := u.isLt; omega]

/-- The new running maximum. -/
def newMax (q : FVec Ideal S256x128 .bf16) (x1 : Vec Ideal S1x8192x128 .bf16) (b : ℕ → EReal) (r : Fin 256) (k : ℕ) (m : EReal) : EReal :=
  max m (max (Finset.univ.fold max ⊥ fun u : Fin 256 => ps q x1 b r k u.val) (Finset.univ.fold max ⊥ fun u : Fin 256 => ps q x1 b r k (256 + u.val)))

include hk in
theorem trip_m0 (hb : ∀ n : Fin 128, v138 (ix2 r n) = b n.val) (z : Fin 1) :
    (tripVal i lanes v26 v28 v138 v142 x1 x2 k acc).1 (ix2 r z) = newMax v26 x1 b r k.val (acc.1 (ix2 r 0)) := by
  have hz : z = 0 := Subsingleton.elim _ _
  subst hz
  unfold tripVal newMax
  dsimp only
  simp only [← s00 i v26 v138 x1 k hk r b hb, ← s01 i v26 v138 x1 k hk r b hb]
  pointwise [k0_pay19]
  rw [negInf]

include hk in
theorem trip_m1 (hb : ∀ n : Fin 128, v142 (ix2 r n) = b n.val) (z : Fin 1) :
    (tripVal i lanes v26 v28 v138 v142 x1 x2 k acc).2.2.1 (ix2 r z) = newMax v28 x1 b r k.val (acc.2.2.1 (ix2 r 0)) := by
  have hz : z = 0 := Subsingleton.elim _ _
  subst hz
  unfold tripVal newMax
  dsimp only
  simp only [← s10 i v28 v142 x1 k hk r b hb, ← s11 i v28 v142 x1 k hk r b hb]
  pointwise [k0_pay20]
  rw [negInf]

theorem sum_halves (f : ℕ → EReal) : ∑ u : Fin 512, f u.val = (∑ u : Fin 256, f u.val) + ∑ u : Fin 256, f (256 + u.val) :=
  Fin.sum_univ_add (a := 256) (b := 256) (fun u => f u.val)

theorem sum_512 (f : ℕ → EReal) : ∑ u : Fin 512, f u.val = ∑ u ∈ Finset.range 512, f u := (Finset.sum_range f).symm

include hk in
theorem trip_a0 (hb : ∀ n : Fin 128, v138 (ix2 r n) = b n.val) (c : Fin 128) :
    (tripVal i lanes v26 v28 v138 v142 x1 x2 k acc).2.1 (ix2 r c)
      = Ideal.exp2 (acc.1 (ix2 r 0) - newMax v26 x1 b r k.val (acc.1 (ix2 r 0))) * acc.2.1 (ix2 r c)
        + ∑ u ∈ Finset.range 512, Ideal.exp2 (ps v26 x1 b r k.val u - newMax v26 x1 b r k.val (acc.1 (ix2 r 0)))
            * wt x2 0 c (512 * k.val + u) := by
  have hm := trip_m0 i v26 v28 v138 v142 x1 x2 k hk acc r b hb 0
  unfold tripVal at hm ⊢
  dsimp only at hm ⊢
  rw [← sum_512 fun u => Ideal.exp2 (ps v26 x1 b r k.val u - newMax v26 x1 b r k.val (acc.1 (ix2 r 0))) * wt x2 0 c (512 * k.val + u)]
  rw [← hm]
  pointwise [k0_pay1, k0_pay21, k0_pay23, k0_pay25, k0_pay7]
  rw [sum_halves fun u => Ideal.exp2 (ps v26 x1 b r k.val u - _) * wt x2 0 c (512 * k.val + u)]
  refine congrArg₂ (· + ·) rfl (congrArg₂ (· + ·) (Finset.sum_congr rfl fun u _ => ?_) (Finset.sum_congr rfl fun u _ => ?_))
  · rw [sel_head0, pairRows_apply i k hk, s00 i v26 v138 x1 k hk r b hb]
    refine congrArg₂ (· * ·) rfl ?_
    unfold wt
    rw [dif_pos (by have := u.isLt; omega)]
  · rw [sel_head0, pairRows_apply i k hk, s01 i v26 v138 x1 k hk r b hb]
    refine congrArg₂ (· * ·) rfl ?_
    unfold wt
    rw [dif_pos (by have := u.isLt; omega)]

include hk in
theorem trip_a1 (hb : ∀ n : Fin 128, v142 (ix2 r n) = b n.val) (c : Fin 128) :
    (tripVal i lanes v26 v28 v138 v142 x1 x2 k acc).2.2.2 (ix2 r c)
      = Ideal.exp2 (acc.2.2.1 (ix2 r 0) - newMax v28 x1 b r k.val (acc.2.2.1 (ix2 r 0))) * acc.2.2.2 (ix2 r c)
        + ∑ u ∈ Finset.range 512, Ideal.exp2 (ps v28 x1 b r k.val u - newMax v28 x1 b r k.val (acc.2.2.1 (ix2 r 0)))
            * wt x2 1 c (512 * k.val + u) := by
  have hm := trip_m1 i v26 v28 v138 v142 x1 x2 k hk acc r b hb 0
  unfold tripVal at hm ⊢
  dsimp only at hm ⊢
  rw [← sum_512 fun u => Ideal.exp2 (ps v28 x1 b r k.val u - newMax v28 x1 b r k.val (acc.2.2.1 (ix2 r 0))) * wt x2 1 c (512 * k.val + u)]
  rw [← hm]
  pointwise [k0_pay2, k0_pay22, k0_pay24, k0_pay7]
  rw [sum_halves fun u => Ideal.exp2 (ps v28 x1 b r k.val u - _) * wt x2 1 c (512 * k.val + u)]
  refine congrArg₂ (· + ·) rfl (congrArg₂ (· + ·) (Finset.sum_congr rfl fun u _ => ?_) (Finset.sum_congr rfl fun u _ => ?_))
  · rw [sel_head1, pairRows_apply i k hk, s10 i v28 v142 x1 k hk r b hb]
    refine congrArg₂ (· * ·) rfl ?_
    unfold wt
    rw [dif_pos (by have := u.isLt; omega)]
  · rw [sel_head1, pairRows_apply i k hk, s11 i v28 v142 x1 k hk r b hb]
    refine congrArg₂ (· * ·) rfl ?_
    unfold wt
    rw [dif_pos (by have := u.isLt; omega)]

end

end Cert.Moba
-- ==== Proof.MobaBias.lean ====
/-
  The kernel's selection read at an index: three rounds of "the first greatest block, if it is above minus infinity",
  each struck out before the next; the biases are zero at the blocks selected and minus infinity elsewhere.
-/
module

public import proofs.«01_k».proof.Proof.MobaTrip
public import Idealize.ShloMosaic.Lib.SortNet.Extract

@[expose] public section
noncomputable section
namespace Cert.Moba
open Idealize.ShloMosaic Idealize.ShloMosaic.WordCmp Idealize.SL.Sem Idealize.ShloMosaic.Pointwise Cert.KernelIdeal Cert.KernelIdeal.Gen
open scoped Classical

theorem fold_minsi_toInt (f : Fin 128 → BitVec 32) (s : Finset (Fin 128)) :
    (s.fold IntOp.minsi 2147483647#32 f).toInt = s.fold min (2147483647 : ℤ) fun x => (f x).toInt := by
  refine Finset.induction_on s ?_ fun a s ha ih => ?_
  · rfl
  · rw [Finset.fold_insert ha, Finset.fold_insert ha, Idealize.ShloMosaic.SortNet.toInt_minsi, ih]

theorem fold_max_eq_iff (w : Fin 128 → EReal) (n : Fin 128) :
    w n = Finset.univ.fold max ⊥ w ↔ ∀ a, w a ≤ w n := by
  constructor
  · intro h a
    rw [h]
    exact (Finset.le_fold_max (w a)).2 (Or.inr ⟨a, Finset.mem_univ _, le_rfl⟩)
  · intro h
    refine le_antisymm ((Finset.le_fold_max _).2 (Or.inr ⟨n, Finset.mem_univ _, le_rfl⟩)) ?_
    exact (Finset.fold_max_le _).2 ⟨bot_le, fun a _ => h a⟩

/-- One round's mark at block `n`. -/
theorem round_word (g : ℕ → EReal) (n : Fin 128) (w : Fin 128 → EReal) (hw : ∀ x, w x = g x.val) (M : EReal)
    (hM : M = Finset.univ.fold max (Ideal.ofBits .f32 0xFF800000#32) w) :
    IntOp.andi (IntOp.cmpi .eq (BitVec.ofNat 32 n.val)
        (Finset.univ.fold IntOp.minsi 2147483647#32 fun x : Fin 128 => if w x = M then BitVec.ofNat 32 x.val else 128#32))
      (BitVec.ofBool (decide (Ideal.ofBits .f32 0xFF800000#32 < w n))) = if Pick g 128 n.val then 1#1 else 0#1 := by
  subst hM
  rw [negInf]
  obtain ⟨Q, hQ⟩ : ∃ Q : Prop, Q ↔ ∀ a, a < 128 → ¬ Before g a n.val := ⟨_, Iff.rfl⟩
  have hc : IntOp.cmpi .eq (BitVec.ofNat 32 n.val)
        (Finset.univ.fold IntOp.minsi 2147483647#32 fun x : Fin 128 => if w x = Finset.univ.fold max ⊥ w then BitVec.ofNat 32 x.val else 128#32)
      = BitVec.ofBool (decide Q) := by
    refine congrArg BitVec.ofBool ?_
    show (BitVec.ofNat 32 n.val == _) = _
    rw [Bool.eq_iff_iff, beq_iff_eq, decide_eq_true_iff, hQ, ← BitVec.toInt_inj, fold_minsi_toInt,
      toInt_ofNat_of_lt (w := 32) (by have := n.isLt; omega)]
    have hf : ∀ x : Fin 128, (if w x = Finset.univ.fold max ⊥ w then BitVec.ofNat 32 x.val else 128#32).toInt
        = if ∀ a, w a ≤ w x then (x.val : ℤ) else 128 := by
      intro x
      by_cases h : w x = Finset.univ.fold max ⊥ w
      · rw [if_pos h, if_pos ((fold_max_eq_iff w x).1 h), toInt_ofNat_of_lt (w := 32) (by have := x.isLt; omega)]
      · rw [if_neg h, if_neg fun h' => h ((fold_max_eq_iff w x).2 h')]; rfl
    simp only [hf]
    constructor
    · intro h
      have h1 := (Finset.le_fold_min (n.val : ℤ)).1 h.le
      have h2 := (Finset.fold_min_le (n.val : ℤ)).1 h.ge
      have h3 : ∀ x : Fin 128, (∀ a, w a ≤ w x) → n.val ≤ x.val := by
        intro x hx
        have := h1.2 x (Finset.mem_univ _)
        rw [if_pos hx] at this
        exact_mod_cast this
      have hn := n.isLt
      have h4 : ∀ a, w a ≤ w n := by
        rcases h2 with h2 | ⟨x, _, hx⟩
        · omega
        · split at hx
          · next hq =>
            have : x = n := Fin.ext (le_antisymm (by exact_mod_cast hx) (h3 x hq))
            rwa [this] at hq
          · omega
      intro a ha hb
      rcases hb with hb | ⟨hb, hlt⟩
      · have := h4 ⟨a, ha⟩
        rw [hw, hw] at this
        exact absurd this (not_le.2 hb)
      · have := h3 ⟨a, ha⟩ fun b => by
          rw [hw ⟨a, ha⟩, hb, ← hw n]; exact h4 b
        simp only at this
        omega
    · intro h
      have hn := n.isLt
      have h4 : ∀ a, w a ≤ w n := by
        intro a
        rw [hw, hw]
        exact not_lt.1 fun h' => h a.val a.isLt (Or.inl h')
      refine le_antisymm ((Finset.le_fold_min _).2 ⟨by omega, fun x _ => ?_⟩) ((Finset.fold_min_le _).2 (Or.inr ⟨n, Finset.mem_univ _, by rw [if_pos h4]⟩))
      split
      · next hq =>
        have he : g x.val = g n.val := by rw [← hw, ← hw]; exact le_antisymm (h4 x) (hq n)
        have : ¬ x.val < n.val := fun hl => h x.val x.isLt (Or.inr ⟨he, hl⟩)
        omega
      · omega
  rw [hc, andi_ofBool, hw n]
  have hP : Pick g 128 n.val ↔ Q ∧ ⊥ < g n.val := by rw [hQ]; rfl
  by_cases h1 : Q <;> by_cases h2 : ⊥ < g n.val
  · rw [if_pos (hP.2 ⟨h1, h2⟩), decide_eq_true h1, decide_eq_true h2]; rfl
  · rw [if_neg fun h => h2 (hP.1 h).2, decide_eq_true h1, decide_eq_false h2]; rfl
  · rw [if_neg fun h => h1 (hP.1 h).1, decide_eq_false h1, decide_eq_true h2]; rfl
  · rw [if_neg fun h => h1 (hP.1 h).1, decide_eq_false h1, decide_eq_false h2]; rfl

section
variable (g : ℕ → EReal) (z : Fin 256) (n : Fin 128)

theorem pick58 (v : FVec Ideal S128x256 .f32) (hv : ∀ x : Fin 128, v (ix2 x z) = g x.val) :
    k0_pay58 brows v (ix2 n z) = if Pick g 128 n.val then 1#1 else 0#1 := by
  refine Eq.trans ?_ (round_word g n (fun x => v (ix2 x z)) hv _ rfl)
  pointwise [k0_pay58]

theorem strike62 (v : FVec Ideal S128x256 .f32) (hv : ∀ x : Fin 128, v (ix2 x z) = g x.val) :
    k0_pay62 brows v (ix2 n z) = strike g 128 n.val := by
  pointwise [k0_pay62]
  rw [pick58 g z n v hv, negInf, hv]
  unfold strike
  split <;> rfl

theorem pick66 (v v72 : FVec Ideal S128x256 .f32) (h72 : k0_pay62 brows v = v72) (hv : ∀ x : Fin 128, v72 (ix2 x z) = g x.val) :
    k0_pay66 brows v72 (k0_pay65 brows v) 128#32 (ix2 n z) = if Pick g 128 n.val then 1#1 else 0#1 := by
  refine Eq.trans ?_ (round_word g n (fun x => v72 (ix2 x z)) hv _ rfl)
  subst h72
  pointwise [k0_pay66, k0_pay65]

theorem strike70 (v v72 : FVec Ideal S128x256 .f32) (h72 : k0_pay62 brows v = v72) (hv : ∀ x : Fin 128, v72 (ix2 x z) = g x.val) :
    k0_pay70 brows v72 (k0_pay65 brows v) 128#32 (ix2 n z) = strike g 128 n.val := by
  pointwise [k0_pay70]
  rw [pick66 g z n v v72 h72 hv, negInf, hv]
  unfold strike
  split <;> rfl

theorem pick73 (v72 : FVec Ideal S128x256 .f32) (v80 : IVec S128x256 1) (hv : ∀ x : Fin 128, k0_pay70 brows v72 v80 128#32 (ix2 x z) = g x.val) :
    IntOp.andi (k0_pay73 brows v72 v80 128#32 (ix2 n z)) (k0_pay74 brows v72 v80 128#32 (ix2 n z)) = if Pick g 128 n.val then 1#1 else 0#1 := by
  refine Eq.trans ?_ (round_word g n (fun x => k0_pay70 brows v72 v80 128#32 (ix2 x z)) hv _ rfl)
  pointwise [k0_pay73, k0_pay74]

theorem or3 (p q s : Prop) (a b : EReal) :
    Scalar.select (IntOp.ori (IntOp.ori 0#1 (if p then 1#1 else 0#1)) (if q then 1#1 else 0#1) |> fun w => IntOp.ori w (if s then 1#1 else 0#1)) a b
      = if p ∨ q ∨ s then a else b := by
  by_cases hp : p <;> by_cases hq : q <;> by_cases hs : s <;> simp [hp, hq, hs, Scalar.select, IntOp.ori]

end

/-- The gate scores of a row of queries, over all the natural numbers. -/
def gate (i : grid0.Coords) (q : FVec Ideal S256x128 .bf16) (x3 : Vec Ideal S1x128x128 .f32) (r : Fin 256) (n : ℕ) : EReal :=
  if h : n < 128 then (if n < (i 2).val then ∑ d : Fin 128, x3 (ix3 0 ⟨n, h⟩ d) * q (ix2 r d) else ⊥) else ⊥

theorem gate54 (i : grid0.Coords) (x0 : Vec Ideal S1x256x128 .bf16) (x3 : Vec Ideal S1x128x128 .f32) (r : Fin 256) (n : Fin 128) :
    k0_pay54 i x0 x3 (ix2 n r) = gate i (k0_pay52 x0) x3 r n.val := by
  have h2 : (i 2).val < 32 := (i 2).isLt
  have hn := n.isLt
  unfold gate
  rw [dif_pos hn]
  pointwise [k0_pay54, k0_pay47]
  rw [negInf, sel_slt_word _ _ (by omega) (by omega)]

theorem gate57 (i : grid0.Coords) (x0 : Vec Ideal S1x256x128 .bf16) (x3 : Vec Ideal S1x128x128 .f32) (r : Fin 256) (n : Fin 128) :
    k0_pay57 (k0_pay53 x0) (k0_pay55 i) (k0_pay56 x3) (ix2 n r) = gate i (k0_pay53 x0) x3 r n.val := by
  have h2 : (i 2).val < 32 := (i 2).isLt
  have hn := n.isLt
  unfold gate
  rw [dif_pos hn]
  pointwise [k0_pay57, k0_pay55, k0_pay56, k0_pay47]
  rw [negInf, sel_slt_word _ _ (by omega) (by omega)]

theorem bias0_apply (i : grid0.Coords) (x0 : Vec Ideal S1x256x128 .bf16) (x3 : Vec Ideal S1x128x128 .f32) (r : Fin 256) (n : Fin 128) :
    bias0 i x0 x3 (ix2 r n) = if Sel (gate i (k0_pay52 x0) x3 r) 128 n.val then 0 else ⊥ := by
  unfold bias0
  pointwise [k0_pay75, k0_pay68, k0_pay60]
  rw [pick73 (strike (strike (gate i (k0_pay52 x0) x3 r) 128) 128) r n _ _ (fun x =>
      strike70 _ r x _ _ rfl fun x => strike62 _ r x _ fun x => gate54 i x0 x3 r x),
    pick66 _ r n _ _ rfl (fun x => strike62 _ r x _ fun x => gate54 i x0 x3 r x), pick58 _ r n _ (fun x => gate54 i x0 x3 r x), maskVal]
  refine (or3 _ _ _ _ _).trans ?_
  simp only [rounds_iff]

theorem bias1_apply (i : grid0.Coords) (x0 : Vec Ideal S1x256x128 .bf16) (x3 : Vec Ideal S1x128x128 .f32) (r : Fin 256) (n : Fin 128) :
    bias1 i x0 x3 (ix2 r n) = if Sel (gate i (k0_pay53 x0) x3 r) 128 n.val then 0 else ⊥ := by
  have e58 : k0_pay59 brows (k0_pay53 x0) (k0_pay55 i) (k0_pay56 x3) = k0_pay58 brows (k0_pay57 (k0_pay53 x0) (k0_pay55 i) (k0_pay56 x3)) := rfl
  have e62 : k0_pay63 brows (k0_pay53 x0) (k0_pay55 i) (k0_pay56 x3) = k0_pay62 brows (k0_pay57 (k0_pay53 x0) (k0_pay55 i) (k0_pay56 x3)) := rfl
  have e66 : k0_pay67 brows (k0_pay63 brows (k0_pay53 x0) (k0_pay55 i) (k0_pay56 x3)) (k0_pay64 brows (k0_pay53 x0) (k0_pay55 i) (k0_pay56 x3))
      = k0_pay66 brows (k0_pay62 brows (k0_pay57 (k0_pay53 x0) (k0_pay55 i) (k0_pay56 x3))) (k0_pay65 brows (k0_pay57 (k0_pay53 x0) (k0_pay55 i) (k0_pay56 x3))) 128#32 := rfl
  have e : bias1 i x0 x3 = k0_pay75 (k0_pay68 brows (k0_pay60 brows (k0_pay57 (k0_pay53 x0) (k0_pay55 i) (k0_pay56 x3)))
      (k0_pay62 brows (k0_pay57 (k0_pay53 x0) (k0_pay55 i) (k0_pay56 x3))) (k0_pay65 brows (k0_pay57 (k0_pay53 x0) (k0_pay55 i) (k0_pay56 x3))) 128#32)
      (k0_pay73 brows (k0_pay62 brows (k0_pay57 (k0_pay53 x0) (k0_pay55 i) (k0_pay56 x3))) (k0_pay65 brows (k0_pay57 (k0_pay53 x0) (k0_pay55 i) (k0_pay56 x3))) 128#32)
      (k0_pay74 brows (k0_pay62 brows (k0_pay57 (k0_pay53 x0) (k0_pay55 i) (k0_pay56 x3))) (k0_pay65 brows (k0_pay57 (k0_pay53 x0) (k0_pay55 i) (k0_pay56 x3))) 128#32) := rfl
  rw [e]
  pointwise [k0_pay75, k0_pay68, k0_pay60]
  rw [pick73 (strike (strike (gate i (k0_pay53 x0) x3 r) 128) 128) r n _ _ (fun x =>
      strike70 _ r x _ _ rfl fun x => strike62 _ r x _ fun x => gate57 i x0 x3 r x),
    pick66 _ r n _ _ rfl (fun x => strike62 _ r x _ fun x => gate57 i x0 x3 r x), pick58 _ r n _ (fun x => gate57 i x0 x3 r x), maskVal]
  refine (or3 _ _ _ _ _).trans ?_
  simp only [rounds_iff]

end Cert.Moba
-- ==== Proof.MobaRow.lean ====
/-
  A row of one point of the kernel: what the loop leaves in the running maximum and the accumulator, and so the row of
  the output block as the masked softmax over all the keys.
-/
module

public import proofs.«01_k».proof.Proof.MobaBias

@[expose] public section
noncomputable section
namespace Cert.Moba
open Idealize.ShloMosaic Idealize.ShloMosaic.WordCmp Idealize.SL.Sem Idealize.ShloMosaic.Pointwise Cert.KernelIdeal Cert.KernelIdeal.Gen
open scoped Classical

/-- A score of the own block under the causal mask. -/
def own (q : FVec Ideal S256x128 .bf16) (x1 : Vec Ideal S1x8192x128 .bf16) (n : ℕ) (r : Fin 256) (u : ℕ) : EReal :=
  if u ≤ r.val then sc q x1 r (256 * n + u) else ⊥

theorem wt_own (x2 : Vec Ideal S1x8192x128 .bf16) (hh : ℕ) (c : Fin 128) (t : ℕ) (h : t < 8192) :
    wt x2 hh c t = if c.val / 64 = hh then x2 (ix3 0 ⟨t, h⟩ c) else 1 := by
  unfold wt
  rw [dif_pos h]

theorem start_max0 (x0 y1 y2 : Vec Ideal S1x256x128 .bf16) : (start x0 y1 y2).1 = k0_pay79 qpos kpos (k0_pay48 y1) (k0_pay52 x0) := by
  unfold start
  dsimp only

theorem start_max1 (x0 y1 y2 : Vec Ideal S1x256x128 .bf16) : (start x0 y1 y2).2.2.1 = k0_pay80 qpos kpos (k0_pay48 y1) (k0_pay53 x0) := by
  unfold start
  dsimp only

section
variable (i : grid0.Coords) (x0 : Vec Ideal S1x256x128 .bf16) (x1 x2 : Vec Ideal S1x8192x128 .bf16) (r : Fin 256)

theorem own_dot (q : FVec Ideal S256x128 .bf16) (u : Fin 256) :
    ∑ x : Fin 128, q (ix2 r x) * ownRows i x1 (ix3 0 u x) = sc q x1 r (256 * (i 2).val + u.val) := by
  have h2 : (i 2).val < 32 := (i 2).isLt
  unfold sc
  rw [dif_pos (by have := u.isLt; omega)]
  exact Finset.sum_congr rfl fun d _ => by rw [ownRows_apply i]

theorem own77 (q : FVec Ideal S256x128 .bf16) (u : Fin 256) :
    k0_pay77 qpos kpos (k0_pay48 (ownRows i x1)) q (ix2 r u) = own q x1 (i 2).val r u.val := by
  pointwise [k0_pay77, k0_pay48]
  rw [own_dot i x1 r q u, sel_sle_word _ _ (by have := u.isLt; omega) (by have := r.isLt; omega), maskVal]
  rfl

theorem own78 (q : FVec Ideal S256x128 .bf16) (u : Fin 256) :
    k0_pay78 qpos kpos (k0_pay48 (ownRows i x1)) q (ix2 r u) = own q x1 (i 2).val r u.val := by
  pointwise [k0_pay78, k0_pay48]
  rw [own_dot i x1 r q u, sel_sle_word _ _ (by have := u.isLt; omega) (by have := r.isLt; omega), maskVal]
  rfl

theorem start_m0 :
    (start x0 (ownRows i x1) (ownRows i x2)).1 (ix2 r 0) = Finset.univ.fold max ⊥ fun u : Fin 256 => own (k0_pay52 x0) x1 (i 2).val r u.val := by
  simp only [← own77 i x1 r]
  unfold start
  pointwise [k0_pay79]
  rw [negInf]

theorem start_m1 :
    (start x0 (ownRows i x1) (ownRows i x2)).2.2.1 (ix2 r 0) = Finset.univ.fold max ⊥ fun u : Fin 256 => own (k0_pay53 x0) x1 (i 2).val r u.val := by
  simp only [← own78 i x1 r]
  unfold start
  pointwise [k0_pay80]
  rw [negInf]

theorem sum81 (q v13 : FVec Ideal S256x128 .bf16) (y : Vec Ideal S1x256x128 .bf16) (c : Fin 128) :
    k0_pay81 qpos kpos v13 (k0_pay49 y) k0_pay50 q (ix2 r c)
      = ∑ u : Fin 256, Ideal.exp2 (k0_pay77 qpos kpos v13 q (ix2 r u) - k0_pay79 qpos kpos v13 q (ix2 r 0))
          * (if c.val / 64 = 0 then y (ix3 0 u c) else 1) := by
  pointwise [k0_pay81, k0_pay50, k0_pay49]
  refine Finset.sum_congr rfl fun u _ => ?_
  rw [sel_head0]; rfl

theorem start_a0 (c : Fin 128) :
    (start x0 (ownRows i x1) (ownRows i x2)).2.1 (ix2 r c)
      = ∑ u ∈ Finset.range 256, Ideal.exp2 (own (k0_pay52 x0) x1 (i 2).val r u - (start x0 (ownRows i x1) (ownRows i x2)).1 (ix2 r 0))
          * wt x2 0 c (256 * (i 2).val + u) := by
  have h2 : (i 2).val < 32 := (i 2).isLt
  have e := start_max0 x0 (ownRows i x1) (ownRows i x2)
  rw [Finset.sum_range, e]
  refine (sum81 r (k0_pay52 x0) (k0_pay48 (ownRows i x1)) (ownRows i x2) c).trans ?_
  refine Finset.sum_congr rfl fun u _ => ?_
  rw [own77 i x1 r, ownRows_apply]
  rw [wt_own x2 0 c (256 * (i 2).val + u.val) (by have := u.isLt; omega)]

theorem sum82 (q v13 : FVec Ideal S256x128 .bf16) (y : Vec Ideal S1x256x128 .bf16) (c : Fin 128) :
    k0_pay82 qpos kpos v13 (k0_pay49 y) k0_pay51 q (ix2 r c)
      = ∑ u : Fin 256, Ideal.exp2 (k0_pay78 qpos kpos v13 q (ix2 r u) - k0_pay80 qpos kpos v13 q (ix2 r 0))
          * (if c.val / 64 = 1 then y (ix3 0 u c) else 1) := by
  pointwise [k0_pay82, k0_pay51, k0_pay49]
  refine Finset.sum_congr rfl fun u _ => ?_
  rw [sel_head1]; rfl

theorem start_a1 (c : Fin 128) :
    (start x0 (ownRows i x1) (ownRows i x2)).2.2.2 (ix2 r c)
      = ∑ u ∈ Finset.range 256, Ideal.exp2 (own (k0_pay53 x0) x1 (i 2).val r u - (start x0 (ownRows i x1) (ownRows i x2)).2.2.1 (ix2 r 0))
          * wt x2 1 c (256 * (i 2).val + u) := by
  have h2 : (i 2).val < 32 := (i 2).isLt
  have e := start_max1 x0 (ownRows i x1) (ownRows i x2)
  rw [Finset.sum_range, e]
  refine (sum82 r (k0_pay53 x0) (k0_pay48 (ownRows i x1)) (ownRows i x2) c).trans ?_
  refine Finset.sum_congr rfl fun u _ => ?_
  rw [own78 i x1 r, ownRows_apply]
  rw [wt_own x2 1 c (256 * (i 2).val + u.val) (by have := u.isLt; omega)]

/-- A greatest element of scores below plus infinity, one of them above minus infinity, is a real number. -/
theorem real_of_ne (x : EReal) (h : x ≠ ⊥ ∧ x ≠ ⊤) : ∃ m : ℝ, x = m := ⟨x.toReal, (EReal.coe_toReal h.2 h.1).symm⟩

theorem own_max_real (q : FVec Ideal S256x128 .bf16) (n : ℕ) (hn : n < 32) (hs : ∀ t, sc q x1 r t ≠ ⊤) (hs' : ∀ t, t < 8192 → sc q x1 r t ≠ ⊥) :
    ∃ m : ℝ, (Finset.univ.fold max ⊥ fun u : Fin 256 => own q x1 n r u.val) = (m : EReal) := by
  refine real_of_ne _ (fold_max_real Finset.univ _ ?_ r (Finset.mem_univ _) ?_)
  · intro u _
    unfold own
    split
    · exact hs _
    · exact bot_ne_top
  · unfold own
    rw [if_pos le_rfl]
    exact hs' _ (by have := r.isLt; omega)

theorem ps_ne_top (q : FVec Ideal S256x128 .bf16) (sel : ℕ → Prop) (hs : ∀ t, sc q x1 r t ≠ ⊤) (k u : ℕ) :
    ps q x1 (fun n => if sel n then 0 else ⊥) r k u ≠ ⊤ := by
  unfold ps
  by_cases h : sel ((512 * k + u) / 256)
  · simp only [h, if_true, add_zero]; exact hs _
  · simp only [h, if_false, EReal.add_bot]; exact bot_ne_top

theorem newMax_real (q : FVec Ideal S256x128 .bf16) (sel : ℕ → Prop) (hs : ∀ t, sc q x1 r t ≠ ⊤) (k : ℕ) (m : ℝ) :
    ∃ m' : ℝ, newMax q x1 (fun n => if sel n then 0 else ⊥) r k (m : EReal) = (m' : EReal) := by
  unfold newMax
  refine real_of_ne _ (max_real _ _ (EReal.coe_ne_bot m) (EReal.coe_ne_top m) ?_)
  refine ne_of_lt (max_lt (lt_top_iff_ne_top.2 ?_) (lt_top_iff_ne_top.2 ?_))
  · exact fold_max_ne_top _ _ fun u _ => ps_ne_top x1 r q sel hs k _
  · exact fold_max_ne_top _ _ fun u _ => ps_ne_top x1 r q sel hs k _

theorem after_row0 (v28 : FVec Ideal S256x128 .bf16) (v138 v142 : FVec Ideal S256x128 .f32) (sel : ℕ → Prop)
    (hb : ∀ n : Fin 128, v138 (ix2 r n) = if sel n.val then 0 else ⊥)
    (hs : ∀ t, sc (k0_pay52 x0) x1 r t ≠ ⊤) (hs' : ∀ t, t < 8192 → sc (k0_pay52 x0) x1 r t ≠ ⊥) (k : ℕ) (hk : k ≤ ((i 2).val + 1) / 2) :
    ∃ m : ℝ, (after i lanes (k0_pay52 x0) v28 v138 v142 x1 x2 (start x0 (ownRows i x1) (ownRows i x2)) k).1 (ix2 r 0) = (m : EReal) ∧
      ∀ c, (after i lanes (k0_pay52 x0) v28 v138 v142 x1 x2 (start x0 (ownRows i x1) (ownRows i x2)) k).2.1 (ix2 r c)
        = partialSum (i 2).val r.val sel (sc (k0_pay52 x0) x1 r) (wt x2 0 c) m k := by
  have h2 : (i 2).val < 32 := (i 2).isLt
  induction k with
  | zero =>
    obtain ⟨m, hm⟩ := own_max_real x1 r (k0_pay52 x0) (i 2).val h2 hs hs'
    refine ⟨m, (start_m0 i x0 x1 x2 r).trans hm, fun c => ?_⟩
    refine (start_a0 i x0 x1 x2 r c).trans ?_
    rw [start_m0, hm]
    unfold partialSum own
    simp
  | succ k ih =>
    obtain ⟨m, hm, ha⟩ := ih (by omega)
    have ht : k < (k0_t1_loop i).trips := by rw [t1_trips]; omega
    obtain ⟨m', hm'⟩ := newMax_real x1 r (k0_pay52 x0) sel hs k m
    rw [after, dif_pos ht]
    refine ⟨m', ?_, fun c => ?_⟩
    · refine (trip_m0 i _ v28 v138 v142 x1 x2 ⟨k, ht⟩ (by show k < 16; omega) _ r (fun n => if sel n then 0 else ⊥) hb 0).trans ?_
      rw [hm, hm']
    · refine (trip_a0 i _ v28 v138 v142 x1 x2 ⟨k, ht⟩ (by show k < 16; omega) _ r (fun n => if sel n then 0 else ⊥) hb c).trans ?_
      rw [hm, hm', ha c]
      exact partialSum_succ _ _ _ _ _ m m' k hs

theorem after_row1 (v26 : FVec Ideal S256x128 .bf16) (v138 v142 : FVec Ideal S256x128 .f32) (sel : ℕ → Prop)
    (hb : ∀ n : Fin 128, v142 (ix2 r n) = if sel n.val then 0 else ⊥)
    (hs : ∀ t, sc (k0_pay53 x0) x1 r t ≠ ⊤) (hs' : ∀ t, t < 8192 → sc (k0_pay53 x0) x1 r t ≠ ⊥) (k : ℕ) (hk : k ≤ ((i 2).val + 1) / 2) :
    ∃ m : ℝ, (after i lanes v26 (k0_pay53 x0) v138 v142 x1 x2 (start x0 (ownRows i x1) (ownRows i x2)) k).2.2.1 (ix2 r 0) = (m : EReal) ∧
      ∀ c, (after i lanes v26 (k0_pay53 x0) v138 v142 x1 x2 (start x0 (ownRows i x1) (ownRows i x2)) k).2.2.2 (ix2 r c)
        = partialSum (i 2).val r.val sel (sc (k0_pay53 x0) x1 r) (wt x2 1 c) m k := by
  have h2 : (i 2).val < 32 := (i 2).isLt
  induction k with
  | zero =>
    obtain ⟨m, hm⟩ := own_max_real x1 r (k0_pay53 x0) (i 2).val h2 hs hs'
    refine ⟨m, (start_m1 i x0 x1 x2 r).trans hm, fun c => ?_⟩
    refine (start_a1 i x0 x1 x2 r c).trans ?_
    rw [start_m1, hm]
    unfold partialSum own
    simp
  | succ k ih =>
    obtain ⟨m, hm, ha⟩ := ih (by omega)
    have ht : k < (k0_t1_loop i).trips := by rw [t1_trips]; omega
    obtain ⟨m', hm'⟩ := newMax_real x1 r (k0_pay53 x0) sel hs k m
    rw [after, dif_pos ht]
    refine ⟨m', ?_, fun c => ?_⟩
    · refine (trip_m1 i v26 _ v138 v142 x1 x2 ⟨k, ht⟩ (by show k < 16; omega) _ r (fun n => if sel n then 0 else ⊥) hb 0).trans ?_
      rw [hm, hm']
    · refine (trip_a1 i v26 _ v138 v142 x1 x2 ⟨k, ht⟩ (by show k < 16; omega) _ r (fun n => if sel n then 0 else ⊥) hb c).trans ?_
      rw [hm, hm', ha c]
      exact partialSum_succ _ _ _ _ _ m m' k hs

end

/-- The masked softmax of a row's scores applied to a column of values. -/
def attend (i r : ℕ) (g s v : ℕ → EReal) (M : ℝ) : EReal :=
  ∑ t ∈ Finset.range 8192, Ideal.div (Ideal.exp2 (maskedScore i r (Sel g 128) s t - M))
    (∑ z ∈ Finset.range 8192, Ideal.exp2 (maskedScore i r (Sel g 128) s z - M)) * v t

/-- The queries of the lane's own head. -/
def headQ (x0 : Vec Ideal S1x256x128 .bf16) (c : Fin 128) : FVec Ideal S256x128 .bf16 := if c.val < 64 then k0_pay52 x0 else k0_pay53 x0

/-- The value lane `c` at key `t`. -/
def lane (x2 : Vec Ideal S1x8192x128 .bf16) (c : Fin 128) (t : ℕ) : EReal := if h : t < 8192 then x2 (ix3 0 ⟨t, h⟩ c) else 0

theorem gate_sel_lt (i : grid0.Coords) (q : FVec Ideal S256x128 .bf16) (x3 : Vec Ideal S1x128x128 .f32) (r : Fin 256) (n : ℕ)
    (h : Sel (gate i q x3 r) 128 n) : n < (i 2).val := by
  by_contra hn
  have h1 := h.1
  have h0 : gate i q x3 r n = ⊥ := by
    unfold gate
    by_cases h : n < 128
    · rw [dif_pos h, if_neg hn]
    · rw [dif_neg h]
  rw [h0] at h1
  exact lt_irrefl _ h1

theorem sel_slt_64 {α : Type} (z : Fin 128) (a b : α) :
    Scalar.select (IntOp.cmpi .slt (BitVec.ofNat 32 z.val) 64#32) a b = if z.val < 64 then a else b :=
  sel_slt_word z.val 64 (by have := z.isLt; omega) (by decide) a b

/-- **A place of the output block is the masked softmax of its row, for every real number taken off the scores.** -/
theorem out_apply (c : Dev nD) (i : grid0.Coords) (arg3 : Memref sig .tc .vmem S1x256x128 .bf16) (harg3 : arg3.IsWhole) (arg4 : Memref sig .tc .vmem S1x8192x128 .bf16) (harg4 : arg4.IsWhole)
    (arg5 : Memref sig .tc .vmem S1x8192x128 .bf16) (harg5 : arg5.IsWhole) (arg6 : Memref sig .tc .vmem S1x128x128 .f32) (harg6 : arg6.IsWhole)
    (arg7 : Memref sig .tc .vmem S1x256x128 .bf16) (harg7 : arg7.IsWhole)
    (x0 : Vec Ideal S1x256x128 .bf16) (x1 x2 : Vec Ideal S1x8192x128 .bf16) (x3 : Vec Ideal S1x128x128 .f32) (r : Fin 256) (z : Fin 128) (M : ℝ)
    (hs : ∀ t, sc (headQ x0 z) x1 r t ≠ ⊤) (hs' : ∀ t, t < 8192 → sc (headQ x0 z) x1 r t ≠ ⊥) :
    out0_A_4 (F := Ideal) c i arg3 harg3 arg4 harg4 arg5 harg5 arg6 harg6 arg7 harg7 x0 x1 x2 x3 (ix3 0 r z)
      = attend (i 2).val r.val (gate i (headQ x0 z) x3 r) (sc (headQ x0 z) x1 r) (lane x2 z) M := by
  have h2 : (i 2).val < 32 := (i 2).isLt
  have hz := z.isLt
  rw [out_open]
  pointwise [k0_pay5]
  rw [sel_slt_64]
  unfold headQ at hs hs' ⊢
  by_cases hh : z.val < 64
  · simp only [hh, if_true] at hs hs' ⊢
    obtain ⟨m, -, ha⟩ := after_row0 i x0 x1 x2 r (k0_pay53 x0) (bias0 i x0 x3) (bias1 i x0 x3) (Sel (gate i (k0_pay52 x0) x3 r) 128)
      (bias0_apply i x0 x3 r) hs hs' (((i 2).val + 1) / 2) le_rfl
    rw [ha, ha]
    have e1 : wt x2 0 z = lane x2 z := funext fun t => by unfold wt lane; rw [if_pos (by omega)]
    have e2 : wt x2 0 ⟨(z.val + 128 - 64) % 128, Nat.mod_lt _ (by decide)⟩ = fun _ => 1 := funext fun t => by
      unfold wt; rw [if_neg (by show ¬ (z.val + 128 - 64) % 128 / 64 = 0; omega)]
    rw [e1, e2]
    exact row_eq _ _ _ _ _ m M h2 r.isLt (fun n hn => gate_sel_lt i _ x3 r n hn) hs hs'
  · simp only [hh, if_false] at hs hs' ⊢
    obtain ⟨m, -, ha⟩ := after_row1 i x0 x1 x2 r (k0_pay52 x0) (bias0 i x0 x3) (bias1 i x0 x3) (Sel (gate i (k0_pay53 x0) x3 r) 128)
      (bias1_apply i x0 x3 r) hs hs' (((i 2).val + 1) / 2) le_rfl
    rw [ha, ha]
    have e1 : wt x2 1 z = lane x2 z := funext fun t => by unfold wt lane; rw [if_pos (by omega)]
    have e2 : wt x2 1 ⟨(z.val + 128 - 64) % 128, Nat.mod_lt _ (by decide)⟩ = fun _ => 1 := funext fun t => by
      unfold wt; rw [if_neg (by show ¬ (z.val + 128 - 64) % 128 / 64 = 1; omega)]
    rw [e1, e2]
    exact row_eq _ _ _ _ _ m M h2 r.isLt (fun n hn => gate_sel_lt i _ x3 r n hn) hs hs'

end Cert.Moba
-- ==== Proof.MobaArray.lean ====
/-
  The array that the call leaves: at every batch, position and column the masked softmax of the arguments.
-/
module

public import proofs.«01_k».proof.Proof.MobaRow
public import Idealize.ShloMosaic.Lib.Pipeline.ValueKit
public import Idealize.ShloMosaic.Lib.Claim

@[expose] public section
noncomputable section
namespace Cert.Moba
open Idealize.ShloMosaic Idealize.ShloMosaic.TcCoe Idealize.ShloMosaic.WordCmp Idealize.SL.Sem Idealize.ShloMosaic.Pointwise Cert.KernelIdeal Cert.KernelIdeal.Gen
open scoped Classical

/-! ## The arguments at natural numbers, and what is claimed of them -/

/-- A row and a column of the queries, keys or values. -/
def at2 (x : Vec Ideal S32768x512 .bf16) (row col : ℕ) : EReal :=
  if h : row < 32768 ∧ col < 512 then x (ix2 ⟨row, h.1⟩ ⟨col, h.2⟩) else 0

/-- A row and a column of the mean keys. -/
def km2 (x : Vec Ideal S128x1x512 .f32) (row col : ℕ) : EReal :=
  if h : row < 128 ∧ col < 512 then x (ix3 ⟨row, h.1⟩ 0 ⟨col, h.2⟩) else 0

/-- The score of the key at position `t` for the query at position `s`, in batch `b` and head `h`. -/
def score (q k : Vec Ideal S32768x512 .bf16) (b h s t : ℕ) : EReal :=
  if t < 8192 then ∑ d : Fin 64, at2 q (8192 * b + s) (64 * h + d.val) * at2 k (8192 * b + t) (64 * h + d.val) else 0

/-- The gate's score of block `n` for the query at position `s`: minus infinity unless the block is a past one. -/
def gateAt (q : Vec Ideal S32768x512 .bf16) (km : Vec Ideal S128x1x512 .f32) (b h s n : ℕ) : EReal :=
  if n < s / 256 then ∑ d : Fin 64, km2 km (32 * b + n) (64 * h + d.val) * at2 q (8192 * b + s) (64 * h + d.val) else ⊥

/-- A column of the values. -/
def valAt (v : Vec Ideal S32768x512 .bf16) (b col t : ℕ) : EReal := if t < 8192 then at2 v (8192 * b + t) col else 0

/-- The attention's result at a batch, a position and a column, a number `M` taken off the scores. -/
def attnAt (q k v : Vec Ideal S32768x512 .bf16) (km : Vec Ideal S128x1x512 .f32) (b s col : ℕ) (M : ℝ) : EReal :=
  attend (s / 256) (s % 256) (gateAt q km b (col / 64) s) (score q k b (col / 64) s) (valAt v b col) M

/-! ## The host's reshapes and pad, and the windows' blocks -/

/-- The windows' block indices at a point. -/
theorem wins : ∀ (t : Fin cfg0.N),
    win0_0.index t = ![(grid0.coords t 0).val, (grid0.coords t 2).val, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val]
    ∧ win0_4.index t = ![(grid0.coords t 0).val, (grid0.coords t 2).val, (grid0.coords t 1).val] :=
  (by decide +kernel : ∀ t : Fin grid0.N, _)

section
variable (m : (ℓ : Loc nD τ sig) → Buf (Elt Ideal) ℓ) (c : Dev nD) (t : Fin cfg0.N)

theorem V0 : V m c main_v0 = shapeCast S4x8192x512 (m ((c : Thread nD τ).loc main_arg0) : Vec Ideal S32768x512 .bf16) shapeCasts_S32768x512_S4x8192x512 := by
  show StableHlo.after _ _ _ = _
  simp only [hostOps0, hostOps0_1, List.flatten_cons, List.flatten_nil, List.append_nil, List.cons_append, List.nil_append]
  after_results
  rfl

theorem V1 : V m c main_v1 = shapeCast S4x8192x512 (m ((c : Thread nD τ).loc main_arg1) : Vec Ideal S32768x512 .bf16) shapeCasts_S32768x512_S4x8192x512 := by
  show StableHlo.after _ _ _ = _
  simp only [hostOps0, hostOps0_1, List.flatten_cons, List.flatten_nil, List.append_nil, List.cons_append, List.nil_append]
  after_results
  rfl

theorem V2 : V m c main_v2 = shapeCast S4x8192x512 (m ((c : Thread nD τ).loc main_arg2) : Vec Ideal S32768x512 .bf16) shapeCasts_S32768x512_S4x8192x512 := by
  show StableHlo.after _ _ _ = _
  simp only [hostOps0, hostOps0_1, List.flatten_cons, List.flatten_nil, List.append_nil, List.cons_append, List.nil_append]
  after_results
  rfl

theorem V4 : V m c main_v4 = pad S4x128x512 ![0, 0, 0] ![0, 96, 0] ![0, 0, 0]
      (shapeCast S4x32x512 (m ((c : Thread nD τ).loc main_arg3) : Vec Ideal S128x1x512 .f32) shapeCasts_S128x1x512_S4x32x512)
      (sitofp (F := Ideal) .f32 (constantI S_ 32 0#32)) pads_S4x32x512_S4x128x512_000_0960_000 h_S_ := by
  show StableHlo.after _ _ _ = _
  simp only [hostOps0, hostOps0_1, List.flatten_cons, List.flatten_nil, List.append_nil, List.cons_append, List.nil_append]
  after_results
  rfl

theorem cast_at2 (x : Vec Ideal S32768x512 .bf16) (b : Fin 4) (s : Fin 8192) (d : Fin 512) :
    shapeCast S4x8192x512 x shapeCasts_S32768x512_S4x8192x512 (ix3 b s d) = at2 x (8192 * b.val + s.val) d.val := by
  have := b.isLt; have := s.isLt; have := d.isLt
  unfold at2
  rw [dif_pos ⟨by omega, by omega⟩]
  pointwise
  exact congrArg (fun e => x (ix2 e d)) (Fin.ext (by show b.val * 8192 + s.val = 8192 * b.val + s.val; omega))

theorem pad_km2 (x : Vec Ideal S128x1x512 .f32) (b : Fin 4) (n : Fin 128) (d : Fin 512) (hn : n.val < 32) :
    pad S4x128x512 ![0, 0, 0] ![0, 96, 0] ![0, 0, 0]
      (shapeCast S4x32x512 x shapeCasts_S128x1x512_S4x32x512)
      (sitofp (F := Ideal) .f32 (constantI S_ 32 0#32)) pads_S4x32x512_S4x128x512_000_0960_000 h_S_ (ix3 b n d) = km2 x (32 * b.val + n.val) d.val := by
  have := b.isLt; have := d.isLt
  unfold km2
  rw [dif_pos ⟨by omega, by omega⟩]
  pointwise
  rw [dif_pos hn]
  exact congrArg (fun e => x (ix3 e 0 d)) (Fin.ext (by show b.val * 32 + n.val = 32 * b.val + n.val; omega))

theorem blk0 (r : Fin 256) (d : Fin 128) : (iblk m c 0 t : Vec Ideal S1x256x128 .bf16) (ix3 0 r d)
    = at2 (m ((c : Thread nD τ).loc main_arg0)) (8192 * (grid0.coords t 0).val + (256 * (grid0.coords t 2).val + r.val)) (128 * (grid0.coords t 1).val + d.val) := by
  have h0 : (grid0.coords t 0).val < 4 := (grid0.coords t 0).isLt
  have h1 : (grid0.coords t 1).val < 4 := (grid0.coords t 1).isLt
  have h2 : (grid0.coords t 2).val < 32 := (grid0.coords t 2).isLt
  have := r.isLt; have := d.isLt
  refine Eq.trans ?_ (cast_at2 (m ((c : Thread nD τ).loc main_arg0)) ⟨_, h0⟩ ⟨256 * (grid0.coords t 2).val + r.val, by omega⟩ ⟨128 * (grid0.coords t 1).val + d.val, by omega⟩)
  rw [← V0 m c]
  blk_ext [iblk, (wins t).1]

theorem blk1 (r : Fin 8192) (d : Fin 128) : (iblk m c 1 t : Vec Ideal S1x8192x128 .bf16) (ix3 0 r d)
    = at2 (m ((c : Thread nD τ).loc main_arg1)) (8192 * (grid0.coords t 0).val + r.val) (128 * (grid0.coords t 1).val + d.val) := by
  have h0 : (grid0.coords t 0).val < 4 := (grid0.coords t 0).isLt
  have h1 : (grid0.coords t 1).val < 4 := (grid0.coords t 1).isLt
  have := r.isLt; have := d.isLt
  refine Eq.trans ?_ (cast_at2 (m ((c : Thread nD τ).loc main_arg1)) ⟨_, h0⟩ r ⟨128 * (grid0.coords t 1).val + d.val, by omega⟩)
  rw [← V1 m c]
  blk_ext [iblk, (wins t).2.1]

theorem blk2 (r : Fin 8192) (d : Fin 128) : (iblk m c 2 t : Vec Ideal S1x8192x128 .bf16) (ix3 0 r d)
    = at2 (m ((c : Thread nD τ).loc main_arg2)) (8192 * (grid0.coords t 0).val + r.val) (128 * (grid0.coords t 1).val + d.val) := by
  have h0 : (grid0.coords t 0).val < 4 := (grid0.coords t 0).isLt
  have h1 : (grid0.coords t 1).val < 4 := (grid0.coords t 1).isLt
  have := r.isLt; have := d.isLt
  refine Eq.trans ?_ (cast_at2 (m ((c : Thread nD τ).loc main_arg2)) ⟨_, h0⟩ r ⟨128 * (grid0.coords t 1).val + d.val, by omega⟩)
  rw [← V2 m c]
  blk_ext [iblk, (wins t).2.2.1]

theorem blk3 (n : Fin 128) (hn : n.val < 32) (d : Fin 128) : (iblk m c 3 t : Vec Ideal S1x128x128 .f32) (ix3 0 n d)
    = km2 (m ((c : Thread nD τ).loc main_arg3)) (32 * (grid0.coords t 0).val + n.val) (128 * (grid0.coords t 1).val + d.val) := by
  have h0 : (grid0.coords t 0).val < 4 := (grid0.coords t 0).isLt
  have h1 : (grid0.coords t 1).val < 4 := (grid0.coords t 1).isLt
  have := d.isLt
  refine Eq.trans ?_ (pad_km2 (m ((c : Thread nD τ).loc main_arg3)) ⟨_, h0⟩ n ⟨128 * (grid0.coords t 1).val + d.val, by omega⟩ hn)
  rw [← V4 m c]
  blk_ext [iblk, (wins t).2.2.2.1]

end

/-! ## The products over a head's own lanes -/

/-- A sum over 128 lanes of products with the queries kept in one head's lanes is the sum over those lanes. -/
theorem lanes_sum (hh : Fin 2) (f g : ℕ → EReal) :
    ∑ d : Fin 128, (if d.val / 64 = hh.val then f d.val else 0) * g d.val = ∑ d : Fin 64, f (64 * hh.val + d.val) * g (64 * hh.val + d.val) := by
  have e := Fin.sum_univ_add (a := 64) (b := 64) (fun d : Fin 128 => (if d.val / 64 = hh.val then f d.val else 0) * g d.val)
  refine e.trans ?_
  have h1 : ∀ d : Fin 64, (Fin.castAdd 64 d).val / 64 = 0 := fun d => by have := d.isLt; show d.val / 64 = 0; omega
  have h2 : ∀ d : Fin 64, (Fin.natAdd 64 d).val / 64 = 1 := fun d => by have := d.isLt; show (64 + d.val) / 64 = 1; omega
  simp only [h1, h2]
  fin_cases hh
  · simp
  · simp [add_comm]

theorem headQ_apply (x0 : Vec Ideal S1x256x128 .bf16) (z : Fin 128) (r : Fin 256) (d : Fin 128) :
    headQ x0 z (ix2 r d) = if d.val / 64 = z.val / 64 then x0 (ix3 0 r d) else 0 := by
  have hz := z.isLt
  unfold headQ
  by_cases h : z.val < 64
  · rw [if_pos h]
    pointwise [k0_pay52, k0_pay50, k0_pay46]
    rw [sel_head0, show z.val / 64 = 0 by omega]
  · rw [if_neg h]
    pointwise [k0_pay53, k0_pay51, k0_pay46]
    rw [sel_head1, show z.val / 64 = 1 by omega]

section
variable (m : (ℓ : Loc nD τ sig) → Buf (Elt Ideal) ℓ) (c : Dev nD) (t : Fin cfg0.N) (r : Fin 256) (z : Fin 128)

theorem sc_eq : sc (headQ (iblk m c 0 t) z) (iblk m c 1 t) r
    = score (m ((c : Thread nD τ).loc main_arg0)) (m ((c : Thread nD τ).loc main_arg1)) (grid0.coords t 0).val
        ((128 * (grid0.coords t 1).val + z.val) / 64) (256 * (grid0.coords t 2).val + r.val) := by
  have hz := z.isLt
  funext k
  unfold sc score
  by_cases hk : k < 8192
  · rw [dif_pos hk, if_pos hk]
    simp only [headQ_apply, blk0 m c t, blk1 m c t]
    refine (lanes_sum ⟨z.val / 64, by omega⟩
      (fun d => at2 (m ((c : Thread nD τ).loc main_arg0)) (8192 * (grid0.coords t 0).val + (256 * (grid0.coords t 2).val + r.val)) (128 * (grid0.coords t 1).val + d))
      (fun d => at2 (m ((c : Thread nD τ).loc main_arg1)) (8192 * (grid0.coords t 0).val + k) (128 * (grid0.coords t 1).val + d))).trans ?_
    refine Finset.sum_congr rfl fun d _ => ?_
    rw [show 128 * (grid0.coords t 1).val + (64 * (z.val / 64) + d.val) = 64 * ((128 * (grid0.coords t 1).val + z.val) / 64) + d.val by omega]
  · rw [dif_neg hk, if_neg hk]

theorem gate_eq : gate (grid0.coords t) (headQ (iblk m c 0 t) z) (iblk m c 3 t) r
    = gateAt (m ((c : Thread nD τ).loc main_arg0)) (m ((c : Thread nD τ).loc main_arg3)) (grid0.coords t 0).val
        ((128 * (grid0.coords t 1).val + z.val) / 64) (256 * (grid0.coords t 2).val + r.val) := by
  have hz := z.isLt
  have hr := r.isLt
  have h2 : (grid0.coords t 2).val < 32 := (grid0.coords t 2).isLt
  funext n
  unfold gate gateAt
  rw [show (256 * (grid0.coords t 2).val + r.val) / 256 = (grid0.coords t 2).val by omega]
  by_cases hn : n < (grid0.coords t 2).val
  · rw [dif_pos (by omega), if_pos hn, if_pos hn]
    simp only [headQ_apply, blk0 m c t, blk3 m c t ⟨n, by omega⟩ (by show n < 32; omega)]
    refine Eq.trans (Finset.sum_congr rfl fun d _ => mul_comm _ _) ?_
    refine (lanes_sum ⟨z.val / 64, by omega⟩
      (fun d => at2 (m ((c : Thread nD τ).loc main_arg0)) (8192 * (grid0.coords t 0).val + (256 * (grid0.coords t 2).val + r.val)) (128 * (grid0.coords t 1).val + d))
      (fun d => km2 (m ((c : Thread nD τ).loc main_arg3)) (32 * (grid0.coords t 0).val + n) (128 * (grid0.coords t 1).val + d))).trans ?_
    refine Finset.sum_congr rfl fun d _ => ?_
    rw [show 128 * (grid0.coords t 1).val + (64 * (z.val / 64) + d.val) = 64 * ((128 * (grid0.coords t 1).val + z.val) / 64) + d.val by omega]
    exact mul_comm _ _
  · rw [if_neg hn]
    split
    · rfl
    · rfl

theorem lane_eq : lane (iblk m c 2 t) z
    = valAt (m ((c : Thread nD τ).loc main_arg2)) (grid0.coords t 0).val (128 * (grid0.coords t 1).val + z.val) := by
  funext k
  unfold lane valAt
  by_cases hk : k < 8192
  · rw [dif_pos hk, if_pos hk, blk2 m c t ⟨k, hk⟩ z]
  · rw [dif_neg hk, if_neg hk]

end

/-- **The array after the run**, for finite scores and any real numbers taken off them. -/
theorem array (m : (ℓ : Loc nD τ sig) → Buf (Elt Ideal) ℓ) (c : Dev nD) (M : ℕ → ℕ → ℕ → ℝ)
    (hs : ∀ b h s t, score (m ((c : Thread nD τ).loc main_arg0)) (m ((c : Thread nD τ).loc main_arg1)) b h s t ≠ ⊤)
    (hs' : ∀ b h s t, score (m ((c : Thread nD τ).loc main_arg0)) (m ((c : Thread nD τ).loc main_arg1)) b h s t ≠ ⊥) :
    (dats m 0 c).arrAt 4 cfg0.N = fun j : S4x8192x512.Idx =>
      attnAt (m ((c : Thread nD τ).loc main_arg0)) (m ((c : Thread nD τ).loc main_arg1)) (m ((c : Thread nD τ).loc main_arg2))
        (m ((c : Thread nD τ).loc main_arg3)) (j 0).val (j 1).val (j 2).val (M (j 0).val (j 1).val (j 2).val) := by
  refine (dats m 0 c).arrAt_eq_of_covers 4 _ (by decide +kernel) fun t hf y => ?_
  have h2 : (grid0.coords t 2).val < 32 := (grid0.coords t 2).isLt
  blk_simp [(wins t).2.2.2.2]
  rw [after0_4]
  simp only [outsAt0]
  obtain ⟨r, z, rfl⟩ : ∃ (r : Fin 256) (z : Fin 128), y = ix3 0 r z := ⟨y 1, y 2, by
    funext a; fin_cases a
    · exact Subsingleton.elim (α := Fin 1) _ _
    · rfl
    · rfl⟩
  have hr := r.isLt
  have hz := z.isLt
  have e1 : (grid0.coords t 2).val * 256 + r.val = 256 * (grid0.coords t 2).val + r.val := by omega
  have e2 : (grid0.coords t 1).val * 128 + z.val = 128 * (grid0.coords t 1).val + z.val := by omega
  show out0_A_4 c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t) (ix3 0 r z)
    = attnAt (m ((c : Thread nD τ).loc main_arg0)) (m ((c : Thread nD τ).loc main_arg1)) (m ((c : Thread nD τ).loc main_arg2))
        (m ((c : Thread nD τ).loc main_arg3)) (grid0.coords t 0).val ((grid0.coords t 2).val * 256 + r.val) ((grid0.coords t 1).val * 128 + z.val)
        (M (grid0.coords t 0).val ((grid0.coords t 2).val * 256 + r.val) ((grid0.coords t 1).val * 128 + z.val))
  rw [e1, e2]
  generalize M _ _ _ = M'
  refine (out_apply c (grid0.coords t) _ _ _ _ _ _ _ _ _ _ _ _ _ _ r z M' ?_ ?_).trans ?_
  · rw [sc_eq]; exact fun k => hs _ _ _ k
  · rw [sc_eq]; exact fun k _ => hs' _ _ _ k
  · rw [sc_eq, gate_eq, lane_eq]
    unfold attnAt
    rw [show (256 * (grid0.coords t 2).val + r.val) / 256 = (grid0.coords t 2).val by omega,
      show (256 * (grid0.coords t 2).val + r.val) % 256 = r.val by omega]

end Cert.Moba
-- ==== Proof.MobaPre.lean ====
/-
  The precondition read back: the queries, the keys and the mean keys are reals.
-/
module

public import proofs.«01_k».proof.Defs
public import proofs.«01_k».proof.Proof.MobaArray
public import Idealize.ShloMosaic.Lib.ReduceAll

@[expose] public section
noncomputable section
namespace Cert.Moba
open Idealize.ShloMosaic Idealize.ShloMosaic.TcCoe Idealize.SL.Sem

instance preFacts : Cert.Pre_finite.Facts where
  bcast_S_S32768x512 := by decide
  reducesTo_S32768x512_S_d0_1 := by decide
  h_S_ := by decide
  bcast_S_S128x1x512 := by decide
  reducesTo_S128x1x512_S_d0_1_2 := by decide

/-- A number whose magnitude is below plus infinity is a real. -/
theorem real_of_abs_lt (x : EReal) (h : max x (-x) < ⊤) : ∃ z : ℝ, x = z := by
  induction x with
  | bot => exact absurd h (by simp)
  | top => exact absurd h (by simp)
  | coe z => exact ⟨z, rfl⟩

theorem inf_bf16 : Ideal.ofBits .bf16 0x7F80#16 = (⊤ : EReal) := by
  simp only [Ideal.ofBits, Ideal.ieee]
  rw [if_pos (by decide), if_pos (by decide), if_neg (by decide)]

theorem inf_f32 : Ideal.ofBits .f32 0x7F800000#32 = (⊤ : EReal) := by
  simp only [Ideal.ofBits, Ideal.ieee]
  rw [if_pos (by decide), if_pos (by decide), if_neg (by decide)]

theorem lt_of_cmp (x y : EReal) (h : Ideal.cmp .olt x y = 1#1) : x < y := by
  by_contra hn
  have : Ideal.cmp .olt x y = 0#1 := by show BitVec.ofBool (decide (x < y)) = 0#1; rw [decide_eq_false hn]; rfl
  rw [this] at h
  exact absurd h (by decide)

/-- What the precondition says of the arguments. -/
theorem finite_of (q k v : Vec Ideal Cert.Pre_finite.S32768x512 .bf16) (km : Vec Ideal Cert.Pre_finite.S128x1x512 .f32)
    (h : Cert.Pre_finite.fn (F := Ideal) q k v km = fun _ => 1#1) :
    (∀ i, ∃ z : ℝ, q i = (z : EReal)) ∧ (∀ i, ∃ z : ℝ, k i = (z : EReal)) ∧ (∀ i, ∃ z : ℝ, km i = (z : EReal)) := by
  have h0 := congrFun h (fun a => a.elim0)
  have hand : ∀ (x y : BitVec 1), IntOp.andi x y = 1#1 → x = 1#1 ∧ y = 1#1 := by decide
  obtain ⟨h1, h3⟩ := hand _ _ h0
  obtain ⟨h1, h2⟩ := hand _ _ h1
  haveI : Subsingleton Cert.Pre_finite.S_.Idx := ⟨fun a b => funext fun d => d.elim0⟩
  refine ⟨fun i => real_of_abs_lt _ ?_, fun i => real_of_abs_lt _ ?_, fun i => real_of_abs_lt _ ?_⟩
  · have e := Host.reduce_andi_all _ _ _ _ _ h1 i
    have := lt_of_cmp _ _ e
    exact lt_of_lt_of_eq this inf_bf16
  · have e := Host.reduce_andi_all _ _ _ _ _ h2 i
    have := lt_of_cmp _ _ e
    exact lt_of_lt_of_eq this inf_bf16
  · have e := Host.reduce_andi_all _ _ _ _ _ h3 i
    have := lt_of_cmp _ _ e
    exact lt_of_lt_of_eq this inf_f32

end Cert.Moba
-- ==== Proof.MobaMask.lean ====
/-
  The reference's scores, gate, choice of blocks and mask at an index.
-/
module

public import proofs.«01_k».proof.Proof.MobaArray
public import proofs.«01_k».proof.Proof.Gen.ReferenceIdeal.Read
public import Idealize.ShloMosaic.Lib.Routing.OpsOrder

@[expose] public section
noncomputable section
namespace Cert.Moba
open Idealize.ShloMosaic Idealize.ShloMosaic.TcCoe Idealize.ShloMosaic.WordCmp Idealize.SL.Sem Idealize.ShloMosaic.Pointwise Cert.ReferenceIdeal Cert.ReferenceIdeal.Gen Cert.ReferenceIdeal.Read
open scoped Classical

/-! ## Finite numbers -/

/-- A sum of products of reals is a real. -/
theorem sum_real (f g : Fin 64 → EReal) (hf : ∀ d, ∃ r : ℝ, f d = r) (hg : ∀ d, ∃ r : ℝ, g d = r) :
    ∃ r : ℝ, ∑ d : Fin 64, f d * g d = r := by
  choose a ha using hf
  choose b hb using hg
  refine ⟨∑ d : Fin 64, a d * b d, ?_⟩
  simp only [ha, hb, ← EReal.coe_mul]
  induction (Finset.univ : Finset (Fin 64)) using Finset.induction_on with
  | empty => simp
  | insert x s hx ih => rw [Finset.sum_insert hx, Finset.sum_insert hx, ih, EReal.coe_add]

theorem score_real (q k : Vec Ideal S32768x512 .bf16) (hq : ∀ r c, ∃ z : ℝ, at2 q r c = z) (hk : ∀ r c, ∃ z : ℝ, at2 k r c = z)
    (b h s t : ℕ) : ∃ z : ℝ, score q k b h s t = z := by
  unfold score
  split
  · exact sum_real _ _ (fun _ => hq _ _) (fun _ => hk _ _)
  · exact ⟨0, rfl⟩

/-! ## The arguments by heads -/

theorem at_q (x : Vec Ideal S32768x512 .bf16) (b : Fin 4) (h : Fin 8) (s : Fin 8192) (d : Fin 64) :
    val_main_v1 (F := Ideal) x (ix4 b h s d) = at2 x (8192 * b.val + s.val) (64 * h.val + d.val) := by
  have := b.isLt; have := h.isLt; have := s.isLt; have := d.isLt
  unfold at2
  rw [dif_pos ⟨by omega, by omega⟩]
  pointwise [val_main_v1, val_main_v0]
  exact congrArg₂ (fun e f => x (ix2 e f)) (Fin.ext (by show b.val * 8192 + s.val = 8192 * b.val + s.val; omega))
    (Fin.ext (by show h.val * 64 + d.val = 64 * h.val + d.val; omega))

theorem at_k (x : Vec Ideal S32768x512 .bf16) (b : Fin 4) (h : Fin 8) (s : Fin 8192) (d : Fin 64) :
    val_main_v3 (F := Ideal) x (ix4 b h s d) = at2 x (8192 * b.val + s.val) (64 * h.val + d.val) := at_q x b h s d

theorem at_v (x : Vec Ideal S32768x512 .bf16) (b : Fin 4) (h : Fin 8) (s : Fin 8192) (d : Fin 64) :
    val_main_v5 (F := Ideal) x (ix4 b h s d) = at2 x (8192 * b.val + s.val) (64 * h.val + d.val) := at_q x b h s d

theorem at_km (x : Vec Ideal S128x1x512 .f32) (b : Fin 4) (h : Fin 8) (n : Fin 32) (d : Fin 64) :
    val_main_v7 (F := Ideal) x (ix4 b h n d) = km2 x (32 * b.val + n.val) (64 * h.val + d.val) := by
  have := b.isLt; have := h.isLt; have := n.isLt; have := d.isLt
  unfold km2
  rw [dif_pos ⟨by omega, by omega⟩]
  pointwise [val_main_v7, val_main_v6]
  exact congrArg₂ (fun e f => x (ix3 e 0 f)) (Fin.ext (by show b.val * 32 + n.val = 32 * b.val + n.val; omega))
    (Fin.ext (by show h.val * 64 + d.val = 64 * h.val + d.val; omega))

section
variable (q k v : Vec Ideal S32768x512 .bf16) (km : Vec Ideal S128x1x512 .f32) (b : Fin 4) (h : Fin 8) (s : Fin 8192)

theorem score_apply (t : Fin 8192) : val_main_v55 (F := Ideal) q k (ix4 b h s t) = score q k b.val h.val s.val t.val := by
  rw [val_main_v55_apply]
  unfold score
  rw [if_pos t.isLt]
  refine Finset.sum_congr rfl fun d _ => ?_
  exact congrArg₂ (· * ·) (at_q q b h s d) (at_k k b h t d)

theorem gate_apply (n : Fin 32) : val_main_v19 (F := Ideal) q km (ix4 b h s n) = gateAt q km b.val h.val s.val n.val := by
  have hs := s.isLt
  have hn := n.isLt
  have e : val_main_v12 (F := Ideal) q km (ix4 b h s n)
      = ∑ d : Fin 64, km2 km (32 * b.val + n.val) (64 * h.val + d.val) * at2 q (8192 * b.val + s.val) (64 * h.val + d.val) := by
    rw [val_main_v12_apply]
    refine Finset.sum_congr rfl fun d _ => ?_
    refine (congrArg₂ (· * ·) (at_q q b h s d) (at_km km b h n d)).trans (mul_comm _ _)
  pointwise [val_main_v19, val_main_call0_v1, val_main_call0_v2, val_main_v18, val_main_v16, val_main_v17, val_main_v15, val_main_v14, val_main_v13, val_main_v10, val_main_v9, val_main_v8, val_main_call0_v0]
  rw [sel_slt_word _ _ (by omega) (by omega), e]
  unfold gateAt
  split
  · rfl
  · exact negInf

theorem gate_past (hq : ∀ r c, ∃ z : ℝ, at2 q r c = z) (hkm : ∀ r c, ∃ z : ℝ, km2 km r c = z) (b h s n : ℕ) (hn : n < s / 256) :
    ⊥ < gateAt q km b h s n := by
  unfold gateAt
  rw [if_pos hn]
  obtain ⟨z, hz⟩ := sum_real (fun d => km2 km (32 * b + n) (64 * h + d.val)) (fun d => at2 q (8192 * b + s) (64 * h + d.val))
    (fun _ => hkm _ _) (fun _ => hq _ _)
  rw [hz]
  exact EReal.bot_lt_coe z

theorem gate_rest (b h s n : ℕ) (hn : s / 256 ≤ n) : gateAt q km b h s n = ⊥ := by
  unfold gateAt
  rw [if_neg (by omega)]

/-! ## The choice -/

/-- The places of the three best blocks, as the sort gives them. -/
theorem place_eq (j : Fin 3) : val_main_indices (F := Ideal) q km (ix4 b h s j)
    = BitVec.ofNat 32 (sortedFrom (fun a a' : Fin 32 => FloatOps.cmpfTotal (F := Ideal) (φ := .f32) .gt (val_main_v19 (F := Ideal) q km (ix4 b h s a) : Ideal .f32)
        (val_main_v19 (F := Ideal) q km (ix4 b h s a') : Ideal .f32) == 1#1) ⟨j.val, by have := j.isLt; omega⟩).val := by
  unfold val_main_indices
  generalize val_main_v19 (F := Ideal) q km = x
  have e : ∀ (i : Fin 32) (a : Fin 32), (ix4 b h s i : S4x8x8192x32.Idx).along 3 a = ix4 b h s a := by
    intro i a
    funext d
    fin_cases d <;> rfl
  unfold Host.topK Host.sort2
  simp only [dif_pos (show 3 < S4x8x8192x32.rank by decide)]
  pointwise
  simp only [e]
  generalize sortedFrom _ _ = w
  rfl

theorem place_iff (j : Fin 3) (n : Fin 32) : val_main_indices (F := Ideal) q km (ix4 b h s j) = BitVec.ofNat 32 n.val
    ↔ rank (gateAt q km b.val h.val s.val) 32 n.val = j.val := by
  rw [place_eq]
  rw [← sortedFrom_eq_iff (n := 32) (gateAt q km b.val h.val s.val)
    (fun a a' : Fin 32 => FloatOps.cmpfTotal (F := Ideal) (φ := .f32) .gt (val_main_v19 (F := Ideal) q km (ix4 b h s a) : Ideal .f32)
        (val_main_v19 (F := Ideal) q km (ix4 b h s a') : Ideal .f32) == 1#1) (fun a a' => by
      rw [gate_apply, gate_apply, Ideal.cmpfTotal_def]
      show (BitVec.ofBool (decide _) == 1#1) = _
      by_cases hh : gateAt q km b.val h.val s.val a'.val < gateAt q km b.val h.val s.val a.val <;> simp [hh]) ⟨j.val, by have := j.isLt; omega⟩ n]
  generalize sortedFrom _ _ = p
  constructor
  · intro e
    have := congrArg BitVec.toNat e
    rw [BitVec.toNat_ofNat, BitVec.toNat_ofNat, Nat.mod_eq_of_lt (by have := p.isLt; omega), Nat.mod_eq_of_lt (by have := n.isLt; omega)] at this
    exact Fin.ext this
  · intro e; rw [e]

theorem chosen_iff (hq : ∀ r c, ∃ z : ℝ, at2 q r c = z) (hkm : ∀ r c, ∃ z : ℝ, km2 km r c = z) (n : Fin 32) :
    val_main_v36 (F := Ideal) q km (ix4 b h s n) = 1#1 ↔ Sel (gateAt q km b.val h.val s.val) 128 n.val := by
  have hs := s.isLt
  have hn := n.isLt
  have e128 : Sel (gateAt q km b.val h.val s.val) 128 n.val ↔ Sel (gateAt q km b.val h.val s.val) 32 n.val := by
    unfold Sel
    refine and_congr_right fun hg => ?_
    rw [rank_restrict _ 32 128 n.val (by omega) (fun a ha _ => gate_rest q km _ _ _ a (by omega)) hg]
  rw [e128, ← first_three_iff (gateAt q km b.val h.val s.val) (s.val / 256) 32 n.val (by omega) hn
    (fun a ha => gate_past q km hq hkm _ _ _ a ha) (fun a ha _ => gate_rest q km _ _ _ a ha)]
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v10, val_main_v9, val_main_v8, val_main_c]
  rw [Routing.fold_ori]
  have hand : ∀ (x y : BitVec 1), IntOp.andi x y = 1#1 ↔ x = 1#1 ∧ y = 1#1 := by decide
  constructor
  · rintro ⟨j, _, hj⟩
    rw [hand, cmpi_eq_eq, ofBool_decide_eq_one_iff, cmpi_slt_ofNat_eq_one_iff (by have := j.isLt; omega) (by omega), place_iff] at hj
    exact ⟨j.val, j.isLt, hj.2, hj.1⟩
  · rintro ⟨j, hj3, hjs, hj⟩
    refine ⟨⟨j, hj3⟩, Finset.mem_univ _, ?_⟩
    rw [hand, cmpi_eq_eq, ofBool_decide_eq_one_iff, cmpi_slt_ofNat_eq_one_iff (by show j < _; omega) (by omega), place_iff]
    exact ⟨hj, hjs⟩

/-- The mask: the blocks chosen, and the own block up to the query. -/
theorem keep_iff (hq : ∀ r c, ∃ z : ℝ, at2 q r c = z) (hkm : ∀ r c, ∃ z : ℝ, km2 km r c = z) (t : Fin 8192) :
    val_main_v54 (F := Ideal) q km (ix4 b h s t) = 1#1 ↔
      (Sel (gateAt q km b.val h.val s.val) 128 (t.val / 256) ∨ (t.val / 256 = s.val / 256 ∧ t.val ≤ 256 * (s.val / 256) + s.val % 256)) := by
  have hs := s.isLt
  have ht := t.isLt
  have h36 := chosen_iff q km b h s hq hkm ⟨t.val / 256, by omega⟩
  pointwise [val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v10, val_main_v9, val_main_v8]
  have hor : ∀ (x y : BitVec 1), IntOp.ori x y = 1#1 ↔ x = 1#1 ∨ y = 1#1 := by decide
  have hand : ∀ (x y : BitVec 1), IntOp.andi x y = 1#1 ↔ x = 1#1 ∧ y = 1#1 := by decide
  rw [hor, hand, h36, cmpi_eq_ofNat (by omega) (by omega), ofBool_decide_eq_one_iff, cmpi_sle_ofNat_eq_one_iff (by omega) (by omega)]
  refine or_congr Iff.rfl ?_
  constructor <;> rintro ⟨h1, h2⟩ <;> exact ⟨by omega, by omega⟩

/-- The masked scores. -/
theorem masked_apply (hq : ∀ r c, ∃ z : ℝ, at2 q r c = z) (hkm : ∀ r c, ∃ z : ℝ, km2 km r c = z) (t : Fin 8192) :
    val_main_v56 (F := Ideal) q k km (ix4 b h s t)
      = maskedScore (s.val / 256) (s.val % 256) (Sel (gateAt q km b.val h.val s.val) 128) (score q k b.val h.val s.val) t.val := by
  rw [val_main_v56_apply, score_apply]
  unfold maskedScore
  have hb : val_main_call1_v1 (F := Ideal) (ix4 b h s t) = (⊥ : EReal) := negInf
  rw [hb]
  by_cases hk : val_main_v54 (F := Ideal) q km (ix4 b h s t) = 1#1
  · rw [if_pos ((keep_iff q km b h s hq hkm t).1 hk), hk]
    rfl
  · rw [if_neg (fun h' => hk ((keep_iff q km b h s hq hkm t).2 h'))]
    rw [(BitVec.eq_zero_or_eq_one _).resolve_right hk]
    rfl

/-- The row's largest kept score is a real. -/
theorem rowMax_real (hq : ∀ r c, ∃ z : ℝ, at2 q r c = z) (hk : ∀ r c, ∃ z : ℝ, at2 k r c = z) (hkm : ∀ r c, ∃ z : ℝ, km2 km r c = z) :
    ∃ M : ℝ, val_main_v57 (F := Ideal) q k km (ix3 b h s) = (M : EReal) := by
  have hs := s.isLt
  have e : val_main_v57 (F := Ideal) q k km (ix3 b h s)
      = Finset.univ.fold max ⊥ (fun t : Fin 8192 => val_main_v56 (F := Ideal) q k km (ix4 b h s t)) := by
    pointwise [val_main_v57, val_main_cst_1]
    rw [negInf]
  have hf := fold_max_real Finset.univ (fun t : Fin 8192 => val_main_v56 (F := Ideal) q k km (ix4 b h s t))
    (fun t _ => by
      rw [masked_apply q k km b h s hq hkm t]
      unfold maskedScore
      obtain ⟨z, hz⟩ := score_real q k hq hk b.val h.val s.val t.val
      split
      · rw [hz]; exact EReal.coe_ne_top z
      · exact bot_ne_top) s (Finset.mem_univ _) (by
      rw [masked_apply q k km b h s hq hkm s]
      unfold maskedScore
      obtain ⟨z, hz⟩ := score_real q k hq hk b.val h.val s.val s.val
      rw [if_pos (Or.inr ⟨rfl, by omega⟩), hz]
      exact EReal.coe_ne_bot z)
  rw [e]
  exact ⟨_, (EReal.coe_toReal hf.2 hf.1).symm⟩

end
end Cert.Moba
-- ==== Proof.MobaRef.lean ====
/-
  The reference's result at every batch, position and column: the same masked softmax of the arguments, the row's
  largest kept score taken off.
-/
module

public import proofs.«01_k».proof.Proof.MobaMask

@[expose] public section
noncomputable section
namespace Cert.Moba
open Idealize.ShloMosaic Idealize.ShloMosaic.TcCoe Idealize.ShloMosaic.WordCmp Idealize.SL.Sem Idealize.ShloMosaic.Pointwise Cert.ReferenceIdeal Cert.ReferenceIdeal.Gen Cert.ReferenceIdeal.Read
open scoped Classical

section
variable (q k v : Vec Ideal S32768x512 .bf16) (km : Vec Ideal S128x1x512 .f32) (b : Fin 4) (h : Fin 8) (s : Fin 8192)

/-! ## The softmax -/

/-- The word of the number two. -/
theorem two_word : Ideal.ofBits .f32 0x40000000#32 = ((2 : ℝ) : EReal) := by
  simp [Ideal.ofBits, Ideal.ieee]
  rw [← EReal.coe_mul]
  norm_num

/-- Two to a power, as the host computes it, is the kernel's power of two. -/
theorem pow_two (x : EReal) : Ideal.pow ((2 : ℝ) : EReal) x = Ideal.exp2 x := by
  induction x with
  | bot => show (if (2:ℝ) < 0 then ⊥ else if (1:ℝ) < 2 then 0 else if (2:ℝ) = 1 then 1 else ⊤ : EReal) = 0
           rw [if_neg (by norm_num), if_pos (by norm_num)]
  | top => show (if (2:ℝ) < 0 then ⊥ else if (1:ℝ) < 2 then ⊤ else if (2:ℝ) = 1 then 1 else 0 : EReal) = ⊤
           rw [if_neg (by norm_num), if_pos (by norm_num)]
  | coe r => rfl

theorem base_apply (t : Fin 8192) : val_main_v61 (F := Ideal) (ix4 b h s t) = ((2 : ℝ) : EReal) := by
  rw [val_main_v61_apply, val_main_cst_2_apply]
  exact two_word

theorem shifted_apply (t : Fin 8192) : val_main_v60 (F := Ideal) q k km (ix4 b h s t)
    = val_main_v56 (F := Ideal) q k km (ix4 b h s t) - val_main_v57 (F := Ideal) q k km (ix3 b h s) := by
  rw [val_main_v60_apply, val_main_v59_apply, val_main_v58_apply]
  generalize val_main_v57 (F := Ideal) q k km = y
  have e : idx_main_v58 (idx_main_v59 (ix4 b h s t)) = ix3 b h s := by funext a; fin_cases a <;> rfl
  rw [e]
  rfl

theorem weight_apply (t : Fin 8192) : val_main_v62 (F := Ideal) q k km (ix4 b h s t)
    = Ideal.exp2 (val_main_v56 (F := Ideal) q k km (ix4 b h s t) - val_main_v57 (F := Ideal) q k km (ix3 b h s)) := by
  rw [val_main_v62_apply, base_apply, shifted_apply]
  exact pow_two _

theorem total_apply : val_main_v63 (F := Ideal) q k km (ix3 b h s) = ∑ t : Fin 8192, val_main_v62 (F := Ideal) q k km (ix4 b h s t) := by
  rw [val_main_v63_apply]
  generalize val_main_v62 (F := Ideal) q k km = y
  rw [val_main_cst_3_apply, Ideal.ofBits_def, Ideal.ofBits_zero_f32, zero_add]
  have e : ∀ t, idx_main_v63 (ix3 b h s) t = ix4 b h s t := fun t => by
    funext a; fin_cases a <;> rfl
  simp only [e]

theorem prob_apply (t : Fin 8192) : val_main_v67 (F := Ideal) q k km (ix4 b h s t)
    = Ideal.div (val_main_v62 (F := Ideal) q k km (ix4 b h s t)) (val_main_v63 (F := Ideal) q k km (ix3 b h s)) := by
  pointwise [val_main_v67, val_main_v66, val_main_v65, val_main_v64]

theorem mix_apply (d : Fin 64) : val_main_v68 (F := Ideal) q k v km (ix4 b h s d)
    = ∑ t : Fin 8192, val_main_v67 (F := Ideal) q k km (ix4 b h s t) * val_main_v5 (F := Ideal) v (ix4 b h t d) := by
  rw [val_main_v68_apply]
  refine Finset.sum_congr rfl fun t _ => congrArg₂ (fun e f => val_main_v67 (F := Ideal) q k km e * val_main_v5 (F := Ideal) v f) ?_ ?_
  · funext a; fin_cases a <;> rfl
  · funext a; fin_cases a <;> rfl

theorem out_apply_ref (c : Fin 512) : val_main_v71 (F := Ideal) q k v km (ix3 b s c)
    = val_main_v68 (F := Ideal) q k v km (ix4 b ⟨c.val / 64, by have := c.isLt; omega⟩ s ⟨c.val % 64, by omega⟩) := by
  pointwise [val_main_v71, val_main_v70, val_main_v69]

end

/-- **The reference's result**, at a row's real maximum. -/
theorem ref_apply (q k v : Vec Ideal S32768x512 .bf16) (km : Vec Ideal S128x1x512 .f32)
    (hq : ∀ r c, ∃ z : ℝ, at2 q r c = z) (hk : ∀ r c, ∃ z : ℝ, at2 k r c = z) (hkm : ∀ r c, ∃ z : ℝ, km2 km r c = z)
    (b : Fin 4) (s : Fin 8192) (c : Fin 512) :
    ∃ M : ℝ, val_main_v71 (F := Ideal) q k v km (ix3 b s c) = attnAt q k v km b.val s.val c.val M := by
  have hc := c.isLt
  obtain ⟨M, hM⟩ := rowMax_real q k km b ⟨c.val / 64, by omega⟩ s hq hk hkm
  refine ⟨M, ?_⟩
  rw [out_apply_ref, mix_apply]
  unfold attnAt attend
  simp only [prob_apply, total_apply, weight_apply, masked_apply q k km b _ s hq hkm, hM, at_v]
  rw [← Fin.sum_univ_eq_sum_range (fun t => Ideal.div (Ideal.exp2 (maskedScore (s.val / 256) (s.val % 256) (Sel (gateAt q km b.val (c.val / 64) s.val) 128) (score q k b.val (c.val / 64) s.val) t - M)) (∑ z ∈ Finset.range 8192, Ideal.exp2 (maskedScore (s.val / 256) (s.val % 256) (Sel (gateAt q km b.val (c.val / 64) s.val) 128) (score q k b.val (c.val / 64) s.val) z - M)) * valAt v b.val c.val t) 8192]
  rw [← Fin.sum_univ_eq_sum_range (fun z => Ideal.exp2 (maskedScore (s.val / 256) (s.val % 256) (Sel (gateAt q km b.val (c.val / 64) s.val) 128) (score q k b.val (c.val / 64) s.val) z - M)) 8192]
  refine Finset.sum_congr rfl fun t _ => ?_
  unfold valAt
  rw [if_pos t.isLt, show 64 * (c.val / 64) + c.val % 64 = c.val by omega]

end Cert.Moba
-- ==== Proof.MobaClaims.lean ====
/-
  The claims about the attention: the three frames, the named constant, and the equality of the results.
-/
module

public import proofs.«01_k».proof.Defs
public import proofs.«01_k».proof.Proof.MobaPre
public import proofs.«01_k».proof.Proof.MobaRef
public import proofs.«01_k».proof.Proof.Gen.Kernel.Frame
public import proofs.«01_k».proof.Proof.Gen.KernelIdeal.Frame
public import proofs.«01_k».proof.Proof.Gen.KernelIdeal.Value
public import Idealize.ShloMosaic.Lib.Quiescent
public import Idealize.ShloMosaic.Lib.Claim

@[expose] public section
noncomputable section
namespace Cert.Moba
open Idealize.ShloMosaic Idealize.ShloMosaic.TcCoe Idealize.SL.Sem
open scoped Classical

theorem at2_real (x : Vec Ideal Cert.KernelIdeal.S32768x512 .bf16) (h : ∀ i, ∃ z : ℝ, x i = (z : EReal)) (r c : ℕ) : ∃ z : ℝ, at2 x r c = z := by
  unfold at2
  split
  · exact h _
  · exact ⟨0, rfl⟩

theorem km2_real (x : Vec Ideal Cert.KernelIdeal.S128x1x512 .f32) (h : ∀ i, ∃ z : ℝ, x i = (z : EReal)) (r c : ℕ) : ∃ z : ℝ, km2 x r c = z := by
  unfold km2
  split
  · exact h _
  · exact ⟨0, rfl⟩

/-- **The kernel's array is the reference's result**, for finite queries, keys and mean keys. -/
theorem value (m : (ℓ : Loc Cert.KernelIdeal.nD Cert.KernelIdeal.τ Cert.KernelIdeal.sig) → Buf (Elt Ideal) ℓ) (c : Dev Cert.KernelIdeal.nD)
    (hq : ∀ i, ∃ z : ℝ, (m ((c : Thread Cert.KernelIdeal.nD Cert.KernelIdeal.τ).loc Cert.KernelIdeal.main_arg0) : Vec Ideal Cert.KernelIdeal.S32768x512 .bf16) i = (z : EReal))
    (hk : ∀ i, ∃ z : ℝ, (m ((c : Thread Cert.KernelIdeal.nD Cert.KernelIdeal.τ).loc Cert.KernelIdeal.main_arg1) : Vec Ideal Cert.KernelIdeal.S32768x512 .bf16) i = (z : EReal))
    (hkm : ∀ i, ∃ z : ℝ, (m ((c : Thread Cert.KernelIdeal.nD Cert.KernelIdeal.τ).loc Cert.KernelIdeal.main_arg3) : Vec Ideal Cert.KernelIdeal.S128x1x512 .f32) i = (z : EReal)) :
    (Cert.KernelIdeal.Gen.dats m 0 c).arrAt 4 Cert.KernelIdeal.cfg0.N
      = Cert.ReferenceIdeal.Read.val_main_v71 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg1)) (m ((c : Thread Cert.KernelIdeal.nD Cert.KernelIdeal.τ).loc Cert.KernelIdeal.main_arg2))
          (m ((c : Thread Cert.KernelIdeal.nD Cert.KernelIdeal.τ).loc Cert.KernelIdeal.main_arg3)) := by
  have hq' := at2_real _ hq
  have hk' := at2_real _ hk
  have hkm' := km2_real _ hkm
  choose M hM using ref_apply (m ((c : Thread Cert.KernelIdeal.nD Cert.KernelIdeal.τ).loc Cert.KernelIdeal.main_arg0))
          (m ((c : Thread Cert.KernelIdeal.nD Cert.KernelIdeal.τ).loc Cert.KernelIdeal.main_arg1)) (m ((c : Thread Cert.KernelIdeal.nD Cert.KernelIdeal.τ).loc Cert.KernelIdeal.main_arg2))
          (m ((c : Thread Cert.KernelIdeal.nD Cert.KernelIdeal.τ).loc Cert.KernelIdeal.main_arg3)) hq' hk' hkm'
  refine (array m c (fun b s d => if h : b < 4 ∧ s < 8192 ∧ d < 512 then M ⟨b, h.1⟩ ⟨s, h.2.1⟩ ⟨d, h.2.2⟩ else 0) (fun b h s t => ?_) (fun b h s t => ?_)).trans ?_
  · obtain ⟨z, hz⟩ := score_real _ _ hq' hk' b h s t
    rw [hz]; exact EReal.coe_ne_top z
  · obtain ⟨z, hz⟩ := score_real _ _ hq' hk' b h s t
    rw [hz]; exact EReal.coe_ne_bot z
  · funext j
    obtain ⟨b, s, d, rfl⟩ : ∃ (b : Fin 4) (s : Fin 8192) (d : Fin 512), j = ix3 b s d := ⟨j 0, j 1, j 2, by
      funext a; fin_cases a <;> rfl⟩
    refine Eq.trans ?_ (hM b s d).symm
    show attnAt _ _ _ _ b.val s.val d.val (dite _ _ _) = _
    rw [dif_pos ⟨b.isLt, s.isLt, d.isLt⟩]
    rfl

theorem algebraic : Cert.algebraic_KernelIdeal_ReferenceIdeal_pre_finite (hKernelIdeal := Cert.KernelIdeal.Gen.facts)
    (hReferenceIdeal := Cert.ReferenceIdeal.Gen.facts) (hPre_finite := preFacts) := by
  pair_intro
  · run_from (Cert.KernelIdeal.Value.run_blocks (F := Ideal) m g)
  · refine θ_run_mono (Cert.ReferenceIdeal.Value.run (F := Ideal) m' g') ?_
    intro r hr c
    refine ⟨(hr c).1.trans ?_, (hr c).2⟩
    rw [Cert.ReferenceIdeal.Read.val_main_v71_eq, (hagree c).1, (hagree c).2.1, (hagree c).2.2.1, (hagree c).2.2.2]
    obtain ⟨hq, hk, hkm⟩ := finite_of _ _ _ _ (hpre c)
    exact (value m c hq hk hkm).symm

theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_reference_finite : Cert.quiescent_ReferenceIdeal_pre_finite (hReferenceIdeal := Cert.ReferenceIdeal.Gen.facts) (hPre_finite := preFacts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Moba
-- ==== Proof.Split.lean ====
/-
  Products of a matrix split into a rounded part and a rest: over the reals the rounded part is the whole and the rest is
  zero, so the products of the parts add up to the product.
-/
module

public import Idealize.ShloMosaic.Lib.Pointwise
public import Idealize.ShloMosaic.Lib.IdealHost

@[expose] public section
noncomputable section
namespace Cert.Layer
open Idealize.ShloMosaic

theorem real_sub_self (x : EReal) (h : ∃ z : ℝ, x = z) : x - x = 0 := by
  obtain ⟨z, rfl⟩ := h
  rw [← EReal.coe_sub, sub_self, EReal.coe_zero]

/-- Two real rows: the product of the whole parts, of the whole with the rest and of the rest with the whole. -/
theorem split_sum {n : ℕ} (a b : Fin n → EReal) (ha : ∀ k, ∃ z : ℝ, a k = z) (hb : ∀ k, ∃ z : ℝ, b k = z) :
    (∑ k, a k * b k) + (∑ k, a k * (b k - b k)) + (∑ k, (a k - a k) * b k) = ∑ k, a k * b k := by
  simp only [real_sub_self _ (ha _), real_sub_self _ (hb _), mul_zero, zero_mul, Finset.sum_const_zero, add_zero]

theorem one_word : Ideal.ofBits .f32 0x3F800000#32 = ((1 : ℝ) : EReal) := by
  rw [Ideal.ofBits_one_f32, EReal.coe_one]

/-- The sigmoid of a real is a real. -/
theorem sigmoid_real (x : EReal) (h : ∃ z : ℝ, x = z) :
    ∃ z : ℝ, Ideal.div (Ideal.ofBits .f32 0x3F800000#32) (Ideal.ofBits .f32 0x3F800000#32 + Ideal.exp (-x)) = z := by
  obtain ⟨z, rfl⟩ := h
  have hp : (0 : ℝ) < 1 + Real.exp (-z) := by positivity
  refine ⟨1 * (1 + Real.exp (-z))⁻¹, ?_⟩
  rw [one_word, ← EReal.coe_neg, Ideal.exp_coe, ← EReal.coe_add, Ideal.div, if_neg (by exact_mod_cast hp.ne'), ← EReal.coe_inv, ← EReal.coe_mul]

theorem mul_real (x y : EReal) (hx : ∃ z : ℝ, x = z) (hy : ∃ z : ℝ, y = z) : ∃ z : ℝ, x * y = z := by
  obtain ⟨a, rfl⟩ := hx
  obtain ⟨b, rfl⟩ := hy
  exact ⟨a * b, (EReal.coe_mul a b).symm⟩

end Cert.Layer
-- ==== Proof.Ada.lean ====
/-
  The modulation vectors: the array that the call leaves is the reference's result, for a finite conditioning and finite
  weights.
-/
module

public import proofs.«01_k».proof.Proof.Split
public import proofs.«01_k».proof.Proof.MobaPre
public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Quiescent
public import Idealize.ShloMosaic.Lib.Claim

@[expose] public section
noncomputable section
namespace Cert.Layer.Ada
open Idealize.ShloMosaic Idealize.ShloMosaic.TcCoe Idealize.SL.Sem Idealize.ShloMosaic.Pointwise

/-- A number times its sigmoid. -/
def silu (x : EReal) : EReal := x * Ideal.div (Ideal.ofBits .f32 0x3F800000#32) (Ideal.ofBits .f32 0x3F800000#32 + Ideal.exp (-x))

theorem silu_real (x : EReal) (h : ∃ z : ℝ, x = z) : ∃ z : ℝ, silu x = z := mul_real _ _ h (sigmoid_real x h)

section
open Cert.Kernel6Ideal Cert.Kernel6Ideal.Gen

/-- The modulation of a sequence at a column. -/
def adaAt (x : Vec Ideal S4x1024 .f32) (w : Vec Ideal S1x1024x6144 .f32) (b : Vec Ideal S1x6144 .f32) (i : Fin 4) (n : Fin 6144) : EReal :=
  (∑ k : Fin 1024, silu (x (ix2 i k)) * w (ix3 0 k n)) + b (ix2 0 n)

/-- The windows' block indices at a point. -/
theorem wins : ∀ (t : Fin cfg0.N),
    win0_0.index t = ![0, 0]
    ∧ win0_1.index t = ![0, (grid0.coords t 0).val]
    ∧ win0_2.index t = ![0, (grid0.coords t 0).val]
    ∧ win0_3.index t = ![0, (grid0.coords t 0).val] :=
  (by decide +kernel : ∀ t : Fin grid0.N, _)

variable (m : (ℓ : Loc nD τ sig) → Buf (Elt Ideal) ℓ) (c : Dev nD) (t : Fin cfg0.N)

theorem V_w : V m c main_v0 = shapeCast S1024x6144 (m ((c : Thread nD τ).loc main_arg1) : Vec Ideal S1x1024x6144 .f32) shapeCasts_S1x1024x6144_S1024x6144 := by
  show StableHlo.after _ _ _ = _
  simp only [hostOps0, List.flatten_cons, List.flatten_nil, List.append_nil, List.cons_append, List.nil_append]
  after_results
  rfl

theorem V_b : V m c main_v2 = shapeCast S1x6144 (shapeCast S6144 (m ((c : Thread nD τ).loc main_arg2) : Vec Ideal S1x6144 .f32) shapeCasts_S1x6144_S6144) shapeCasts_S6144_S1x6144 := by
  show StableHlo.after _ _ _ = _
  simp only [hostOps0, List.flatten_cons, List.flatten_nil, List.append_nil, List.cons_append, List.nil_append]
  after_results
  rfl

theorem cast_w (w : Vec Ideal S1x1024x6144 .f32) (k : Fin 1024) (n : Fin 6144) :
    shapeCast S1024x6144 w shapeCasts_S1x1024x6144_S1024x6144 (ix2 k n) = w (ix3 0 k n) := by
  have := k.isLt; have := n.isLt
  pointwise

theorem grid_lt : (grid0.coords t 0).val < 6 := (grid0.coords t 0).isLt

/-- A column of the point's block, among all the columns. -/
def colAt (n : Fin 1024) : Fin 6144 := ⟨(grid0.coords t 0).val * 1024 + n.val, by have := grid_lt t; have := n.isLt; omega⟩

theorem blk_x (i : Fin 4) (k : Fin 1024) : (iblk m c 0 t : Vec Ideal S4x1024 .f32) (ix2 i k)
    = (m ((c : Thread nD τ).loc main_arg0) : Vec Ideal S4x1024 .f32) (ix2 i k) := by
  rw [← V_main_arg0 m c]
  blk_ext [iblk, (wins t).1]

theorem blk_w (k n : Fin 1024) : (iblk m c 1 t : Vec Ideal S1024x1024 .f32) (ix2 k n)
    = (m ((c : Thread nD τ).loc main_arg1) : Vec Ideal S1x1024x6144 .f32) (ix3 0 k (colAt t n)) := by
  have e : (iblk m c 1 t : Vec Ideal S1024x1024 .f32) (ix2 k n) = (V m c main_v0 : Vec Ideal S1024x6144 .f32) (ix2 k (colAt t n)) := by
    unfold colAt
    blk_ext [iblk, (wins t).2.1]
  rw [e, V_w]
  exact cast_w _ k _

theorem blk_b (n : Fin 1024) : (iblk m c 2 t : Vec Ideal S1x1024 .f32) (ix2 0 n)
    = (m ((c : Thread nD τ).loc main_arg2) : Vec Ideal S1x6144 .f32) (ix2 0 (colAt t n)) := by
  have e : (iblk m c 2 t : Vec Ideal S1x1024 .f32) (ix2 0 n) = (V m c main_v2 : Vec Ideal S1x6144 .f32) (ix2 0 (colAt t n)) := by
    unfold colAt
    blk_ext [iblk, (wins t).2.2.1]
  rw [e, V_b]
  generalize colAt t n = n'
  pointwise

/-- What the body computes of its three blocks. -/
theorem pay (v0 : Vec Ideal S4x1024 .f32) (v9 : Vec Ideal S1024x1024 .f32) (v24 : Vec Ideal S1x1024 .f32) (i : Fin 4) (n : Fin 1024) :
    k0_pay1 v0 v9 v24 (ix2 i n)
      = (∑ k : Fin 1024, silu (v0 (ix2 i k)) * v9 (ix2 k n)) + (∑ k : Fin 1024, silu (v0 (ix2 i k)) * (v9 (ix2 k n) - v9 (ix2 k n)))
        + (∑ k : Fin 1024, (silu (v0 (ix2 i k)) - silu (v0 (ix2 i k))) * v9 (ix2 k n)) + v24 (ix2 0 n) := by
  pointwise [k0_pay1, silu]
  have h : ∀ x : EReal, 0 - x = -x := fun x => by rw [sub_eq_add_neg, zero_add]
  simp only [h]

theorem out_eq (x0 : Vec Ideal S4x1024 .f32) (x1 : Vec Ideal S1024x1024 .f32) (x2 : Vec Ideal S1x1024 .f32) :
    out0_3 x0 x1 x2 = k0_pay1 x0 x1 x2 := by
  frame_out [out0_3]

/-- What a point computes. -/
theorem point (hx : ∀ i, ∃ z : ℝ, (m ((c : Thread nD τ).loc main_arg0) : Vec Ideal S4x1024 .f32) i = (z : EReal))
    (hw : ∀ i, ∃ z : ℝ, (m ((c : Thread nD τ).loc main_arg1) : Vec Ideal S1x1024x6144 .f32) i = (z : EReal)) (i : Fin 4) (n : Fin 1024) :
    k0_pay1 (F := Ideal) (iblk m c 0 t) (iblk m c 1 t) (iblk m c 2 t) (ix2 i n)
      = adaAt (m ((c : Thread nD τ).loc main_arg0)) (m ((c : Thread nD τ).loc main_arg1)) (m ((c : Thread nD τ).loc main_arg2)) i (colAt t n) := by
  rw [pay]
  unfold adaAt
  rw [split_sum (fun k => silu ((iblk m c 0 t : Vec Ideal S4x1024 .f32) (ix2 i k))) (fun k => (iblk m c 1 t : Vec Ideal S1024x1024 .f32) (ix2 k n))
    (fun k => silu_real _ (by rw [blk_x]; exact hx _)) (fun k => by rw [blk_w]; exact hw _)]
  simp only [blk_x m c t, blk_w m c t, blk_b m c t]

/-- **The array after the run.** -/
theorem array (hx : ∀ i, ∃ z : ℝ, (m ((c : Thread nD τ).loc main_arg0) : Vec Ideal S4x1024 .f32) i = (z : EReal))
    (hw : ∀ i, ∃ z : ℝ, (m ((c : Thread nD τ).loc main_arg1) : Vec Ideal S1x1024x6144 .f32) i = (z : EReal)) :
    (dats m 0 c).arrAt 3 cfg0.N = fun j : S4x6144.Idx =>
      adaAt (m ((c : Thread nD τ).loc main_arg0)) (m ((c : Thread nD τ).loc main_arg1)) (m ((c : Thread nD τ).loc main_arg2)) (j 0) (j 1) := by
  refine (dats m 0 c).arrAt_eq_of_covers 3 _ (by decide +kernel) fun t hf y => ?_
  have h := grid_lt t
  obtain ⟨r, n, rfl⟩ : ∃ (r : Fin 4) (n : Fin 1024), y = ix2 r n := ⟨y 0, y 1, by
    funext a; fin_cases a <;> rfl⟩
  have er : (win0_3.blk t).view.emb (ix2 r n) 0 = r := by
    apply Fin.ext
    blk_simp [(wins t).2.2.2]
  have ec : (win0_3.blk t).view.emb (ix2 r n) 1 = colAt t n := by
    apply Fin.ext
    blk_simp [(wins t).2.2.2]
    rfl
  show _ = adaAt _ _ _ ((win0_3.blk t).view.emb (ix2 r n) 0) ((win0_3.blk t).view.emb (ix2 r n) 1)
  rw [after0_3, er, ec, out_eq]
  exact point m c t hx hw r n

end

section
open Cert.Reference6Ideal Cert.Reference6Ideal.Read

/-- The reference's result at a sequence and a column. -/
theorem ref_apply (x : Vec Ideal S4x1024 .f32) (w : Vec Ideal S1x1024x6144 .f32) (b : Vec Ideal S1x6144 .f32) (i : Fin 4) (n : Fin 6144) :
    val_main_v6 (F := Ideal) x w b (ix2 i n) = adaAt x w b i n := by
  rw [val_main_v6_apply, val_main_v2_apply]
  have hl : ∀ k, lidx_main_v2 (ix2 i n) k = ix2 i k := fun k => by funext a; fin_cases a <;> rfl
  have hr : ∀ k, ridx_main_v2 (ix2 i n) k = ix2 k n := fun k => by funext a; fin_cases a <;> rfl
  have hw : ∀ k, val_main_v1 (F := Ideal) w (ix2 k n) = w (ix3 0 k n) := fun k => by unfold val_main_v1; pointwise
  have hb : val_main_v5 (F := Ideal) b (ix2 i n) = b (ix2 0 n) := by
    rw [val_main_v5_apply, val_main_v4_apply, val_main_v3_apply]
    refine congrArg b ?_
    funext a; fin_cases a
    · rfl
    · exact Fin.ext (Nat.mod_eq_of_lt n.isLt)
  simp only [hl, hr, hw, hb]
  rfl

end

instance preFacts : Cert.Pre_finite_ada.Facts where
  bcast_S_S4x1024 := by decide
  reducesTo_S4x1024_S_d0_1 := by decide
  h_S_ := by decide
  bcast_S_S1x1024x6144 := by decide
  reducesTo_S1x1024x6144_S_d0_1_2 := by decide

/-- What the precondition says of the arguments. -/
theorem finite_of (x : Vec Ideal Cert.Pre_finite_ada.S4x1024 .f32) (w : Vec Ideal Cert.Pre_finite_ada.S1x1024x6144 .f32)
    (b : Vec Ideal Cert.Pre_finite_ada.S1x6144 .f32) (h : Cert.Pre_finite_ada.fn (F := Ideal) x w b = fun _ => 1#1) :
    (∀ i, ∃ z : ℝ, x i = (z : EReal)) ∧ (∀ i, ∃ z : ℝ, w i = (z : EReal)) := by
  have hand : ∀ (x y : BitVec 1), IntOp.andi x y = 1#1 → x = 1#1 ∧ y = 1#1 := by decide
  obtain ⟨h1, h2⟩ := hand _ _ (congrFun h (fun a => a.elim0))
  haveI : Subsingleton Cert.Pre_finite_ada.S_.Idx := ⟨fun a b => funext fun d => d.elim0⟩
  refine ⟨fun i => Cert.Moba.real_of_abs_lt _ ?_, fun i => Cert.Moba.real_of_abs_lt _ ?_⟩
  · exact lt_of_lt_of_eq (Cert.Moba.lt_of_cmp _ _ (Host.reduce_andi_all _ _ _ _ _ h1 i)) Cert.Moba.inf_f32
  · exact lt_of_lt_of_eq (Cert.Moba.lt_of_cmp _ _ (Host.reduce_andi_all _ _ _ _ _ h2 i)) Cert.Moba.inf_f32

/-- **The kernel's array is the reference's result**, for a finite conditioning and finite weights. -/
theorem algebraic : Cert.algebraic_Kernel6Ideal_Reference6Ideal_pre_finite_ada (hKernel6Ideal := Cert.Kernel6Ideal.Gen.facts)
    (hReference6Ideal := Cert.Reference6Ideal.Gen.facts) (hPre_finite_ada := preFacts) := by
  pair_intro
  · run_from (Cert.Kernel6Ideal.Value.run_blocks (F := Ideal) m g)
  · refine θ_run_mono (Cert.Reference6Ideal.Value.run (F := Ideal) m' g') ?_
    intro r hr c
    refine ⟨(hr c).1.trans ?_, (hr c).2⟩
    rw [Cert.Reference6Ideal.Read.val_main_v6_eq, (hagree c).1, (hagree c).2.1, (hagree c).2.2]
    obtain ⟨hx, hw⟩ := finite_of _ _ _ (hpre c)
    refine Eq.trans ?_ (array m c hx hw).symm
    funext j
    obtain ⟨i, n, rfl⟩ : ∃ (i : Fin 4) (n : Fin 6144), j = ix2 i n := ⟨j 0, j 1, by funext a; fin_cases a <;> rfl⟩
    exact ref_apply _ _ _ i n

theorem frame_reference : Cert.quiescent_Reference6Ideal (hReference6Ideal := Cert.Reference6Ideal.Gen.facts) := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem frame_reference_finite : Cert.quiescent_Reference6Ideal_pre_finite_ada (hReference6Ideal := Cert.Reference6Ideal.Gen.facts)
    (hPre_finite_ada := preFacts) := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

end Cert.Layer.Ada
-- ==== Proof.RwkvSpec.lean ====
/-
  What the recurrence takes of a row: the shifted row, the decay, the rate, the gate, the normalized key, the key and the
  bonus, as numbers; and the sums over lanes that the kernel spreads wider than the reference does.
-/
module

public import proofs.«01_k».proof.Proof.Split

@[expose] public section
noncomputable section
namespace Cert.Layer
open Idealize.ShloMosaic

/-- The sigmoid. -/
def sigm (x : EReal) : EReal := Ideal.div 1 (1 + Ideal.exp (-x))

theorem sigm_real (x : EReal) : ∃ z : ℝ, sigm x = z := by
  induction x using EReal.rec with
  | bot =>
    refine ⟨0, ?_⟩
    have h : 1 + Ideal.exp (-(⊥ : EReal)) = ⊤ := by
      rw [EReal.neg_bot, Ideal.exp_top]; rfl
    unfold sigm
    rw [h]; simp [Ideal.div]
  | coe z =>
    have h := sigmoid_real (z : EReal) ⟨z, rfl⟩
    rwa [Ideal.ofBits_one_f32] at h
  | top =>
    refine ⟨1, ?_⟩
    have h : 1 + Ideal.exp (-(⊤ : EReal)) = 1 := by
      rw [EReal.neg_top, Ideal.exp_bot, add_zero]
    unfold sigm
    rw [h]; simp [Ideal.div]

theorem tanh_real (x : EReal) (h : ∃ z : ℝ, x = z) : ∃ z : ℝ, Ideal.tanh x = z := by
  obtain ⟨z, rfl⟩ := h
  exact ⟨Real.tanh z, Ideal.tanh_coe z⟩

theorem add_real (x y : EReal) (hx : ∃ z : ℝ, x = z) (hy : ∃ z : ℝ, y = z) : ∃ z : ℝ, x + y = z := by
  obtain ⟨a, rfl⟩ := hx
  obtain ⟨b, rfl⟩ := hy
  exact ⟨a + b, (EReal.coe_add a b).symm⟩

theorem sub_real (x y : EReal) (hx : ∃ z : ℝ, x = z) (hy : ∃ z : ℝ, y = z) : ∃ z : ℝ, x - y = z := by
  obtain ⟨a, rfl⟩ := hx
  obtain ⟨b, rfl⟩ := hy
  exact ⟨a - b, (EReal.coe_sub a b).symm⟩

/-- The lanes of the upper half hold zeros. -/
theorem sum_low (f : Fin 128 → EReal) (w : Fin 64 → EReal) :
    ∑ k : Fin 128, f k * (if h : k.val < 64 then w ⟨k.val, h⟩ else 0) = ∑ k : Fin 64, f ⟨k.val, by have := k.isLt; omega⟩ * w k := by
  rw [Fin.sum_univ_add (a := 64) (b := 64) (fun k : Fin 128 => f k * (if h : k.val < 64 then w ⟨k.val, h⟩ else 0))]
  have h0 : ∀ k : Fin 64, f (Fin.natAdd 64 k) * (if h : (Fin.natAdd 64 k).val < 64 then w ⟨(Fin.natAdd 64 k).val, h⟩ else 0) = 0 := fun k => by
    rw [dif_neg (by simp), mul_zero]
  simp only [h0, Finset.sum_const_zero, add_zero]
  refine Finset.sum_congr rfl fun k _ => ?_
  rw [dif_pos (by simp)]
  rfl

/-- The lanes of the lower half hold zeros. -/
theorem sum_high (f : Fin 128 → EReal) (w : Fin 64 → EReal) :
    ∑ k : Fin 128, f k * (if h : k.val < 64 then 0 else w ⟨k.val - 64, by have := k.isLt; omega⟩)
      = ∑ k : Fin 64, f ⟨64 + k.val, by have := k.isLt; omega⟩ * w k := by
  rw [Fin.sum_univ_add (a := 64) (b := 64) (fun k : Fin 128 => f k * (if h : k.val < 64 then 0 else w ⟨k.val - 64, by have := k.isLt; omega⟩))]
  have h0 : ∀ k : Fin 64, f (Fin.castAdd 64 k) * (if h : (Fin.castAdd 64 k).val < 64 then 0 else w ⟨(Fin.castAdd 64 k).val - 64, by have := k.isLt; omega⟩) = 0 := fun k => by
    rw [dif_pos (by simp), mul_zero]
  simp only [h0, Finset.sum_const_zero, zero_add]
  refine Finset.sum_congr rfl fun k _ => ?_
  rw [dif_neg (by simp)]
  have e : (⟨(Fin.natAdd 64 k).val - 64, by have := k.isLt; omega⟩ : Fin 64) = k := Fin.ext (by simp)
  rw [e]
  rfl

/-- The sum over the lanes of a lane's head. -/
def headSum (f : Fin 512 → EReal) (n : Fin 512) : EReal :=
  ∑ j : Fin 64, f ⟨n.val / 64 * 64 + j.val, by have := j.isLt; have := n.isLt; omega⟩

/-- A sum over all the lanes against ones in the lanes of a head. -/
theorem sum_head (f : Fin 512 → EReal) (n : Fin 512) :
    ∑ k : Fin 512, f k * (if k.val / 64 = n.val / 64 then 1 else 0) = headSum f n := by
  simp only [mul_ite, mul_one, mul_zero]
  rw [← Finset.sum_filter]
  unfold headSum
  symm
  refine Finset.sum_bij (fun (j : Fin 64) _ => (⟨n.val / 64 * 64 + j.val, by have := j.isLt; have := n.isLt; omega⟩ : Fin 512)) ?_ ?_ ?_ ?_
  · intro j _
    have := j.isLt
    simp only [Finset.mem_filter, Finset.mem_univ, true_and]
    omega
  · intro a _ b _ h
    have := congrArg Fin.val h
    exact Fin.ext (by simpa using this)
  · intro k hk
    simp only [Finset.mem_filter, Finset.mem_univ, true_and] at hk
    refine ⟨⟨k.val % 64, by omega⟩, Finset.mem_univ _, Fin.ext ?_⟩
    show n.val / 64 * 64 + k.val % 64 = k.val
    omega
  · intro j _
    rfl

/-- The same sum of the rounded parts and of the rests, for real numbers. -/
theorem sum_head_split (f : Fin 512 → EReal) (hf : ∀ k, ∃ z : ℝ, f k = z) (n : Fin 512) :
    (∑ k : Fin 512, f k * (if k.val / 64 = n.val / 64 then 1 else 0))
      + (∑ k : Fin 512, (f k - f k) * (if k.val / 64 = n.val / 64 then 1 else 0)) = headSum f n := by
  simp only [real_sub_self _ (hf _), zero_mul, Finset.sum_const_zero, add_zero]
  exact sum_head f n

/-- The logarithm of the decay, from its argument. -/
def decay (x : EReal) : EReal :=
  -Ideal.exp (-(max (-x) 0 + Ideal.log (1 + Ideal.exp (-FloatOps.absf (F := Ideal) (φ := .f32) (-x)))) - Ideal.ofBits .f32 0x3F000000#32)

/-- The decay's row, from the shifted row. -/
def decayAt (s : Fin 1792 → EReal) (w0 : Fin 512 → EReal) (w2 : Fin 64 → Fin 512 → EReal) (n : Fin 512) : EReal :=
  decay (w0 n + ∑ k : Fin 64, Ideal.tanh (s ⟨1536 + k.val, by have := k.isLt; omega⟩) * w2 k n)

/-- The rate's row. -/
def rateAt (s : Fin 1792 → EReal) (a0 : Fin 512 → EReal) (a2 : Fin 64 → Fin 512 → EReal) (n : Fin 512) : EReal :=
  sigm (a0 n + ∑ k : Fin 64, s ⟨1600 + k.val, by have := k.isLt; omega⟩ * a2 k n)

/-- The output gate's row. -/
def gateAt (s : Fin 1792 → EReal) (g2 : Fin 128 → Fin 512 → EReal) (n : Fin 512) : EReal :=
  ∑ k : Fin 128, sigm (s ⟨1664 + k.val, by have := k.isLt; omega⟩) * g2 k n

/-- The row under the key's factor. -/
def rawAt (s : Fin 1792 → EReal) (kk : Fin 512 → EReal) (n : Fin 512) : EReal :=
  s ⟨512 + n.val, by have := n.isLt; omega⟩ * kk n

/-- A number under its head's length. -/
def unit (x ss : EReal) : EReal := Ideal.div x (max (Ideal.sqrt ss) (Ideal.ofBits .f32 0x2B8CBCCC#32))

/-- The key of length one. -/
def unitAt (s : Fin 1792 → EReal) (kk : Fin 512 → EReal) (n : Fin 512) : EReal :=
  unit (rawAt s kk n) (headSum (fun j => rawAt s kk j * rawAt s kk j) n)

/-- The key. -/
def keyAt (s : Fin 1792 → EReal) (a ka : Fin 512 → EReal) (n : Fin 512) : EReal :=
  s ⟨512 + n.val, by have := n.isLt; omega⟩ * (1 + (a n - 1) * ka n)

/-- The bonus. -/
def bonusAt (s : Fin 1792 → EReal) (key rk : Fin 512 → EReal) (n : Fin 512) : EReal :=
  headSum (fun j => s ⟨j.val, by have := j.isLt; omega⟩ * key j * rk j) n * s ⟨1024 + n.val, by have := n.isLt; omega⟩

end Cert.Layer
-- ==== Proof.RwkvPay.lean ====
/-
  What the body of the recurrence's preparation computes of its blocks, at a row and a lane: the functions of the shifted
  row in Proof/RwkvSpec.lean.
-/
module

public import proofs.«01_k».proof.Proof.RwkvSpec
public import proofs.«01_k».proof.Proof.Gen.Kernel7Ideal.Frame
public import Idealize.ShloMosaic.Lib.Pipeline.ValueKit

@[expose] public section
noncomputable section
namespace Cert.Layer.Rwkv
open Idealize.ShloMosaic Idealize.ShloMosaic.TcCoe Idealize.SL.Sem Idealize.ShloMosaic.Pointwise
open Cert.Kernel7Ideal Cert.Kernel7Ideal.Gen

theorem zero_minus (x : EReal) : 0 - x = -x := by rw [sub_eq_add_neg, zero_add]

/-- A word's bit that says whether a tile is the first of its sequence. -/
theorem first_tile (b : Fin 64) (x y : EReal) :
    Scalar.select (Scalar.cmpi CmpIPredicate.eq
      (Scalar.select
        (Scalar.andi
          (Scalar.xori (Scalar.cmpi CmpIPredicate.slt (Scalar.remsi (BitVec.ofNat 32 b.val) (Scalar.select (Scalar.cmpi CmpIPredicate.eq 16#32 0#32) 1#32 16#32)) 0#32)
            (Scalar.cmpi CmpIPredicate.slt (Scalar.select (Scalar.cmpi CmpIPredicate.eq 16#32 0#32) 1#32 16#32) 0#32))
          (Scalar.cmpi CmpIPredicate.ne (Scalar.remsi (BitVec.ofNat 32 b.val) (Scalar.select (Scalar.cmpi CmpIPredicate.eq 16#32 0#32) 1#32 16#32)) 0#32))
        (Scalar.addi (Scalar.remsi (BitVec.ofNat 32 b.val) (Scalar.select (Scalar.cmpi CmpIPredicate.eq 16#32 0#32) 1#32 16#32))
          (Scalar.select (Scalar.cmpi CmpIPredicate.eq 16#32 0#32) 1#32 16#32))
        (Scalar.remsi (BitVec.ofNat 32 b.val) (Scalar.select (Scalar.cmpi CmpIPredicate.eq 16#32 0#32) 1#32 16#32)))
      0#32) x y = if b.val % 16 = 0 then x else y := by
  have h : ∀ b : Fin 64, (Scalar.cmpi CmpIPredicate.eq
      (Scalar.select
        (Scalar.andi
          (Scalar.xori (Scalar.cmpi CmpIPredicate.slt (Scalar.remsi (BitVec.ofNat 32 b.val) (Scalar.select (Scalar.cmpi CmpIPredicate.eq 16#32 0#32) 1#32 16#32)) 0#32)
            (Scalar.cmpi CmpIPredicate.slt (Scalar.select (Scalar.cmpi CmpIPredicate.eq 16#32 0#32) 1#32 16#32) 0#32))
          (Scalar.cmpi CmpIPredicate.ne (Scalar.remsi (BitVec.ofNat 32 b.val) (Scalar.select (Scalar.cmpi CmpIPredicate.eq 16#32 0#32) 1#32 16#32)) 0#32))
        (Scalar.addi (Scalar.remsi (BitVec.ofNat 32 b.val) (Scalar.select (Scalar.cmpi CmpIPredicate.eq 16#32 0#32) 1#32 16#32))
          (Scalar.select (Scalar.cmpi CmpIPredicate.eq 16#32 0#32) 1#32 16#32))
        (Scalar.remsi (BitVec.ofNat 32 b.val) (Scalar.select (Scalar.cmpi CmpIPredicate.eq 16#32 0#32) 1#32 16#32)))
      0#32) = if b.val % 16 = 0 then 1#1 else 0#1 := by decide +kernel
  rw [h b]
  split <;> rfl

theorem first_row (r : Fin 512) (x y : EReal) :
    Scalar.select (IntOp.cmpi CmpIPredicate.eq (BitVec.ofNat 32 r.val) 0#32) x y = if r.val = 0 then x else y := by
  have h : ∀ r : Fin 512, IntOp.cmpi CmpIPredicate.eq (BitVec.ofNat 32 r.val) 0#32 = if r.val = 0 then 1#1 else 0#1 := by decide +kernel
  rw [h r]
  split <;> rfl

/-- The shifted block. -/
theorem pay_shift (i : grid0.Coords) (v0 : Vec Ideal S512x1792 .f32) (v12 v25 : Vec Ideal S1x1792 .f32) (r : Fin 512) (c : Fin 1792) :
    k0_pay3 i v0 v12 v25 (ix2 r c) = v0 (ix2 r c)
      + ((if r.val = 0 then (if (i 0).val % 16 = 0 then 0 else v12 (ix2 0 c))
          else v0 (ix2 ⟨r.val - 1, by have := r.isLt; omega⟩ c)) - v0 (ix2 r c)) * v25 (ix2 0 c) := by
  pointwise [k0_pay3]
  rw [first_row]
  by_cases h : r.val = 0
  · rw [if_pos h, if_pos h]
    exact congrArg (fun p => v0 (ix2 r c) + (p - v0 (ix2 r c)) * v25 (ix2 0 c)) (first_tile (i 0) 0 (v12 (ix2 0 c)))
  · rw [if_neg h, if_neg h]
    have e : (⟨(r.val + 512 - 1) % 512, Nat.mod_lt _ (by decide)⟩ : Fin 512) = ⟨r.val - 1, by have := r.isLt; omega⟩ :=
      Fin.ext (by have := r.isLt; show (r.val + 512 - 1) % 512 = r.val - 1; omega)
    rw [e]

section
variable (i : grid0.Coords) (v0 : Vec Ideal S512x1792 .f32) (v12 v25 : Vec Ideal S1x1792 .f32) (r n : Fin 512)

theorem pay_r : k0_pay4 i v0 v12 v25 (ix2 r n) = k0_pay3 i v0 v12 v25 (ix2 r ⟨n.val, by have := n.isLt; omega⟩) := by
  unfold k0_pay4
  generalize k0_pay3 i v0 v12 v25 = y
  pointwise

theorem pay_k : k0_pay5 i v0 v12 v25 (ix2 r n) = k0_pay3 i v0 v12 v25 (ix2 r ⟨512 + n.val, by have := n.isLt; omega⟩) := by
  unfold k0_pay5
  generalize k0_pay3 i v0 v12 v25 = y
  pointwise

theorem pay_v : k0_pay6 i v0 v12 v25 (ix2 r n) = k0_pay3 i v0 v12 v25 (ix2 r ⟨1024 + n.val, by have := n.isLt; omega⟩) := by
  unfold k0_pay6
  generalize k0_pay3 i v0 v12 v25 = y
  pointwise

theorem pay_wa (k : Fin 128) : k0_pay7 i v0 v12 v25 (ix2 r k) = k0_pay3 i v0 v12 v25 (ix2 r ⟨1536 + k.val, by have := k.isLt; omega⟩) := by
  unfold k0_pay7
  generalize k0_pay3 i v0 v12 v25 = y
  pointwise

theorem pay_g (k : Fin 128) : k0_pay8 i v0 v12 v25 (ix2 r k) = k0_pay3 i v0 v12 v25 (ix2 r ⟨1664 + k.val, by have := k.isLt; omega⟩) := by
  unfold k0_pay8
  generalize k0_pay3 i v0 v12 v25 = y
  pointwise

theorem pay_tanh (k : Fin 128) : k0_pay10 i v0 v12 v25 (ix2 r k)
    = Ideal.tanh (k0_pay3 i v0 v12 v25 (ix2 r ⟨1536 + k.val, by have := k.isLt; omega⟩)) := by
  rw [← pay_wa]
  unfold k0_pay10
  generalize k0_pay7 i v0 v12 v25 = y
  pointwise

end

theorem pay_decay (v36 : Vec Ideal S1x512 .f32) (v37 : FVec Ideal S512x128 .f32) (v38 : Vec Ideal S128x512 .f32) (r n : Fin 512)
    (h37 : ∀ k, ∃ z : ℝ, v37 (ix2 r k) = z) (h38 : ∀ k, ∃ z : ℝ, v38 (ix2 k n) = z) :
    k0_pay11 (k0_pay9 v36) v37 v38 (ix2 r n) = decay (v36 (ix2 0 n) + ∑ k : Fin 128, v37 (ix2 r k) * v38 (ix2 k n)) := by
  pointwise [k0_pay11, k0_pay9]
  rw [split_sum (fun k => v37 (ix2 r k)) (fun k => v38 (ix2 k n)) h37 h38]
  simp only [zero_minus]
  rfl

theorem pay_rate (v75 : Vec Ideal S1x512 .f32) (v77 : Vec Ideal S128x512 .f32) (v33 : FVec Ideal S512x128 .f32) (r n : Fin 512)
    (h33 : ∀ k, ∃ z : ℝ, v33 (ix2 r k) = z) (h77 : ∀ k, ∃ z : ℝ, v77 (ix2 k n) = z) :
    k0_pay16 (k0_pay12 v75) (k0_pay13 v77) (k0_pay14 v33) (k0_pay15 v33) (ix2 r n)
      = sigm (v75 (ix2 0 n) + ∑ k : Fin 128, v33 (ix2 r k) * v77 (ix2 k n)) := by
  pointwise [k0_pay16, k0_pay12, k0_pay13, k0_pay15, k0_pay14]
  rw [split_sum (fun k => v33 (ix2 r k)) (fun k => v77 (ix2 k n)) h33 h77]
  simp only [zero_minus]
  rfl

theorem pay_gate (v34 : FVec Ideal S512x128 .f32) (v108 : Vec Ideal S128x512 .f32) (r n : Fin 512) (h : ∀ k, ∃ z : ℝ, v108 (ix2 k n) = z) :
    k0_pay17 v34 v108 (ix2 r n) = ∑ k : Fin 128, sigm (v34 (ix2 r k)) * v108 (ix2 k n) := by
  refine Eq.trans ?_ (split_sum (fun k => sigm (v34 (ix2 r k))) (fun k => v108 (ix2 k n)) (fun k => sigm_real _) h)
  pointwise [k0_pay17]
  simp only [zero_minus]
  rfl

/-- The ones of a head. -/
theorem pay_ones (r n : Fin 512) : k0_pay18 (F := Ideal) (iota .tc S512x512 32 [0] iota_S512x512_d0_w32) (ix2 r n)
    = if r.val / 64 = n.val / 64 then 1 else 0 := by
  pointwise [k0_pay18]
  have h : ∀ r : Fin 512, IntOp.shrsi ArithUnit.vector (BitVec.ofNat 32 r.val) 6#32 = BitVec.ofNat 32 (r.val / 64) := by decide +kernel
  have h' : ∀ a b : Fin 8, BitVec.setWidth 32 (IntOp.cmpi CmpIPredicate.eq (BitVec.ofNat 32 a.val) (BitVec.ofNat 32 b.val))
      = if a.val = b.val then 1#32 else 0#32 := by decide +kernel
  have := r.isLt; have := n.isLt
  rw [h, h, h' ⟨r.val / 64, by omega⟩ ⟨n.val / 64, by omega⟩]
  show FloatOps.sitofp _ (if r.val / 64 = n.val / 64 then 1#32 else 0#32) = _
  split
  · show (((1#32 : BitVec 32).toInt : ℝ) : EReal) = 1
    norm_num
  · show (((0#32 : BitVec 32).toInt : ℝ) : EReal) = 0
    norm_num

theorem pay_unit (v31 : FVec Ideal S512x512 .f32) (v134 : Vec Ideal S1x512 .f32) (r n : Fin 512)
    (h31 : ∀ k, ∃ z : ℝ, v31 (ix2 r k) = z) (h134 : ∀ k, ∃ z : ℝ, v134 (ix2 0 k) = z) :
    k0_pay19 v31 (iota .tc S512x512 32 [0] iota_S512x512_d0_w32) v134 (ix2 r n)
      = unit (v31 (ix2 r n) * v134 (ix2 0 n)) (headSum (fun j => v31 (ix2 r j) * v134 (ix2 0 j) * (v31 (ix2 r j) * v134 (ix2 0 j))) n) := by
  have hr : ∀ k, ∃ z : ℝ, v31 (ix2 r k) * v134 (ix2 0 k) = z := fun k => mul_real _ _ (h31 k) (h134 k)
  rw [← sum_head_split _ (fun k => mul_real _ _ (hr k) (hr k))]
  simp only [← pay_ones]
  unfold k0_pay19
  generalize k0_pay18 (F := Ideal) (iota .tc S512x512 32 [0] iota_S512x512_d0_w32) = y
  pointwise
  rfl

theorem pay_key (v31 v100 : FVec Ideal S512x512 .f32) (v152 : Vec Ideal S1x512 .f32) (r n : Fin 512) :
    k0_pay20 v31 v100 v152 (ix2 r n) = v31 (ix2 r n) * (1 + (v100 (ix2 r n) - 1) * v152 (ix2 0 n)) := by
  pointwise [k0_pay20]

theorem pay_prod (v100 v149 : FVec Ideal S512x512 .f32) (r n : Fin 512) :
    k0_pay1 v100 v149 (ix2 r n) = v149 (ix2 r n) * v100 (ix2 r n) := by
  pointwise [k0_pay1]

theorem pay_bonus (v30 v32 v158 : FVec Ideal S512x512 .f32) (v166 : Vec Ideal S1x512 .f32) (r n : Fin 512)
    (h : ∀ k, ∃ z : ℝ, v30 (ix2 r k) * v158 (ix2 r k) * v166 (ix2 0 k) = z) :
    k0_pay2 v30 v32 (k0_pay18 (F := Ideal) (iota .tc S512x512 32 [0] iota_S512x512_d0_w32)) v158 v166 (ix2 r n)
      = headSum (fun j => v30 (ix2 r j) * v158 (ix2 r j) * v166 (ix2 0 j)) n * v32 (ix2 r n) := by
  rw [← sum_head_split _ h]
  simp only [← pay_ones]
  generalize k0_pay18 (F := Ideal) (iota .tc S512x512 32 [0] iota_S512x512_d0_w32) = y
  pointwise [k0_pay2]

end Cert.Layer.Rwkv
-- ==== Proof.Rwkv.lean ====
/-
  What the recurrence takes, from the projected columns: the eight arrays that the call leaves, as functions of its
  arguments.
-/
module

public import proofs.«01_k».proof.Proof.RwkvPay
public import proofs.«01_k».proof.Proof.Gen.Kernel7Ideal.Value

@[expose] public section
noncomputable section
namespace Cert.Layer.Rwkv
open Idealize.ShloMosaic Idealize.ShloMosaic.TcCoe Idealize.SL.Sem Idealize.ShloMosaic.Pointwise
open Cert.Kernel7Ideal Cert.Kernel7Ideal.Gen

/-- The call's arguments. -/
structure Args where
  z : Vec Ideal S32768x1792 .f32
  mu : Vec Ideal S1x1792 .f32
  w0 : Vec Ideal S1x512 .f32
  w2 : Vec Ideal S1x64x512 .f32
  a0 : Vec Ideal S1x512 .f32
  a2 : Vec Ideal S1x64x512 .f32
  g2 : Vec Ideal S1x128x512 .f32
  kk : Vec Ideal S1x512 .f32
  ka : Vec Ideal S1x512 .f32
  rk : Vec Ideal S1x8x64 .f32

/-- All but the two added vectors are real. -/
structure Args.Real (A : Args) : Prop where
  z : ∀ i, ∃ x : ℝ, A.z i = (x : EReal)
  mu : ∀ i, ∃ x : ℝ, A.mu i = (x : EReal)
  w2 : ∀ i, ∃ x : ℝ, A.w2 i = (x : EReal)
  a2 : ∀ i, ∃ x : ℝ, A.a2 i = (x : EReal)
  g2 : ∀ i, ∃ x : ℝ, A.g2 i = (x : EReal)
  kk : ∀ i, ∃ x : ℝ, A.kk i = (x : EReal)
  ka : ∀ i, ∃ x : ℝ, A.ka i = (x : EReal)
  rk : ∀ i, ∃ x : ℝ, A.rk i = (x : EReal)

/-- The row before, of the same sequence. -/
def Args.prev (A : Args) (row : Fin 32768) (c : Fin 1792) : EReal :=
  if row.val % 8192 = 0 then 0 else A.z (ix2 ⟨row.val - 1, by have := row.isLt; omega⟩ c)

/-- The shifted row. -/
def Args.sh (A : Args) (row : Fin 32768) (c : Fin 1792) : EReal :=
  A.z (ix2 row c) + (A.prev row c - A.z (ix2 row c)) * A.mu (ix2 0 c)

/-- The bonus's factor at a lane. -/
def Args.bon (A : Args) (n : Fin 512) : EReal :=
  A.rk (ix3 0 ⟨n.val / 64, by have := n.isLt; omega⟩ ⟨n.val % 64, by omega⟩)

def Args.r (A : Args) (row : Fin 32768) (n : Fin 512) : EReal := A.sh row ⟨n.val, by have := n.isLt; omega⟩
def Args.lw (A : Args) (row : Fin 32768) (n : Fin 512) : EReal := decayAt (A.sh row) (fun n => A.w0 (ix2 0 n)) (fun k n => A.w2 (ix3 0 k n)) n
def Args.rate (A : Args) (row : Fin 32768) (n : Fin 512) : EReal := rateAt (A.sh row) (fun n => A.a0 (ix2 0 n)) (fun k n => A.a2 (ix3 0 k n)) n
def Args.key (A : Args) (row : Fin 32768) (n : Fin 512) : EReal := keyAt (A.sh row) (A.rate row) (fun n => A.ka (ix2 0 n)) n
def Args.v (A : Args) (row : Fin 32768) (n : Fin 512) : EReal := A.sh row ⟨1024 + n.val, by have := n.isLt; omega⟩
def Args.kn (A : Args) (row : Fin 32768) (n : Fin 512) : EReal := unitAt (A.sh row) (fun n => A.kk (ix2 0 n)) n
def Args.b (A : Args) (row : Fin 32768) (n : Fin 512) : EReal := A.kn row n * A.rate row n
def Args.bonus (A : Args) (row : Fin 32768) (n : Fin 512) : EReal := bonusAt (A.sh row) (A.key row) A.bon n
def Args.g (A : Args) (row : Fin 32768) (n : Fin 512) : EReal := gateAt (A.sh row) (fun k n => A.g2 (ix3 0 k n)) n

variable {A : Args}

theorem Args.Real.sh (h : A.Real) (row : Fin 32768) (c : Fin 1792) : ∃ x : ℝ, A.sh row c = (x : EReal) := by
  refine add_real _ _ (h.z _) (mul_real _ _ (sub_real _ _ ?_ (h.z _)) (h.mu _))
  unfold Args.prev
  split
  · exact ⟨0, EReal.coe_zero.symm⟩
  · exact h.z _

theorem Args.Real.key (h : A.Real) (row : Fin 32768) (n : Fin 512) : ∃ x : ℝ, A.key row n = (x : EReal) :=
  mul_real _ _ (h.sh row _) (add_real _ _ ⟨1, EReal.coe_one.symm⟩
    (mul_real _ _ (sub_real _ _ (sigm_real _) ⟨1, EReal.coe_one.symm⟩) (h.ka _)))

/-- The windows' block indices at a point. -/
theorem wins : ∀ (t : Fin cfg0.N),
    (win0_0.index t = ![(grid0.coords t 0).val, 0] ∧ win0_1.index t = ![(grid0.coords t 0).val * 64 - 1, 0])
    ∧ (win0_2.index t = ![0, 0] ∧ win0_3.index t = ![0, 0] ∧ win0_4.index t = ![0, 0] ∧ win0_5.index t = ![0, 0] ∧ win0_6.index t = ![0, 0]
      ∧ win0_7.index t = ![0, 0] ∧ win0_8.index t = ![0, 0] ∧ win0_9.index t = ![0, 0] ∧ win0_10.index t = ![0, 0])
    ∧ (win0_11.index t = ![(grid0.coords t 0).val, 0] ∧ win0_12.index t = ![(grid0.coords t 0).val, 0]
      ∧ win0_13.index t = ![(grid0.coords t 0).val, 0] ∧ win0_14.index t = ![(grid0.coords t 0).val, 0]
      ∧ win0_15.index t = ![(grid0.coords t 0).val, 0] ∧ win0_16.index t = ![(grid0.coords t 0).val, 0]
      ∧ win0_17.index t = ![(grid0.coords t 0).val, 0] ∧ win0_18.index t = ![(grid0.coords t 0).val, 0]) :=
  (by decide +kernel : ∀ t : Fin grid0.N, _)

variable (m : (ℓ : Loc nD τ sig) → Buf (Elt Ideal) ℓ) (c : Dev nD) (t : Fin cfg0.N)

/-- The arguments that a run starts from. -/
def args : Args where
  z := m ((c : Thread nD τ).loc main_arg0)
  mu := m ((c : Thread nD τ).loc main_arg1)
  w0 := m ((c : Thread nD τ).loc main_arg2)
  w2 := m ((c : Thread nD τ).loc main_arg3)
  a0 := m ((c : Thread nD τ).loc main_arg4)
  a2 := m ((c : Thread nD τ).loc main_arg5)
  g2 := m ((c : Thread nD τ).loc main_arg6)
  kk := m ((c : Thread nD τ).loc main_arg7)
  ka := m ((c : Thread nD τ).loc main_arg8)
  rk := m ((c : Thread nD τ).loc main_arg9)

/-- A vector of 512 as the host code hands it over. -/
def asRow (x : Vec Ideal S1x512 .f32) : Vec Ideal S1x512 .f32 := shapeCast S1x512 (shapeCast S512 x shapeCasts_S1x512_S512) shapeCasts_S512_S1x512

theorem asRow_apply (x : Vec Ideal S1x512 .f32) (n : Fin 512) : asRow x (ix2 0 n) = x (ix2 0 n) := by
  pointwise [asRow]

theorem V_mu : V m c main_v1 = shapeCast S1x1792 (shapeCast S1792 (args m c).mu shapeCasts_S1x1792_S1792) shapeCasts_S1792_S1x1792 := by
  show StableHlo.after _ _ _ = _
  simp only [hostOps0, List.flatten_cons, List.flatten_nil, List.append_nil, List.cons_append, List.nil_append]
  after_results
  rfl

theorem V_w0 : V m c main_v3 = asRow (args m c).w0 := by
  show StableHlo.after _ _ _ = _
  simp only [hostOps0, List.flatten_cons, List.flatten_nil, List.append_nil, List.cons_append, List.nil_append]
  after_results
  rfl

/-- The rows of zeros. -/
def zeros64 : Vec Ideal S64x512 .f32 := broadcastInDim S64x512 ![] bcast_S_S64x512 (constant (F := Ideal) S_ .f32 0x00000000#32)

theorem V_w2 : V m c main_v6 = concatenate S128x512 0 [⟨S64x512, shapeCast S64x512 (args m c).w2 shapeCasts_S1x64x512_S64x512⟩, ⟨S64x512, zeros64⟩]
    concatenates_S64x512_S64x512_S128x512_d0 := by
  show StableHlo.after _ _ _ = _
  simp only [hostOps0, List.flatten_cons, List.flatten_nil, List.append_nil, List.cons_append, List.nil_append]
  after_results
  rfl

theorem V_a0 : V m c main_v8 = asRow (args m c).a0 := by
  show StableHlo.after _ _ _ = _
  simp only [hostOps0, List.flatten_cons, List.flatten_nil, List.append_nil, List.cons_append, List.nil_append]
  after_results
  rfl

theorem V_a2 : V m c main_v11 = concatenate S128x512 0 [⟨S64x512, zeros64⟩, ⟨S64x512, shapeCast S64x512 (args m c).a2 shapeCasts_S1x64x512_S64x512⟩]
    concatenates_S64x512_S64x512_S128x512_d0 := by
  show StableHlo.after _ _ _ = _
  simp only [hostOps0, List.flatten_cons, List.flatten_nil, List.append_nil, List.cons_append, List.nil_append]
  after_results
  rfl

theorem V_g2 : V m c main_v12 = shapeCast S128x512 (args m c).g2 shapeCasts_S1x128x512_S128x512 := by
  show StableHlo.after _ _ _ = _
  simp only [hostOps0, List.flatten_cons, List.flatten_nil, List.append_nil, List.cons_append, List.nil_append]
  after_results
  rfl

theorem V_kk : V m c main_v14 = asRow (args m c).kk := by
  show StableHlo.after _ _ _ = _
  simp only [hostOps0, List.flatten_cons, List.flatten_nil, List.append_nil, List.cons_append, List.nil_append]
  after_results
  rfl

theorem V_ka : V m c main_v16 = asRow (args m c).ka := by
  show StableHlo.after _ _ _ = _
  simp only [hostOps0, List.flatten_cons, List.flatten_nil, List.append_nil, List.cons_append, List.nil_append]
  after_results
  rfl

theorem V_rk : V m c main_v19 = asRow (shapeCast S1x512 (args m c).rk shapeCasts_S1x8x64_S1x512) := by
  show StableHlo.after _ _ _ = _
  simp only [hostOps0, List.flatten_cons, List.flatten_nil, List.append_nil, List.cons_append, List.nil_append]
  after_results
  rfl

theorem zeros_at (k : Fin 64) (n : Fin 512) : zeros64 (ix2 k n) = 0 := by
  pointwise [zeros64]

theorem low_at (x : Vec Ideal S1x64x512 .f32) (k : Fin 128) (n : Fin 512) :
    concatenate S128x512 0 [⟨S64x512, shapeCast S64x512 x shapeCasts_S1x64x512_S64x512⟩, ⟨S64x512, zeros64⟩]
      concatenates_S64x512_S64x512_S128x512_d0 (ix2 k n) = if h : k.val < 64 then x (ix3 0 ⟨k.val, h⟩ n) else 0 := by
  pointwise [zeros64]

theorem high_at (x : Vec Ideal S1x64x512 .f32) (k : Fin 128) (n : Fin 512) :
    concatenate S128x512 0 [⟨S64x512, zeros64⟩, ⟨S64x512, shapeCast S64x512 x shapeCasts_S1x64x512_S64x512⟩]
      concatenates_S64x512_S64x512_S128x512_d0 (ix2 k n)
      = if h : k.val < 64 then 0 else x (ix3 0 ⟨k.val - 64, by have := k.isLt; omega⟩ n) := by
  pointwise [zeros64]

theorem bon_at (x : Vec Ideal S1x8x64 .f32) (n : Fin 512) : shapeCast S1x512 x shapeCasts_S1x8x64_S1x512 (ix2 0 n)
    = x (ix3 0 ⟨n.val / 64, by have := n.isLt; omega⟩ ⟨n.val % 64, by omega⟩) := by
  have := n.isLt
  pointwise

theorem grid_lt : (grid0.coords t 0).val < 64 := (grid0.coords t 0).isLt

/-- A row of the point's block, among all the rows. -/
def rowAt (r : Fin 512) : Fin 32768 := ⟨(grid0.coords t 0).val * 512 + r.val, by have := grid_lt t; have := r.isLt; omega⟩

theorem blk_z (r : Fin 512) (k : Fin 1792) : (iblk m c 0 t : Vec Ideal S512x1792 .f32) (ix2 r k) = (args m c).z (ix2 (rowAt t r) k) := by
  show _ = (m ((c : Thread nD τ).loc main_arg0) : Vec Ideal S32768x1792 .f32) (ix2 (rowAt t r) k)
  rw [← V_main_arg0 m c]
  unfold rowAt
  blk_ext [iblk, (wins t).1.1]

/-- The row before the point's block. -/
theorem blk_before (k : Fin 1792) (h : ¬ (grid0.coords t 0).val % 16 = 0) : (iblk m c 1 t : Vec Ideal S8x1792 .f32) (ix2 7 k)
    = (args m c).z (ix2 ⟨(grid0.coords t 0).val * 512 - 1, by have := grid_lt t; omega⟩ k) := by
  show _ = (m ((c : Thread nD τ).loc main_arg0) : Vec Ideal S32768x1792 .f32) (ix2 ⟨(grid0.coords t 0).val * 512 - 1, by have := grid_lt t; omega⟩ k)
  have h0 := grid_lt t
  rw [← V_main_arg0 m c]
  have e : (⟨(grid0.coords t 0).val * 512 - 1, by omega⟩ : Fin 32768) = ⟨((grid0.coords t 0).val * 64 - 1) * 8 + 7, by omega⟩ := Fin.ext (by
    show (grid0.coords t 0).val * 512 - 1 = ((grid0.coords t 0).val * 64 - 1) * 8 + 7; omega)
  rw [e]
  blk_ext [iblk, (wins t).1.2]

theorem blk_mu (k : Fin 1792) : (iblk m c 2 t : Vec Ideal S1x1792 .f32) (ix2 0 k) = (args m c).mu (ix2 0 k) := by
  have e : (iblk m c 2 t : Vec Ideal S1x1792 .f32) (ix2 0 k) = (V m c main_v1 : Vec Ideal S1x1792 .f32) (ix2 0 k) := by
    blk_ext [iblk, (wins t).2.1.1]
  rw [e, V_mu]
  pointwise

theorem blk_w0 (k : Fin 512) : (iblk m c 3 t : Vec Ideal S1x512 .f32) (ix2 0 k) = (args m c).w0 (ix2 0 k) := by
  refine Eq.trans ?_ (asRow_apply _ k)
  rw [← V_w0 m c]
  blk_ext [iblk, (wins t).2.1.2.1]

theorem blk_w2 (k : Fin 128) (n : Fin 512) : (iblk m c 4 t : Vec Ideal S128x512 .f32) (ix2 k n)
    = if h : k.val < 64 then (args m c).w2 (ix3 0 ⟨k.val, h⟩ n) else 0 := by
  rw [← low_at, ← V_w2 m c]
  blk_ext [iblk, (wins t).2.1.2.2.1]

theorem blk_a0 (k : Fin 512) : (iblk m c 5 t : Vec Ideal S1x512 .f32) (ix2 0 k) = (args m c).a0 (ix2 0 k) := by
  refine Eq.trans ?_ (asRow_apply _ k)
  rw [← V_a0 m c]
  blk_ext [iblk, (wins t).2.1.2.2.2.1]

theorem blk_a2 (k : Fin 128) (n : Fin 512) : (iblk m c 6 t : Vec Ideal S128x512 .f32) (ix2 k n)
    = if h : k.val < 64 then 0 else (args m c).a2 (ix3 0 ⟨k.val - 64, by have := k.isLt; omega⟩ n) := by
  rw [← high_at, ← V_a2 m c]
  blk_ext [iblk, (wins t).2.1.2.2.2.2.1]

theorem blk_g2 (k : Fin 128) (n : Fin 512) : (iblk m c 7 t : Vec Ideal S128x512 .f32) (ix2 k n) = (args m c).g2 (ix3 0 k n) := by
  have e : (iblk m c 7 t : Vec Ideal S128x512 .f32) (ix2 k n) = (V m c main_v12 : Vec Ideal S128x512 .f32) (ix2 k n) := by
    blk_ext [iblk, (wins t).2.1.2.2.2.2.2.1]
  rw [e, V_g2]
  pointwise

theorem blk_kk (k : Fin 512) : (iblk m c 8 t : Vec Ideal S1x512 .f32) (ix2 0 k) = (args m c).kk (ix2 0 k) := by
  refine Eq.trans ?_ (asRow_apply _ k)
  rw [← V_kk m c]
  blk_ext [iblk, (wins t).2.1.2.2.2.2.2.2.1]

theorem blk_ka (k : Fin 512) : (iblk m c 9 t : Vec Ideal S1x512 .f32) (ix2 0 k) = (args m c).ka (ix2 0 k) := by
  refine Eq.trans ?_ (asRow_apply _ k)
  rw [← V_ka m c]
  blk_ext [iblk, (wins t).2.1.2.2.2.2.2.2.2.1]

theorem blk_rk (k : Fin 512) : (iblk m c 10 t : Vec Ideal S1x512 .f32) (ix2 0 k) = (args m c).bon k := by
  refine Eq.trans ?_ (bon_at (args m c).rk k)
  refine Eq.trans ?_ (asRow_apply _ k)
  rw [← V_rk m c]
  blk_ext [iblk, (wins t).2.1.2.2.2.2.2.2.2.2]

theorem row_seven (x : Vec Ideal S8x1792 .f32) (k : Fin 1792) : View.ld x r0_1 (ix2 0 k) = x (ix2 7 k) :=
  congrArg x (by funext a; fin_cases a <;> exact Fin.ext (by simp))

/-- The shifted block of the point. -/
abbrev bSh : FVec Ideal S512x1792 .f32 := k0_pay3 (grid0.coords t) (iblk m c 0 t) (View.ld (iblk m c 1 t : Vec Ideal S8x1792 .f32) r0_1) (iblk m c 2 t)

theorem sh_eq (r : Fin 512) (k : Fin 1792) : bSh m c t (ix2 r k) = (args m c).sh (rowAt t r) k := by
  rw [bSh, pay_shift, row_seven, blk_mu]
  unfold Args.sh
  have hz := blk_z m c t r k
  have h := grid_lt t
  have hr := r.isLt
  have hp : (if r.val = 0 then (if (grid0.coords t 0).val % 16 = 0 then (0 : EReal) else (iblk m c 1 t : Vec Ideal S8x1792 .f32) (ix2 7 k))
      else (iblk m c 0 t : Vec Ideal S512x1792 .f32) (ix2 ⟨r.val - 1, by omega⟩ k)) = (args m c).prev (rowAt t r) k := by
    have hv : (rowAt t r).val = (grid0.coords t 0).val * 512 + r.val := rfl
    unfold Args.prev
    by_cases h0 : r.val = 0
    · rw [if_pos h0]
      by_cases h1 : (grid0.coords t 0).val % 16 = 0
      · rw [if_pos h1, if_pos (by rw [hv]; omega)]
      · rw [if_neg h1, if_neg (by rw [hv]; omega), blk_before m c t k h1]
        exact congrArg (fun q : Fin 32768 => (args m c).z (ix2 q k)) (Fin.ext (by show _ = (rowAt t r).val - 1; rw [hv, h0]; rfl))
    · rw [if_neg h0, if_neg (by rw [hv]; omega), blk_z m c t ⟨r.val - 1, by omega⟩ k]
      exact congrArg (fun q : Fin 32768 => (args m c).z (ix2 q k)) (Fin.ext (by
        show (grid0.coords t 0).val * 512 + (r.val - 1) = (rowAt t r).val - 1; rw [hv]; omega))
  rw [hp, hz]

section
variable (h : (args m c).Real) (r n : Fin 512)
include h

abbrev bRaw : FVec Ideal S512x512 .f32 :=
  k0_pay5 (grid0.coords t) (iblk m c 0 t) (View.ld (iblk m c 1 t : Vec Ideal S8x1792 .f32) r0_1) (iblk m c 2 t)

abbrev bWa : FVec Ideal S512x128 .f32 :=
  k0_pay7 (grid0.coords t) (iblk m c 0 t) (View.ld (iblk m c 1 t : Vec Ideal S8x1792 .f32) r0_1) (iblk m c 2 t)

/-- The rate's block. -/
abbrev bRate : FVec Ideal S512x512 .f32 :=
  k0_pay16 (k0_pay12 (iblk m c 5 t)) (k0_pay13 (iblk m c 6 t)) (k0_pay14 (bWa m c t)) (k0_pay15 (bWa m c t))

/-- The unit key's block. -/
abbrev bUnit : FVec Ideal S512x512 .f32 := k0_pay19 (bRaw m c t) (iota .tc S512x512 32 [0] iota_S512x512_d0_w32) (iblk m c 8 t)

/-- The key's block. -/
abbrev bKey : FVec Ideal S512x512 .f32 := k0_pay20 (bRaw m c t) (bRate m c t) (iblk m c 9 t)

omit h in
theorem point_r : k0_pay4 (grid0.coords t) (iblk m c 0 t) (View.ld (iblk m c 1 t : Vec Ideal S8x1792 .f32) r0_1) (iblk m c 2 t) (ix2 r n)
    = (args m c).r (rowAt t r) n := by
  rw [pay_r]
  exact sh_eq m c t r _

omit h in
theorem point_v : k0_pay6 (grid0.coords t) (iblk m c 0 t) (View.ld (iblk m c 1 t : Vec Ideal S8x1792 .f32) r0_1) (iblk m c 2 t) (ix2 r n)
    = (args m c).v (rowAt t r) n := by
  rw [pay_v]
  exact sh_eq m c t r _

omit h in
theorem raw_eq : bRaw m c t (ix2 r n) = (args m c).sh (rowAt t r) ⟨512 + n.val, by have := n.isLt; omega⟩ := by
  rw [bRaw, pay_k]
  exact sh_eq m c t r _

omit h in
theorem wa_eq (k : Fin 128) : bWa m c t (ix2 r k) = (args m c).sh (rowAt t r) ⟨1536 + k.val, by have := k.isLt; omega⟩ := by
  rw [bWa, pay_wa]
  exact sh_eq m c t r _

theorem point_lw : k0_pay11 (k0_pay9 (iblk m c 3 t)) (k0_pay10 (grid0.coords t) (iblk m c 0 t) (View.ld (iblk m c 1 t : Vec Ideal S8x1792 .f32) r0_1)
      (iblk m c 2 t)) (iblk m c 4 t) (ix2 r n) = (args m c).lw (rowAt t r) n := by
  have ht : ∀ k : Fin 128, k0_pay10 (grid0.coords t) (iblk m c 0 t) (View.ld (iblk m c 1 t : Vec Ideal S8x1792 .f32) r0_1) (iblk m c 2 t) (ix2 r k)
      = Ideal.tanh ((args m c).sh (rowAt t r) ⟨1536 + k.val, by have := k.isLt; omega⟩) := fun k => by
    rw [pay_tanh]
    exact congrArg Ideal.tanh (sh_eq m c t r _)
  rw [pay_decay]
  · unfold Args.lw decayAt
    simp only [ht, blk_w2 m c t, blk_w0 m c t]
    rw [sum_low (fun k => Ideal.tanh ((args m c).sh (rowAt t r) ⟨1536 + k.val, by have := k.isLt; omega⟩)) (fun k => (args m c).w2 (ix3 0 k n))]
  · intro k
    rw [ht]
    exact tanh_real _ (h.sh _ _)
  · intro k
    rw [blk_w2]
    split
    · exact h.w2 _
    · exact ⟨0, EReal.coe_zero.symm⟩

theorem point_rate : bRate m c t (ix2 r n) = (args m c).rate (rowAt t r) n := by
  rw [bRate, pay_rate]
  · unfold Args.rate rateAt
    simp only [wa_eq m c t, blk_a2 m c t, blk_a0 m c t]
    rw [sum_high (fun k => (args m c).sh (rowAt t r) ⟨1536 + k.val, by have := k.isLt; omega⟩) (fun k => (args m c).a2 (ix3 0 k n))]
    simp only [← Nat.add_assoc]
  · intro k
    rw [wa_eq]
    exact h.sh _ _
  · intro k
    rw [blk_a2]
    split
    · exact ⟨0, EReal.coe_zero.symm⟩
    · exact h.a2 _

theorem point_g : k0_pay17 (k0_pay8 (grid0.coords t) (iblk m c 0 t) (View.ld (iblk m c 1 t : Vec Ideal S8x1792 .f32) r0_1) (iblk m c 2 t))
      (iblk m c 7 t) (ix2 r n) = (args m c).g (rowAt t r) n := by
  rw [pay_gate]
  · unfold Args.g gateAt
    refine Finset.sum_congr rfl fun k _ => ?_
    rw [blk_g2, pay_g]
    exact congrArg (fun x => sigm x * _) (sh_eq m c t r _)
  · intro k
    rw [blk_g2]
    exact h.g2 _

theorem point_kn : bUnit m c t (ix2 r n) = (args m c).kn (rowAt t r) n := by
  rw [bUnit, pay_unit]
  · unfold Args.kn unitAt rawAt
    simp only [raw_eq m c t, blk_kk m c t]
  · intro k
    rw [raw_eq]
    exact h.sh _ _
  · intro k
    rw [blk_kk]
    exact h.kk _

theorem point_key : bKey m c t (ix2 r n) = (args m c).key (rowAt t r) n := by
  rw [bKey, pay_key, point_rate m c t h, raw_eq, blk_ka]
  rfl

theorem point_b : k0_pay1 (bRate m c t) (bUnit m c t) (ix2 r n) = (args m c).b (rowAt t r) n := by
  rw [pay_prod, point_rate m c t h, point_kn m c t h]
  rfl

theorem point_bonus : k0_pay2 (k0_pay4 (grid0.coords t) (iblk m c 0 t) (View.ld (iblk m c 1 t : Vec Ideal S8x1792 .f32) r0_1) (iblk m c 2 t))
      (k0_pay6 (grid0.coords t) (iblk m c 0 t) (View.ld (iblk m c 1 t : Vec Ideal S8x1792 .f32) r0_1) (iblk m c 2 t))
      (k0_pay18 (F := Ideal) (iota .tc S512x512 32 [0] iota_S512x512_d0_w32)) (bKey m c t) (iblk m c 10 t) (ix2 r n)
    = (args m c).bonus (rowAt t r) n := by
  rw [pay_bonus, point_v]
  · simp only [point_r m c t, point_key m c t h, blk_rk m c t]
    rfl
  · intro k
    rw [point_r, point_key m c t h, blk_rk]
    exact mul_real _ _ (mul_real _ _ (h.sh _ _) (h.key _ _)) (h.rk _)

end

end Cert.Layer.Rwkv
-- ==== Proof.RwkvArrays.lean ====
/-
  The eight arrays that the recurrence's preparation leaves.
-/
module

public import proofs.«01_k».proof.Proof.Rwkv

@[expose] public section
noncomputable section
namespace Cert.Layer.Rwkv
open Idealize.ShloMosaic Idealize.ShloMosaic.TcCoe Idealize.SL.Sem Idealize.ShloMosaic.Pointwise
open Cert.Kernel7Ideal Cert.Kernel7Ideal.Gen

section
variable (i : grid0.Coords) (x0 : Vec Ideal S512x1792 .f32) (x1 : Vec Ideal S8x1792 .f32) (x2 : Vec Ideal S1x1792 .f32) (x3 : Vec Ideal S1x512 .f32)
  (x4 : Vec Ideal S128x512 .f32) (x5 : Vec Ideal S1x512 .f32) (x6 x7 : Vec Ideal S128x512 .f32) (x8 x9 x10 : Vec Ideal S1x512 .f32)

theorem out_r : out0_11 i x0 x1 x2 x3 x4 x5 x6 x7 x8 x9 x10 = k0_pay4 i x0 (View.ld x1 r0_1) x2 := by
  frame_out [out0_11, k0_pay21]

theorem out_lw : out0_12 i x0 x1 x2 x3 x4 x5 x6 x7 x8 x9 x10 = k0_pay11 (k0_pay9 x3) (k0_pay10 i x0 (View.ld x1 r0_1) x2) x4 := by
  frame_out [out0_12]

theorem out_key : out0_13 i x0 x1 x2 x3 x4 x5 x6 x7 x8 x9 x10 = k0_pay20 (k0_pay5 i x0 (View.ld x1 r0_1) x2)
    (k0_pay16 (k0_pay12 x5) (k0_pay13 x6) (k0_pay14 (k0_pay7 i x0 (View.ld x1 r0_1) x2)) (k0_pay15 (k0_pay7 i x0 (View.ld x1 r0_1) x2))) x9 := by
  frame_out [out0_13, k0_pay22, k0_pay24, k0_pay26]

theorem out_v : out0_14 i x0 x1 x2 x3 x4 x5 x6 x7 x8 x9 x10 = k0_pay6 i x0 (View.ld x1 r0_1) x2 := by
  frame_out [out0_14, k0_pay23]

theorem out_kn : out0_15 i x0 x1 x2 x3 x4 x5 x6 x7 x8 x9 x10
    = k0_pay19 (k0_pay5 i x0 (View.ld x1 r0_1) x2) (iota .tc S512x512 32 [0] iota_S512x512_d0_w32) x8 := by
  frame_out [out0_15, k0_pay22, k0_pay25, k0_pay27]

theorem out_b : out0_16 i x0 x1 x2 x3 x4 x5 x6 x7 x8 x9 x10 = k0_pay1
    (k0_pay16 (k0_pay12 x5) (k0_pay13 x6) (k0_pay14 (k0_pay7 i x0 (View.ld x1 r0_1) x2)) (k0_pay15 (k0_pay7 i x0 (View.ld x1 r0_1) x2)))
    (k0_pay19 (k0_pay5 i x0 (View.ld x1 r0_1) x2) (iota .tc S512x512 32 [0] iota_S512x512_d0_w32) x8) := by
  frame_out [out0_16, k0_pay22, k0_pay24, k0_pay25, k0_pay26, k0_pay27]

theorem out_bonus : out0_17 i x0 x1 x2 x3 x4 x5 x6 x7 x8 x9 x10 = k0_pay2 (k0_pay4 i x0 (View.ld x1 r0_1) x2) (k0_pay6 i x0 (View.ld x1 r0_1) x2)
    (k0_pay18 (F := Ideal) (iota .tc S512x512 32 [0] iota_S512x512_d0_w32))
    (k0_pay20 (k0_pay5 i x0 (View.ld x1 r0_1) x2)
      (k0_pay16 (k0_pay12 x5) (k0_pay13 x6) (k0_pay14 (k0_pay7 i x0 (View.ld x1 r0_1) x2)) (k0_pay15 (k0_pay7 i x0 (View.ld x1 r0_1) x2))) x9) x10 := by
  frame_out [out0_17, k0_pay21, k0_pay22, k0_pay23, k0_pay24, k0_pay25, k0_pay26]

theorem out_g : out0_18 i x0 x1 x2 x3 x4 x5 x6 x7 x8 x9 x10 = k0_pay17 (k0_pay8 i x0 (View.ld x1 r0_1) x2) x7 := by
  frame_out [out0_18]

end

variable (m : (ℓ : Loc nD τ sig) → Buf (Elt Ideal) ℓ) (c : Dev nD)

/-- A block of 512 rows of an array, from its rows and lanes. -/
theorem rows_of (t : Fin cfg0.N) (e : S512x512.Idx → S32768x512.Idx) (he : ∀ r n : Fin 512, e (ix2 r n) = ix2 (rowAt t r) n)
    (p : FVec Ideal S512x512 .f32) (f : Fin 32768 → Fin 512 → EReal) (hp : ∀ r n : Fin 512, p (ix2 r n) = f (rowAt t r) n) (y : S512x512.Idx) :
    p y = f (e y 0) (e y 1) := by
  obtain ⟨r, n, rfl⟩ : ∃ (r : Fin 512) (n : Fin 512), y = ix2 r n := ⟨y 0, y 1, by funext a; fin_cases a <;> rfl⟩
  rw [he]
  exact hp r n

theorem array_r : (dats m 0 c).arrAt 11 cfg0.N = fun j : S32768x512.Idx => (args m c).r (j 0) (j 1) := by
  refine (dats m 0 c).arrAt_eq_of_covers 11 _ (by decide +kernel) fun t hf y => ?_
  rw [after0_11, out_r]
  refine rows_of t (win0_11.blk t).view.emb (fun r n => ?_) _ _ (point_r m c t) y
  funext a
  fin_cases a <;> apply Fin.ext <;> blk_simp [(wins t).2.2.1] <;> rfl

theorem array_lw (h : (args m c).Real) : (dats m 0 c).arrAt 12 cfg0.N = fun j : S32768x512.Idx => (args m c).lw (j 0) (j 1) := by
  refine (dats m 0 c).arrAt_eq_of_covers 12 _ (by decide +kernel) fun t hf y => ?_
  rw [after0_12, out_lw]
  refine rows_of t (win0_12.blk t).view.emb (fun r n => ?_) _ _ (point_lw m c t h) y
  funext a
  fin_cases a <;> apply Fin.ext <;> blk_simp [(wins t).2.2.2.1] <;> rfl

theorem array_key (h : (args m c).Real) : (dats m 0 c).arrAt 13 cfg0.N = fun j : S32768x512.Idx => (args m c).key (j 0) (j 1) := by
  refine (dats m 0 c).arrAt_eq_of_covers 13 _ (by decide +kernel) fun t hf y => ?_
  rw [after0_13, out_key]
  refine rows_of t (win0_13.blk t).view.emb (fun r n => ?_) _ _ (point_key m c t h) y
  funext a
  fin_cases a <;> apply Fin.ext <;> blk_simp [(wins t).2.2.2.2.1] <;> rfl

theorem array_v : (dats m 0 c).arrAt 14 cfg0.N = fun j : S32768x512.Idx => (args m c).v (j 0) (j 1) := by
  refine (dats m 0 c).arrAt_eq_of_covers 14 _ (by decide +kernel) fun t hf y => ?_
  rw [after0_14, out_v]
  refine rows_of t (win0_14.blk t).view.emb (fun r n => ?_) _ _ (point_v m c t) y
  funext a
  fin_cases a <;> apply Fin.ext <;> blk_simp [(wins t).2.2.2.2.2.1] <;> rfl

theorem array_kn (h : (args m c).Real) : (dats m 0 c).arrAt 15 cfg0.N = fun j : S32768x512.Idx => (args m c).kn (j 0) (j 1) := by
  refine (dats m 0 c).arrAt_eq_of_covers 15 _ (by decide +kernel) fun t hf y => ?_
  rw [after0_15, out_kn]
  refine rows_of t (win0_15.blk t).view.emb (fun r n => ?_) _ _ (point_kn m c t h) y
  funext a
  fin_cases a <;> apply Fin.ext <;> blk_simp [(wins t).2.2.2.2.2.2.1] <;> rfl

theorem array_b (h : (args m c).Real) : (dats m 0 c).arrAt 16 cfg0.N = fun j : S32768x512.Idx => (args m c).b (j 0) (j 1) := by
  refine (dats m 0 c).arrAt_eq_of_covers 16 _ (by decide +kernel) fun t hf y => ?_
  rw [after0_16, out_b]
  refine rows_of t (win0_16.blk t).view.emb (fun r n => ?_) _ _ (point_b m c t h) y
  funext a
  fin_cases a <;> apply Fin.ext <;> blk_simp [(wins t).2.2.2.2.2.2.2.1] <;> rfl

theorem array_bonus (h : (args m c).Real) : (dats m 0 c).arrAt 17 cfg0.N = fun j : S32768x512.Idx => (args m c).bonus (j 0) (j 1) := by
  refine (dats m 0 c).arrAt_eq_of_covers 17 _ (by decide +kernel) fun t hf y => ?_
  rw [after0_17, out_bonus]
  refine rows_of t (win0_17.blk t).view.emb (fun r n => ?_) _ _ (point_bonus m c t h) y
  funext a
  fin_cases a <;> apply Fin.ext <;> blk_simp [(wins t).2.2.2.2.2.2.2.2.1] <;> rfl

theorem array_g (h : (args m c).Real) : (dats m 0 c).arrAt 18 cfg0.N = fun j : S32768x512.Idx => (args m c).g (j 0) (j 1) := by
  refine (dats m 0 c).arrAt_eq_of_covers 18 _ (by decide +kernel) fun t hf y => ?_
  rw [after0_18, out_g]
  refine rows_of t (win0_18.blk t).view.emb (fun r n => ?_) _ _ (point_g m c t h) y
  funext a
  fin_cases a <;> apply Fin.ext <;> blk_simp [(wins t).2.2.2.2.2.2.2.2.2] <;> rfl

end Cert.Layer.Rwkv
-- ==== Proof.Norm.lean ====
/-
  The modulated norm of a row, as the kernels' blocks and as the references' arrays compute it, and the product of such
  rows with a matrix.
-/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import Idealize.ShloMosaic.Lib.Claim

@[expose] public section
noncomputable section
namespace Cert.Layer
open Idealize.ShloMosaic Idealize.ShloMosaic.Pointwise

/-- The modulated norm of a row `x` at a column: the row over the root of its mean square, times `g`, times one and the
    scale, and the shift added. The numbers 1024, 1e-6 and 1 are the float words that both programs hold. -/
def normAt (x g sc sh : Fin 1024 → EReal) (d : Fin 1024) : EReal :=
  x d * Ideal.rsqrt (Ideal.div (∑ k : Fin 1024, x k * x k) (Ideal.ofBits .f32 0x44800000#32) + Ideal.ofBits .f32 0x358637BD#32) * g d
    * (Ideal.ofBits .f32 0x3F800000#32 + sc d) + sh d

/-- The input projection at a row of all the sequences' positions and a column: the norm's row, of the sequence's own
    modulation, times the column of the weights. -/
def inCol (x : Vec Ideal Cert.Kernel2Ideal.S4x8192x1024 .f32) (mod : Vec Ideal Cert.Kernel2Ideal.S4x1x6144 .f32)
    (g : Vec Ideal Cert.Kernel2Ideal.S1x1024 .f32) (w : Vec Ideal Cert.Kernel2Ideal.S1x1024x5376 .f32)
    (b : Fin 4) (s : Fin 8192) (n : Fin 5376) : EReal :=
  ∑ k : Fin 1024, normAt (fun k => x (ix3 b s k)) (fun k => g (ix2 0 k))
      (fun k => mod (ix3 b 0 ⟨1024 + k.val, by have := k.isLt; omega⟩)) (fun k => mod (ix3 b 0 ⟨k.val, by have := k.isLt; omega⟩)) k * w (ix3 0 k n)

/-- The sequence that a row belongs to. -/
def seqOf (r : Fin 32768) : Fin 4 := ⟨r.val / 8192, by have := r.isLt; omega⟩

/-- The position of a row in its sequence. -/
def posOf (r : Fin 32768) : Fin 8192 := ⟨r.val % 8192, by omega⟩

section
open Cert.Kernel2Ideal Cert.Kernel2Ideal.Gen

/-- A block's modulated norm, as the kernels compute it. -/
def blockNorm (x : FVec Ideal S512x1024 .f32) (g sc sh : FVec Ideal S1x1024 .f32) : FVec Ideal S512x1024 .f32 :=
  addf (mulf (mulf (mulf x (broadcastTo S512x1024 (rsqrt (addf (divf (shapeCast S512x1
      (multiReduction .add [1] S512 (mulf x x) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 g broadcasts_S1x1024_S512x1024))
    (broadcastTo S512x1024 (addf (broadcast S1x1024 (Scalar.ofBits .f32 0x3F800000#32)) sc) broadcasts_S1x1024_S512x1024))
    (broadcastTo S512x1024 sh broadcasts_S1x1024_S512x1024)

theorem blockNorm_apply (x : FVec Ideal S512x1024 .f32) (g sc sh : FVec Ideal S1x1024 .f32) (r : Fin 512) (d : Fin 1024) :
    blockNorm x g sc sh (ix2 r d)
      = normAt (fun k => x (ix2 r k)) (fun k => g (ix2 0 k)) (fun k => sc (ix2 0 k)) (fun k => sh (ix2 0 k)) d := by
  pointwise [blockNorm, normAt]

/-- A block's rows of the projection before the product. -/
def blockIn (v0 : Vec Ideal S512x1024 .f32) (v2 : Vec Ideal S1x1024 .f32) (v4 : Vec Ideal S1x1x6144 .f32) : FVec Ideal S512x1024 .f32 :=
  blockNorm (shapeCast S512x1024 v0 shapeCasts_S512x1024_S512x1024) (shapeCast S1x1024 v2 shapeCasts_S1x1024_S1x1024)
    (extractStridedSlice S1x1024 ![0, 1024] (shapeCast S1x6144 v4 shapeCasts_S1x1x6144_S1x6144) slices_S1x6144_o0_1024_S1x1024)
    (extractStridedSlice S1x1024 ![0, 0] (shapeCast S1x6144 v4 shapeCasts_S1x1x6144_S1x6144) slices_S1x6144_o0_0_S1x1024)

theorem blockIn_apply (v0 : Vec Ideal S512x1024 .f32) (v2 : Vec Ideal S1x1024 .f32) (v4 : Vec Ideal S1x1x6144 .f32) (r : Fin 512) (d : Fin 1024) :
    blockIn v0 v2 v4 (ix2 r d) = normAt (fun k => v0 (ix2 r k)) (fun k => v2 (ix2 0 k))
      (fun k => v4 (ix3 0 0 ⟨1024 + k.val, by have := k.isLt; omega⟩)) (fun k => v4 (ix3 0 0 ⟨k.val, by have := k.isLt; omega⟩)) d := by
  unfold blockIn
  rw [blockNorm_apply]
  congr 1
  · funext k; pointwise
  · funext k; pointwise
  · funext k; pointwise
  · funext k; pointwise

end

theorem cast_rows (x : Vec Ideal Cert.Kernel2Ideal.S4x8192x1024 .f32) (row : Fin 32768) (k : Fin 1024) :
    shapeCast Cert.Kernel2Ideal.S32768x1024 x Cert.Kernel2Ideal.Gen.shapeCasts_S4x8192x1024_S32768x1024 (ix2 row k) = x (ix3 (seqOf row) (posOf row) k) := by
  have := row.isLt; have := k.isLt
  pointwise
  rfl

theorem cast_cols (w : Vec Ideal Cert.Kernel2Ideal.S1x1024x5376 .f32) (k : Fin 1024) (n : Fin 5376) :
    shapeCast Cert.Kernel2Ideal.S1024x5376 w Cert.Kernel2Ideal.Gen.shapeCasts_S1x1024x5376_S1024x5376 (ix2 k n) = w (ix3 0 k n) := by
  pointwise

section
open Cert.Reference2Ideal Cert.Reference2Ideal.Gen

/-- The references' modulated norm of an array of rows. -/
def hostNorm (x : FVec Ideal S4x8192x1024 .f32) (g : FVec Ideal S1024 .f32) (sc sh : FVec Ideal S4x1x1024 .f32) : FVec Ideal S4x8192x1024 .f32 :=
  addf (mulf (mulf (mulf x (broadcastInDim S4x8192x1024 ![0, 1, 2] bcast_S4x8192x1_S4x8192x1024_0_1_2
      (Host.rsqrt (addf (Host.divf (broadcastInDim S4x8192x1 ![0, 1] bcast_S4x8192_S4x8192x1_0_1
          (Host.reduceAdd (mulf x x) (constant S_ .f32 0x00000000#32) reducesTo_S4x8192x1024_S4x8192_d2 h_S_))
        (broadcastInDim S4x8192x1 ![] bcast_S_S4x8192x1 (constant S_ .f32 0x44800000#32)))
        (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g)))
    (broadcastInDim S4x8192x1024 ![0, 1, 2] bcast_S4x1x1024_S4x8192x1024_0_1_2
      (addf (broadcastInDim S4x1x1024 ![] bcast_S_S4x1x1024 (constant S_ .f32 0x3F800000#32)) sc)))
    (broadcastInDim S4x8192x1024 ![0, 1, 2] bcast_S4x1x1024_S4x8192x1024_0_1_2 sh)

theorem hostNorm_apply (x : FVec Ideal S4x8192x1024 .f32) (g : FVec Ideal S1024 .f32) (sc sh : FVec Ideal S4x1x1024 .f32)
    (b : Fin 4) (s : Fin 8192) (d : Fin 1024) :
    hostNorm x g sc sh (ix3 b s d)
      = normAt (fun k => x (ix3 b s k)) (fun k => g (ix1 k)) (fun k => sc (ix3 b 0 k)) (fun k => sh (ix3 b 0 k)) d := by
  pointwise [hostNorm, normAt]

/-- The references' rows of the projection before the product. -/
def hostIn (x : Vec Ideal S4x8192x1024 .f32) (mod : Vec Ideal S4x1x6144 .f32) (g : Vec Ideal S1x1024 .f32) : FVec Ideal S4x8192x1024 .f32 :=
  hostNorm x (shapeCast _ g shapeCasts_S1x1024_S1024) (extractStridedSlice S4x1x1024 ![0, 0, 1024] mod slices_S4x1x6144_S4x1x1024_0_0_1024)
    (extractStridedSlice S4x1x1024 ![0, 0, 0] mod slices_S4x1x6144_S4x1x1024_0_0_0)

theorem hostIn_apply (x : Vec Ideal S4x8192x1024 .f32) (mod : Vec Ideal S4x1x6144 .f32) (g : Vec Ideal S1x1024 .f32)
    (b : Fin 4) (s : Fin 8192) (d : Fin 1024) :
    hostIn x mod g (ix3 b s d) = normAt (fun k => x (ix3 b s k)) (fun k => g (ix2 0 k))
      (fun k => mod (ix3 b 0 ⟨1024 + k.val, by have := k.isLt; omega⟩)) (fun k => mod (ix3 b 0 ⟨k.val, by have := k.isLt; omega⟩)) d := by
  unfold hostIn
  rw [hostNorm_apply]
  congr 1
  · funext k; pointwise
  · funext k; pointwise
  · funext k; pointwise

/-- The whole projection of the references at a position and a column. -/
theorem host_product (x : Vec Ideal S4x8192x1024 .f32) (mod : Vec Ideal S4x1x6144 .f32) (g : Vec Ideal S1x1024 .f32) (w : Vec Ideal S1x1024x5376 .f32)
    (b : Fin 4) (s : Fin 8192) (n : Fin 5376) :
    Cert.Reference2Ideal.Read.val_main_v27 (F := Ideal) x mod g w (ix3 b s n) = inCol x mod g w b s n := by
  have hl : ∀ k, Cert.Reference2Ideal.Read.lidx_main_v27 (ix3 b s n) k = ix3 b s k := fun k => by funext a; fin_cases a <;> rfl
  have hr : ∀ k, Cert.Reference2Ideal.Read.ridx_main_v27 (ix3 b s n) k = ix2 k n := fun k => by funext a; fin_cases a <;> rfl
  have e : Cert.Reference2Ideal.Read.val_main_v25 (F := Ideal) x mod g = hostIn x mod g := rfl
  rw [Cert.Reference2Ideal.Read.val_main_v27_apply, e]
  unfold inCol
  refine Finset.sum_congr rfl fun k _ => ?_
  rw [hl, hr, hostIn_apply]
  exact congrArg (_ * ·) (cast_cols w k n)

end

end Cert.Layer
-- ==== Proof.RwkvRef.lean ====
/-
  The reference's preparation of the recurrence at a row and a lane.
-/
module

public import proofs.«01_k».proof.Proof.Rwkv
public import proofs.«01_k».proof.Proof.Norm
public import Idealize.ShloMosaic.Lib.KernelVsHost
public import proofs.«01_k».proof.Proof.Gen.Reference7Ideal.Run
public import proofs.«01_k».proof.Proof.Gen.Reference7Ideal.Read

@[expose] public section
noncomputable section
namespace Cert.Layer.Rwkv
open Idealize.ShloMosaic Idealize.ShloMosaic.TcCoe Idealize.SL.Sem Idealize.ShloMosaic.Pointwise
open Cert.Reference7Ideal Cert.Reference7Ideal.Gen Cert.Reference7Ideal.Read

/-- A row and a lane of the reference's arrays. -/
abbrev at3 {w : Nat} (row : Fin 32768) (n : Fin w) := ix3 (seqOf row) (posOf row) n

/-- A lane of the reference's arrays over heads. -/
abbrev at4 (row : Fin 32768) (n : Fin 512) :=
  ix4 (seqOf row) (posOf row) (⟨n.val / 64, by have := n.isLt; omega⟩ : Fin 8) (⟨n.val % 64, by omega⟩ : Fin 64)

variable (A : Args) (row : Fin 32768)

theorem ref_z (k : Fin 1792) : val_main_v0 (F := Ideal) A.z (at3 row k) = A.z (ix2 row k) := by
  refine (val_main_v0_apply A.z _).trans (congrArg A.z ?_)
  have := row.isLt; have := k.isLt
  funext a; fin_cases a <;> apply Fin.ext
  · show ((row.val / 8192 * 8192 + row.val % 8192) * 1792 + k.val) / 1792 = row.val; omega
  · show ((row.val / 8192 * 8192 + row.val % 8192) * 1792 + k.val) % 1792 = k.val; omega

theorem ref_prev (k : Fin 1792) : val_main_v3 (F := Ideal) A.z (at3 row k) = A.prev row k := by
  have hr := row.isLt
  rw [val_main_v3_apply]
  unfold val_main_v2 Args.prev
  by_cases h : row.val % 8192 = 0
  · rw [if_pos h]
    refine (pad_apply_of_not_inside _ _ _ _ _ _ _ _ (1 : Fin 3) ?_).trans ?_
    · intro hin
      have h1 : 1 ≤ row.val % 8192 := hin.1
      omega
    · rw [val_main_call0_v0_apply, val_main_c_apply]
      show (((0#32 : BitVec 32).toInt : ℝ) : EReal) = 0
      simp
  · rw [if_neg h]
    have hp : 1 ≤ row.val % 8192 := by omega
    refine (pad_apply_of_inside _ _ _ _ _ _ _ _ (at3 (⟨row.val - 1, by omega⟩ : Fin 32768) k) ?_).trans (ref_z A _ k)
    intro a
    fin_cases a
    · show row.val / 8192 = 0 + (row.val - 1) / 8192 * (0 + 1); omega
    · show row.val % 8192 = 1 + (row.val - 1) % 8192 * (0 + 1); omega
    · show k.val = 0 + k.val * (0 + 1); omega

theorem ref_sh (k : Fin 1792) : val_main_v8 (F := Ideal) A.z A.mu (at3 row k) = A.sh row k := by
  have hm : val_main_v6 (F := Ideal) A.mu (at3 row k) = A.mu (ix2 0 k) := by
    rw [val_main_v6_apply, val_main_v5_apply, val_main_v1_apply]
    refine congrArg A.mu ?_
    funext a; fin_cases a
    · rfl
    · exact Fin.ext (Nat.mod_eq_of_lt k.isLt)
  rw [val_main_v8_apply, val_main_v7_apply, val_main_v4_apply, ref_z, ref_prev, hm]
  rfl

theorem ref_r (n : Fin 512) : val_main_v9 (F := Ideal) A.z A.mu (at3 row n) = A.sh row ⟨n.val, by have := n.isLt; omega⟩ := by
  rw [val_main_v9_apply]
  refine Eq.trans (congrArg _ ?_) (ref_sh A row _)
  funext a; fin_cases a <;> rfl

theorem ref_k (n : Fin 512) : val_main_v10 (F := Ideal) A.z A.mu (at3 row n) = A.sh row ⟨512 + n.val, by have := n.isLt; omega⟩ := by
  rw [val_main_v10_apply]
  refine Eq.trans (congrArg _ ?_) (ref_sh A row _)
  funext a; fin_cases a <;> rfl

theorem ref_v (n : Fin 512) : val_main_v11 (F := Ideal) A.z A.mu (at3 row n) = A.sh row ⟨1024 + n.val, by have := n.isLt; omega⟩ := by
  rw [val_main_v11_apply]
  refine Eq.trans (congrArg _ ?_) (ref_sh A row _)
  funext a; fin_cases a <;> rfl

theorem ref_wd (n : Fin 64) : val_main_v12 (F := Ideal) A.z A.mu (at3 row n) = A.sh row ⟨1536 + n.val, by have := n.isLt; omega⟩ := by
  rw [val_main_v12_apply]
  refine Eq.trans (congrArg _ ?_) (ref_sh A row _)
  funext a; fin_cases a <;> rfl

theorem ref_ad (n : Fin 64) : val_main_v13 (F := Ideal) A.z A.mu (at3 row n) = A.sh row ⟨1600 + n.val, by have := n.isLt; omega⟩ := by
  rw [val_main_v13_apply]
  refine Eq.trans (congrArg _ ?_) (ref_sh A row _)
  funext a; fin_cases a <;> rfl

theorem ref_gd (n : Fin 128) : val_main_v14 (F := Ideal) A.z A.mu (at3 row n) = A.sh row ⟨1664 + n.val, by have := n.isLt; omega⟩ := by
  rw [val_main_v14_apply]
  refine Eq.trans (congrArg _ ?_) (ref_sh A row _)
  funext a; fin_cases a <;> rfl

/-- A vector of 512 spread over the rows. -/
theorem vec_rows (x : Vec Ideal S1x512 .f32) (n : Fin 512) : val_main_v20 (F := Ideal) x (at3 row n) = x (ix2 0 n) := by
  rw [val_main_v20_apply, val_main_v19_apply, val_main_v15_apply]
  refine congrArg x ?_
  funext a; fin_cases a
  · rfl
  · exact Fin.ext (Nat.mod_eq_of_lt n.isLt)

/-- A matrix of rank 64. -/
theorem mat_low (x : Vec Ideal S1x64x512 .f32) (k : Fin 64) (n : Fin 512) : val_main_v17 (F := Ideal) x (ix2 k n) = x (ix3 0 k n) := by
  unfold val_main_v17; pointwise

theorem mat_high (x : Vec Ideal S1x128x512 .f32) (k : Fin 128) (n : Fin 512) : val_main_v45 (F := Ideal) x (ix2 k n) = x (ix3 0 k n) := by
  unfold val_main_v45; pointwise

/-- A number is equal to itself. -/
theorem une_self (x : EReal) : FloatOps.cmpf (F := Ideal) (φ := .f32) .une x x = 0#1 := by
  simp [FloatOps.cmpf, Ideal.cmp]

theorem ref_lw (n : Fin 512) : val_main_v84 (F := Ideal) A.z A.mu A.w0 A.w2 (at3 row n) = A.lw row n := by
  have hl : ∀ k, lidx_main_v18 (at3 row n) k = at3 row k := fun k => by funext a; fin_cases a <;> rfl
  have hr : ∀ k, ridx_main_v18 (at3 row n) k = ix2 k n := fun k => by funext a; fin_cases a <;> rfl
  have hx : val_main_v21 (F := Ideal) A.z A.mu A.w0 A.w2 (at3 row n)
      = A.w0 (ix2 0 n) + ∑ k : Fin 64, Ideal.tanh (A.sh row ⟨1536 + k.val, by have := k.isLt; omega⟩) * A.w2 (ix3 0 k n) := by
    rw [val_main_v21_apply, vec_rows, val_main_v18_apply]
    refine congrArg (A.w0 (ix2 0 n) + ·) (Finset.sum_congr rfl fun k _ => ?_)
    rw [hl, hr, mat_low, val_main_v16_apply, ref_wd]
    rfl
  rw [val_main_v84_apply, val_main_v83_apply, val_main_v26_apply, val_main_v24_apply, val_main_v23_apply, val_main_call1_v4_apply, une_self,
    val_main_call1_v11_apply, val_main_call1_v10_apply, val_main_call1_v9_apply, val_main_call1_v8_apply, val_main_call1_v7_apply,
    val_main_call1_v3_apply, val_main_call1_v1_apply, val_main_call1_v0_apply, val_main_call1_v2_apply, val_main_call1_cst_apply,
    val_main_v25_apply, val_main_cst_apply, val_main_v22_apply, hx]
  unfold Args.lw decayAt decay
  generalize A.w0 (ix2 0 n) + ∑ k : Fin 64, Ideal.tanh (A.sh row ⟨1536 + k.val, by have := k.isLt; omega⟩) * A.w2 (ix3 0 k n) = x
  show -Ideal.exp (-(max (-x) (Ideal.ofBits .f32 0x00000000#32) + Ideal.log (1 + Ideal.exp (-FloatOps.absf (F := Ideal) (φ := .f32) (-x - Ideal.ofBits .f32 0x00000000#32)))) - Ideal.ofBits .f32 0x3F000000#32) = _
  rw [Ideal.ofBits_zero, sub_zero]

theorem ref_rate (n : Fin 512) : val_main_v38 (F := Ideal) A.z A.mu A.a0 A.a2 (at3 row n) = A.rate row n := by
  have hl : ∀ k, lidx_main_v29 (at3 row n) k = at3 row k := fun k => by funext a; fin_cases a <;> rfl
  have hr : ∀ k, ridx_main_v29 (at3 row n) k = ix2 k n := fun k => by funext a; fin_cases a <;> rfl
  have hx : val_main_v32 (F := Ideal) A.z A.mu A.a0 A.a2 (at3 row n)
      = A.a0 (ix2 0 n) + ∑ k : Fin 64, A.sh row ⟨1600 + k.val, by have := k.isLt; omega⟩ * A.a2 (ix3 0 k n) := by
    rw [val_main_v32_apply, val_main_v29_apply]
    refine congr (congrArg (fun x y : EReal => x + y) (vec_rows row A.a0 n)) (Finset.sum_congr rfl fun k _ => ?_)
    rw [hl, hr, ref_ad]
    exact congrArg (_ * ·) (mat_low A.a2 k n)
  rw [val_main_v38_apply, val_main_v37_apply, val_main_v36_apply, val_main_v35_apply, val_main_v34_apply, val_main_v33_apply, hx,
    val_main_cst_0_apply, val_main_cst_1_apply]
  unfold Args.rate rateAt sigm
  rw [← Ideal.ofBits_one_f32]
  rfl

theorem ref_g (n : Fin 512) : val_main_v46 (F := Ideal) A.z A.mu A.g2 (at3 row n) = A.g row n := by
  have hl : ∀ k, lidx_main_v46 (at3 row n) k = at3 row k := fun k => by funext a; fin_cases a <;> rfl
  have hr : ∀ k, ridx_main_v46 (at3 row n) k = ix2 k n := fun k => by funext a; fin_cases a <;> rfl
  rw [val_main_v46_apply]
  unfold Args.g gateAt
  refine Finset.sum_congr rfl fun k _ => ?_
  rw [hl, hr, mat_high, val_main_v44_apply, val_main_v43_apply, val_main_v42_apply, val_main_v41_apply, val_main_v40_apply, val_main_v39_apply,
    ref_gd, val_main_cst_2_apply, val_main_cst_3_apply]
  unfold sigm
  rw [← Ideal.ofBits_one_f32]
  rfl

theorem ref_key (n : Fin 512) : val_main_v68 (F := Ideal) A.z A.mu A.a0 A.a2 A.ka (at3 row n) = A.key row n := by
  have hk : val_main_v64 (F := Ideal) A.ka (at3 row n) = A.ka (ix2 0 n) := vec_rows row A.ka n
  rw [val_main_v68_apply, val_main_v67_apply, val_main_v66_apply, val_main_v65_apply, val_main_v61_apply, val_main_v60_apply, ref_k, ref_rate, hk,
    val_main_cst_6_apply, val_main_cst_7_apply]
  unfold Args.key keyAt
  rw [← Ideal.ofBits_one_f32]
  rfl

/-- Lanes as heads. -/
theorem heads_at (y : Vec Ideal S4x8192x512 .f32) (n : Fin 512) :
    shapeCast S4x8192x8x64 y shapeCasts_S4x8192x512_S4x8192x8x64 (at4 row n) = y (at3 row n) := by
  have := row.isLt; have := n.isLt
  refine shapeCast_apply y _ _ _ ?_
  rewrite [Shape.rowMajor_val_three, Shape.rowMajor_val_four]
  show ((row.val / 8192) * 8192 + row.val % 8192) * 512 + n.val = (((row.val / 8192) * 8192 + row.val % 8192) * 8 + n.val / 64) * 64 + n.val % 64
  omega

/-- The lane of a head. -/
theorem head_lane (n : Fin 512) (j : Fin 64) :
    ix4 (seqOf row) (posOf row) (⟨n.val / 64, by have := n.isLt; omega⟩ : Fin 8) j
      = at4 row ⟨n.val / 64 * 64 + j.val, by have := j.isLt; have := n.isLt; omega⟩ := by
  have := n.isLt; have := j.isLt
  funext a; fin_cases a <;> apply Fin.ext
  · rfl
  · rfl
  · show n.val / 64 = (n.val / 64 * 64 + j.val) / 64; omega
  · show j.val = (n.val / 64 * 64 + j.val) % 64; omega

/-- Positions as rows. -/
theorem rows_at (y : Vec Ideal S4x8192x512 .f32) (n : Fin 512) :
    shapeCast S32768x512 y shapeCasts_S4x8192x512_S32768x512 (ix2 row n) = y (at3 row n) := by
  have := row.isLt; have := n.isLt
  refine shapeCast_apply y _ _ _ ?_
  rewrite [Shape.rowMajor_val_three, Shape.rowMajor_val_two]
  show ((row.val / 8192) * 8192 + row.val % 8192) * 512 + n.val = row.val * 512 + n.val
  omega

theorem flat_at (y : Vec Ideal S4x8192x8x64 .f32) (n : Fin 512) :
    shapeCast S32768x512 y shapeCasts_S4x8192x8x64_S32768x512 (ix2 row n) = y (at4 row n) := by
  have := row.isLt; have := n.isLt
  refine shapeCast_apply y _ _ _ ?_
  rewrite [Shape.rowMajor_val_four, Shape.rowMajor_val_two]
  show (((row.val / 8192) * 8192 + row.val % 8192) * 8 + n.val / 64) * 64 + n.val % 64 = row.val * 512 + n.val
  omega

theorem ref_raw (n : Fin 512) : val_main_v51 (F := Ideal) A.z A.mu A.kk (at4 row n) = rawAt (A.sh row) (fun n => A.kk (ix2 0 n)) n := by
  have hk : val_main_v49 (F := Ideal) A.kk (at3 row n) = A.kk (ix2 0 n) := vec_rows row A.kk n
  refine (heads_at row _ n).trans ?_
  rw [val_main_v50_apply, ref_k, hk]
  rfl

theorem ref_kn (n : Fin 512) : val_main_v59 (F := Ideal) A.z A.mu A.kk (at4 row n) = A.kn row n := by
  have hi : ∀ k, idx_main_v53 (idx_main_v54 (idx_main_v58 (at4 row n))) k
      = at4 row ⟨n.val / 64 * 64 + k.val, by have := k.isLt; have := n.isLt; omega⟩ := fun k => by
    rw [← head_lane]; funext a; fin_cases a <;> rfl
  rw [val_main_v59_apply, val_main_v58_apply, val_main_v57_apply, val_main_v56_apply, val_main_v55_apply, val_main_v54_apply, val_main_v53_apply,
    ref_raw, val_main_cst_4_apply, val_main_cst_5_apply]
  simp only [hi, val_main_v52_apply, ref_raw]
  unfold Args.kn unitAt unit headSum
  show Ideal.div _ (max (Ideal.sqrt (Ideal.ofBits .f32 0x00000000#32 + _)) _) = _
  rw [Ideal.ofBits_zero, zero_add]
  rfl

theorem ref_b (n : Fin 512) : val_main_v89 (F := Ideal) A.z A.mu A.a0 A.a2 A.kk (at4 row n) = A.b row n := by
  have hr : val_main_v72 (F := Ideal) A.z A.mu A.a0 A.a2 (at4 row n) = A.rate row n := (heads_at row _ n).trans (ref_rate A row n)
  rw [val_main_v89_apply, ref_kn, hr]
  rfl

theorem ref_bonus (n : Fin 512) : val_main_v81 (F := Ideal) A.z A.mu A.a0 A.a2 A.ka A.rk (at4 row n) = A.bonus row n := by
  have hi : ∀ k, idx_main_v78 (idx_main_v79 (idx_main_v80 (at4 row n))) k
      = at4 row ⟨n.val / 64 * 64 + k.val, by have := k.isLt; have := n.isLt; omega⟩ := fun k => by
    rw [← head_lane]; funext a; fin_cases a <;> rfl
  have hr : ∀ n, val_main_v69 (F := Ideal) A.z A.mu (at4 row n) = A.sh row ⟨n.val, by have := n.isLt; omega⟩ := fun n =>
    (heads_at row _ n).trans (ref_r A row n)
  have hk : ∀ n, val_main_v70 (F := Ideal) A.z A.mu A.a0 A.a2 A.ka (at4 row n) = A.key row n := fun n => (heads_at row _ n).trans (ref_key A row n)
  have hv : val_main_v71 (F := Ideal) A.z A.mu (at4 row n) = A.sh row ⟨1024 + n.val, by have := n.isLt; omega⟩ :=
    (heads_at row _ n).trans (ref_v A row n)
  have hb : ∀ n, val_main_v76 (F := Ideal) A.rk (at4 row n) = A.bon n := fun n => by
    rw [val_main_v76_apply, val_main_v75_apply, val_main_v74_apply]
    refine congrArg A.rk ?_
    have := n.isLt
    funext a; fin_cases a <;> apply Fin.ext
    · rfl
    · show (n.val / 64 * 64 + n.val % 64) / 64 % 8 = n.val / 64; omega
    · show (n.val / 64 * 64 + n.val % 64) % 64 = n.val % 64; omega
  rw [val_main_v81_apply, val_main_v80_apply, val_main_v79_apply, val_main_v78_apply, hv, val_main_cst_8_apply]
  simp only [hi, val_main_v77_apply, val_main_v73_apply, hr, hk, hb]
  unfold Args.bonus bonusAt headSum
  show (Ideal.ofBits .f32 0x00000000#32 + _) * _ = _
  rw [Ideal.ofBits_zero, zero_add]
  rfl

end Cert.Layer.Rwkv
-- ==== Proof.RwkvClaims.lean ====
/-
  The recurrence's preparation: the eight arrays that the call leaves are the reference's results, when all but the two
  added vectors are finite.
-/
module

public import proofs.«01_k».proof.Proof.RwkvArrays
public import proofs.«01_k».proof.Proof.RwkvRef
public import proofs.«01_k».proof.Proof.MobaPre
public import proofs.«01_k».proof.Defs
public import Idealize.ShloMosaic.Lib.Quiescent
public import Idealize.ShloMosaic.Lib.Claim

@[expose] public section
noncomputable section
namespace Cert.Layer.Rwkv
open Idealize.ShloMosaic Idealize.ShloMosaic.TcCoe Idealize.SL.Sem Idealize.ShloMosaic.Pointwise

section
open Cert.Kernel7Ideal Cert.Kernel7Ideal.Gen

/-- The call's arrays, after a run from finite arguments. -/
theorem arrays (m : (ℓ : Loc nD τ sig) → Buf (Elt Ideal) ℓ) (ρ : Dev nD → PrngReg) (h : ∀ c : Dev nD, (args m c).Real) :
    θ_run defs (onTc (τ := τ) (main (F := Ideal))) ⟨m, fun _ => 0, ρ⟩ fun r => ∀ c : Dev nD,
      r.2.mem ((c : Thread nD τ).loc main_v20_0) = (fun j : S32768x512.Idx => (args m c).r (j 0) (j 1))
      ∧ r.2.mem ((c : Thread nD τ).loc main_v20_1) = (fun j : S32768x512.Idx => (args m c).lw (j 0) (j 1))
      ∧ r.2.mem ((c : Thread nD τ).loc main_v20_2) = (fun j : S32768x512.Idx => (args m c).key (j 0) (j 1))
      ∧ r.2.mem ((c : Thread nD τ).loc main_v20_3) = (fun j : S32768x512.Idx => (args m c).v (j 0) (j 1))
      ∧ r.2.mem ((c : Thread nD τ).loc main_v20_4) = (fun j : S32768x512.Idx => (args m c).kn (j 0) (j 1))
      ∧ r.2.mem ((c : Thread nD τ).loc main_v20_5) = (fun j : S32768x512.Idx => (args m c).b (j 0) (j 1))
      ∧ r.2.mem ((c : Thread nD τ).loc main_v20_6) = (fun j : S32768x512.Idx => (args m c).bonus (j 0) (j 1))
      ∧ r.2.mem ((c : Thread nD τ).loc main_v20_7) = (fun j : S32768x512.Idx => (args m c).g (j 0) (j 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r r0 c => ⟨(r0 c).1.trans (array_r m c), (r0 c).2.1.trans (array_lw m c (h c)), (r0 c).2.2.1.trans (array_key m c (h c)), (r0 c).2.2.2.1.trans (array_v m c), (r0 c).2.2.2.2.1.trans (array_kn m c (h c)), (r0 c).2.2.2.2.2.1.trans (array_b m c (h c)), (r0 c).2.2.2.2.2.2.1.trans (array_bonus m c (h c)), (r0 c).2.2.2.2.2.2.2.1.trans (array_g m c (h c)), (r0 c).2.2.2.2.2.2.2.2⟩)
    (Cert.Kernel7Ideal.Value.run_blocks (F := Ideal) m ρ)

end

section
open Cert.Reference7Ideal Cert.Reference7Ideal.Gen Cert.Reference7Ideal.Read

/-- An array of rows, from its entries. -/
theorem ext_rows (f : Vec Ideal S32768x512 .f32) (a : Fin 32768 → Fin 512 → EReal) (h : ∀ row n, f (ix2 row n) = a row n) :
    f = fun j : S32768x512.Idx => a (j 0) (j 1) := by
  funext j
  obtain ⟨row, n, rfl⟩ : ∃ (row : Fin 32768) (n : Fin 512), j = ix2 row n := ⟨j 0, j 1, by funext a; fin_cases a <;> rfl⟩
  exact h row n

variable (A : Args)

theorem res_r : val_main_v82 (F := Ideal) A.z A.mu = fun j : S32768x512.Idx => A.r (j 0) (j 1) :=
  ext_rows _ _ fun row n => (rows_at row _ n).trans (ref_r A row n)

theorem res_lw : val_main_v85 (F := Ideal) A.z A.mu A.w0 A.w2 = fun j : S32768x512.Idx => A.lw (j 0) (j 1) :=
  ext_rows _ _ fun row n => (rows_at row _ n).trans (ref_lw A row n)

theorem res_key : val_main_v86 (F := Ideal) A.z A.mu A.a0 A.a2 A.ka = fun j : S32768x512.Idx => A.key (j 0) (j 1) :=
  ext_rows _ _ fun row n => (rows_at row _ n).trans (ref_key A row n)

theorem res_v : val_main_v87 (F := Ideal) A.z A.mu = fun j : S32768x512.Idx => A.v (j 0) (j 1) :=
  ext_rows _ _ fun row n => (rows_at row _ n).trans (ref_v A row n)

theorem res_kn : val_main_v88 (F := Ideal) A.z A.mu A.kk = fun j : S32768x512.Idx => A.kn (j 0) (j 1) :=
  ext_rows _ _ fun row n => (flat_at row _ n).trans (ref_kn A row n)

theorem res_b : val_main_v90 (F := Ideal) A.z A.mu A.a0 A.a2 A.kk = fun j : S32768x512.Idx => A.b (j 0) (j 1) :=
  ext_rows _ _ fun row n => (flat_at row _ n).trans (ref_b A row n)

theorem res_bonus : val_main_v91 (F := Ideal) A.z A.mu A.a0 A.a2 A.ka A.rk = fun j : S32768x512.Idx => A.bonus (j 0) (j 1) :=
  ext_rows _ _ fun row n => (flat_at row _ n).trans (ref_bonus A row n)

theorem res_g : val_main_v92 (F := Ideal) A.z A.mu A.g2 = fun j : S32768x512.Idx => A.g (j 0) (j 1) :=
  ext_rows _ _ fun row n => (rows_at row _ n).trans (ref_g A row n)

end

instance preFacts : Cert.Pre_finite_rwkv.Facts where
  bcast_S_S32768x1792 := by decide
  reducesTo_S32768x1792_S_d0_1 := by decide
  h_S_ := by decide
  bcast_S_S1x1792 := by decide
  reducesTo_S1x1792_S_d0_1 := by decide
  bcast_S_S1x64x512 := by decide
  reducesTo_S1x64x512_S_d0_1_2 := by decide
  bcast_S_S1x128x512 := by decide
  reducesTo_S1x128x512_S_d0_1_2 := by decide
  bcast_S_S1x512 := by decide
  reducesTo_S1x512_S_d0_1 := by decide
  bcast_S_S1x8x64 := by decide
  reducesTo_S1x8x64_S_d0_1_2 := by decide

/-- What the precondition says of the arguments. -/
theorem finite_of (A : Args) (h : Cert.Pre_finite_rwkv.fn (F := Ideal) A.z A.mu A.w0 A.w2 A.a0 A.a2 A.g2 A.kk A.ka A.rk = fun _ => 1#1) : A.Real := by
  have hand : ∀ (x y : BitVec 1), IntOp.andi x y = 1#1 → x = 1#1 ∧ y = 1#1 := by decide
  obtain ⟨h, h8⟩ := hand _ _ (congrFun h (fun a => a.elim0))
  obtain ⟨h, h7⟩ := hand _ _ h
  obtain ⟨h, h6⟩ := hand _ _ h
  obtain ⟨h, h5⟩ := hand _ _ h
  obtain ⟨h, h4⟩ := hand _ _ h
  obtain ⟨h, h3⟩ := hand _ _ h
  obtain ⟨h1, h2⟩ := hand _ _ h
  haveI : Subsingleton Cert.Pre_finite_rwkv.S_.Idx := ⟨fun a b => funext fun d => d.elim0⟩
  exact ⟨fun i => Cert.Moba.real_of_abs_lt _ (lt_of_lt_of_eq (Cert.Moba.lt_of_cmp _ _ (Host.reduce_andi_all _ _ _ _ _ h1 i)) Cert.Moba.inf_f32),
    fun i => Cert.Moba.real_of_abs_lt _ (lt_of_lt_of_eq (Cert.Moba.lt_of_cmp _ _ (Host.reduce_andi_all _ _ _ _ _ h2 i)) Cert.Moba.inf_f32),
    fun i => Cert.Moba.real_of_abs_lt _ (lt_of_lt_of_eq (Cert.Moba.lt_of_cmp _ _ (Host.reduce_andi_all _ _ _ _ _ h3 i)) Cert.Moba.inf_f32),
    fun i => Cert.Moba.real_of_abs_lt _ (lt_of_lt_of_eq (Cert.Moba.lt_of_cmp _ _ (Host.reduce_andi_all _ _ _ _ _ h4 i)) Cert.Moba.inf_f32),
    fun i => Cert.Moba.real_of_abs_lt _ (lt_of_lt_of_eq (Cert.Moba.lt_of_cmp _ _ (Host.reduce_andi_all _ _ _ _ _ h5 i)) Cert.Moba.inf_f32),
    fun i => Cert.Moba.real_of_abs_lt _ (lt_of_lt_of_eq (Cert.Moba.lt_of_cmp _ _ (Host.reduce_andi_all _ _ _ _ _ h6 i)) Cert.Moba.inf_f32),
    fun i => Cert.Moba.real_of_abs_lt _ (lt_of_lt_of_eq (Cert.Moba.lt_of_cmp _ _ (Host.reduce_andi_all _ _ _ _ _ h7 i)) Cert.Moba.inf_f32),
    fun i => Cert.Moba.real_of_abs_lt _ (lt_of_lt_of_eq (Cert.Moba.lt_of_cmp _ _ (Host.reduce_andi_all _ _ _ _ _ h8 i)) Cert.Moba.inf_f32)⟩

/-- **The kernel's arrays are the reference's results**, when all but the two added vectors are finite. -/
theorem algebraic : Cert.algebraic_Kernel7Ideal_Reference7Ideal_pre_finite_rwkv (hKernel7Ideal := Cert.Kernel7Ideal.Gen.facts)
    (hReference7Ideal := Cert.Reference7Ideal.Gen.facts) (hPre_finite_rwkv := preFacts) := by
  pair_intro
  · run_from (arrays m g fun c => finite_of (args m c) (hpre c))
  · refine θ_run_mono (Cert.Reference7Ideal.Value.run (F := Ideal) m' g') ?_
    intro r hr c
    obtain ⟨a0, a1, a2, a3, a4, a5, a6, a7, a8, a9⟩ := hagree c
    refine ⟨(hr c).1.trans ?_, (hr c).2.1.trans ?_, (hr c).2.2.1.trans ?_, (hr c).2.2.2.1.trans ?_, (hr c).2.2.2.2.1.trans ?_, (hr c).2.2.2.2.2.1.trans ?_, (hr c).2.2.2.2.2.2.1.trans ?_, (hr c).2.2.2.2.2.2.2.1.trans ?_, (hr c).2.2.2.2.2.2.2.2⟩
    · rw [Cert.Reference7Ideal.Read.val_main_v82_eq, a0, a1]
      exact res_r (args m c)
    · rw [Cert.Reference7Ideal.Read.val_main_v85_eq, a0, a1, a2, a3]
      exact res_lw (args m c)
    · rw [Cert.Reference7Ideal.Read.val_main_v86_eq, a0, a1, a4, a5, a8]
      exact res_key (args m c)
    · rw [Cert.Reference7Ideal.Read.val_main_v87_eq, a0, a1]
      exact res_v (args m c)
    · rw [Cert.Reference7Ideal.Read.val_main_v88_eq, a0, a1, a7]
      exact res_kn (args m c)
    · rw [Cert.Reference7Ideal.Read.val_main_v90_eq, a0, a1, a4, a5, a7]
      exact res_b (args m c)
    · rw [Cert.Reference7Ideal.Read.val_main_v91_eq, a0, a1, a4, a5, a8, a9]
      exact res_bonus (args m c)
    · rw [Cert.Reference7Ideal.Read.val_main_v92_eq, a0, a1, a6]
      exact res_g (args m c)

theorem frame_reference : Cert.quiescent_Reference7Ideal (hReference7Ideal := Cert.Reference7Ideal.Gen.facts) := fun m ρ _ =>
  (θ_run Cert.Reference7Ideal.defs _ _).mono (fun r h => ⟨fun c => (h c).2.2.2.2.2.2.2.2, Idealize.ShloMosaic.sem_eq_zero_of_no_sems (by decide) r.2⟩)
    (Cert.Reference7Ideal.Value.run (F := Ideal) m ρ)

theorem frame_reference_finite : Cert.quiescent_Reference7Ideal_pre_finite_rwkv (hReference7Ideal := Cert.Reference7Ideal.Gen.facts)
    (hPre_finite_rwkv := preFacts) := fun m ρ _ =>
  (θ_run Cert.Reference7Ideal.defs _ _).mono (fun r h => ⟨fun c => (h c).2.2.2.2.2.2.2.2, Idealize.ShloMosaic.sem_eq_zero_of_no_sems (by decide) r.2⟩)
    (Cert.Reference7Ideal.Value.run (F := Ideal) m ρ)

end Cert.Layer.Rwkv
-- ==== Proof.Qk.lean ====
/-
  What the attention's preparation computes of its blocks, at a row and a lane: the norm of a head's lanes and the turn of
  the first sixteen of them.
-/
module

public import proofs.«01_k».proof.Proof.RwkvSpec
public import proofs.«01_k».proof.Proof.Gen.Kernel8Ideal.Frame
public import Idealize.ShloMosaic.Lib.Pipeline.ValueKit

@[expose] public section
noncomputable section
namespace Cert.Layer.Qk
open Idealize.ShloMosaic Idealize.ShloMosaic.TcCoe Idealize.SL.Sem Idealize.ShloMosaic.Pointwise
open Cert.Kernel8Ideal Cert.Kernel8Ideal.Gen

/-- A lane's place in its head. -/
abbrev inHead (n : Fin 512) : Fin 64 := ⟨n.val % 64, by omega⟩

/-- The norm of a head's lanes at a lane. -/
def normAt (x g : Fin 512 → EReal) (n : Fin 512) : EReal :=
  x n * Ideal.rsqrt (Ideal.div (headSum (fun j => x j * x j) n) (Ideal.ofBits .f32 0x42800000#32) + Ideal.ofBits .f32 0x358637BD#32) * g n

/-- The first eight lanes of a head turned against the next eight, by eight angles. -/
def turn (y : Fin 512 → EReal) (ang : Fin 8 → EReal) (n : Fin 512) : EReal :=
  if h : n.val % 64 < 8 then
    y n * Ideal.cos (ang ⟨n.val % 64, h⟩) - y ⟨n.val + 8, by have := n.isLt; omega⟩ * Ideal.sin (ang ⟨n.val % 64, h⟩)
  else if h' : n.val % 64 < 16 then
    y n * Ideal.cos (ang ⟨n.val % 64 - 8, by omega⟩) + y ⟨n.val - 8, by have := n.isLt; omega⟩ * Ideal.sin (ang ⟨n.val % 64 - 8, by omega⟩)
  else y n

theorem word_64 : Ideal.ofBits .f32 0x42800000#32 = ((64 : ℝ) : EReal) := by
  simp [Ideal.ofBits, Ideal.ieee, -EReal.coe_mul]; norm_num

theorem word_64th : Ideal.ofBits .f32 0x3C800000#32 = (((64 : ℝ)⁻¹ : ℝ) : EReal) := by
  simp [Ideal.ofBits, Ideal.ieee, -EReal.coe_mul]; norm_num

theorem word_neg : Ideal.ofBits .f32 0xBF800000#32 = -1 := by
  rw [show (-1 : EReal) = ((-(1 : ℝ) : ℝ) : EReal) by rw [EReal.coe_neg, EReal.coe_one]]
  simp [Ideal.ofBits, Ideal.ieee, -EReal.coe_mul, -EReal.coe_neg]; norm_num

/-- A product with the inverse is the quotient. -/
theorem mul_64th (x : EReal) : x * Ideal.ofBits .f32 0x3C800000#32 = Ideal.div x (Ideal.ofBits .f32 0x42800000#32) := by
  rw [word_64, word_64th, Ideal.div, if_neg (by norm_cast), EReal.coe_inv]

theorem cos_zero : Ideal.cos 0 = 1 := by
  rw [← EReal.coe_zero, ← EReal.coe_one]
  show ((Real.cos 0 : ℝ) : EReal) = _
  rw [Real.cos_zero]

/-- The turn, as products with the angle's cosine and with the signed sines of the lanes eight off. -/
theorem turn_eq (y : Fin 512 → EReal) (ang : Fin 8 → EReal) (n : Fin 512) (a : EReal)
    (h0 : ∀ h : n.val % 64 < 8, a = ang ⟨n.val % 64, h⟩) (h1 : ∀ h : ¬ n.val % 64 < 8, ∀ h' : n.val % 64 < 16, a = ang ⟨n.val % 64 - 8, by omega⟩)
    (h2 : ¬ n.val % 64 < 16 → a = 0) :
    y n * Ideal.cos a + y ⟨(n.val + 8) % 512, Nat.mod_lt _ (by decide)⟩ * ((if n.val % 64 < 8 then -1 else 0) * Ideal.sin a)
      + y ⟨(n.val + 504) % 512, Nat.mod_lt _ (by decide)⟩ * ((if 8 ≤ n.val % 64 ∧ n.val % 64 < 16 then 1 else 0) * Ideal.sin a) = turn y ang n := by
  have hn := n.isLt
  unfold turn
  by_cases h : n.val % 64 < 8
  · have e : (⟨(n.val + 8) % 512, Nat.mod_lt _ (by decide)⟩ : Fin 512) = ⟨n.val + 8, by omega⟩ := Fin.ext (by show (n.val + 8) % 512 = n.val + 8; omega)
    rw [dif_pos h, if_pos h, if_neg (by omega), ← h0 h, e, zero_mul, mul_zero, add_zero, neg_mul, one_mul, mul_neg, ← sub_eq_add_neg]
  · by_cases h' : n.val % 64 < 16
    · have e : (⟨(n.val + 504) % 512, Nat.mod_lt _ (by decide)⟩ : Fin 512) = ⟨n.val - 8, by omega⟩ := Fin.ext (by show (n.val + 504) % 512 = n.val - 8; omega)
      rw [dif_neg h, dif_pos h', if_neg h, if_pos ⟨by omega, h'⟩, ← h1 h h', e, zero_mul, mul_zero, add_zero, one_mul]
    · rw [dif_neg h, dif_neg h', if_neg h, if_neg (by omega), h2 h', cos_zero]
      simp only [zero_mul, mul_zero, add_zero, mul_one]

/-- A tile of 128 lanes, four times over. -/
theorem tile_at (y : FVec Ideal S256x128 .f32) (r : Fin 256) (n : Fin 512) :
    concatenate S256x512 1 [⟨S256x128, y⟩, ⟨S256x128, y⟩, ⟨S256x128, y⟩, ⟨S256x128, y⟩] concatenates_S256x128_S256x128_S256x128_S256x128_S256x512_d1
      (ix2 r n) = y (ix2 r ⟨n.val % 128, by omega⟩) := by
  have := n.isLt
  pointwise
  split_ifs <;> refine congrArg (fun k : Fin 128 => y (ix2 r k)) (Fin.ext ?_) <;> simp <;> omega

/-- The angle of a row at a lane. -/
def angAt (v10 : Vec Ideal S256x1 .i32) (v13 : Vec Ideal S1x128 .f32) (r : Fin 256) (n : Fin 512) : EReal :=
  (((v10 (ix2 r 0)).toInt : ℝ) : EReal) * v13 (ix2 0 ⟨n.val % 128, by omega⟩)

section
variable (v10 : Vec Ideal S256x1 .i32) (v13 : Vec Ideal S1x128 .f32) (r : Fin 256) (n : Fin 512)

theorem pay_ang (k : Fin 128) : k0_pay7 v10 v13 (ix2 r k) = (((v10 (ix2 r 0)).toInt : ℝ) : EReal) * v13 (ix2 0 k) := by
  pointwise [k0_pay7]
  rfl

theorem pay_cos : k0_pay8 v10 v13 (ix2 r n) = Ideal.cos (angAt v10 v13 r n) := by
  unfold k0_pay8 angAt
  rw [tile_at, ← pay_ang]
  rfl

theorem pay_sin : k0_pay9 v10 v13 (ix2 r n) = Ideal.sin (angAt v10 v13 r n) := by
  unfold k0_pay9 angAt
  rw [tile_at, ← pay_ang]
  rfl

theorem pay_lane : k0_pay10 (ix2 0 n) = BitVec.ofNat 32 (n.val % 64) := by
  have h : ∀ n : Fin 512, IntOp.andi (BitVec.ofNat 32 n.val) 63#32 = BitVec.ofNat 32 (n.val % 64) := by decide +kernel
  pointwise [k0_pay10]
  exact h n

theorem pay_low : k0_pay11 v10 v13 (ix2 r n) = (if n.val % 64 < 8 then -1 else 0) * Ideal.sin (angAt v10 v13 r n) := by
  have h : ∀ k : Fin 64, IntOp.cmpi CmpIPredicate.slt (BitVec.ofNat 32 k.val) 8#32 = if k.val < 8 then 1#1 else 0#1 := by decide +kernel
  have e := pay_lane n
  rw [← pay_sin]
  unfold k0_pay11
  generalize k0_pay10 = l at *
  generalize k0_pay9 v10 v13 = y
  pointwise
  rw [e, h (inHead n), word_neg]
  show Scalar.select (if n.val % 64 < 8 then 1#1 else 0#1) _ _ = _
  split
  · rfl
  · exact (zero_mul _).symm

theorem pay_high : k0_pay12 v10 v13 (ix2 r n) = (if 8 ≤ n.val % 64 ∧ n.val % 64 < 16 then 1 else 0) * Ideal.sin (angAt v10 v13 r n) := by
  have h : ∀ k : Fin 64, IntOp.andi (IntOp.cmpi CmpIPredicate.sge (BitVec.ofNat 32 k.val) 8#32) (IntOp.cmpi CmpIPredicate.slt (BitVec.ofNat 32 k.val) 16#32)
      = if 8 ≤ k.val ∧ k.val < 16 then 1#1 else 0#1 := by decide +kernel
  have e := pay_lane n
  rw [← pay_sin]
  unfold k0_pay12
  generalize k0_pay10 = l at *
  generalize k0_pay9 v10 v13 = y
  pointwise
  rw [e, h (inHead n)]
  show Scalar.select (if 8 ≤ n.val % 64 ∧ n.val % 64 < 16 then 1#1 else 0#1) _ _ = _
  split
  · exact (one_mul _).symm
  · exact (zero_mul _).symm

end

/-- The ones of a head. -/
theorem pay_ones (r n : Fin 512) : k0_pay6 (F := Ideal) (ix2 r n) = if r.val / 64 = n.val / 64 then 1 else 0 := by
  pointwise [k0_pay6]
  have h : ∀ r : Fin 512, IntOp.shrsi ArithUnit.vector (BitVec.ofNat 32 r.val) 6#32 = BitVec.ofNat 32 (r.val / 64) := by decide +kernel
  have h' : ∀ a b : Fin 8, BitVec.setWidth 32 (IntOp.cmpi CmpIPredicate.eq (BitVec.ofNat 32 a.val) (BitVec.ofNat 32 b.val))
      = if a.val = b.val then 1#32 else 0#32 := by decide +kernel
  have := r.isLt; have := n.isLt
  rw [h, h, h' ⟨r.val / 64, by omega⟩ ⟨n.val / 64, by omega⟩]
  show FloatOps.sitofp _ (if r.val / 64 = n.val / 64 then 1#32 else 0#32) = _
  split
  · show (((1#32 : BitVec 32).toInt : ℝ) : EReal) = 1
    norm_num
  · show (((0#32 : BitVec 32).toInt : ℝ) : EReal) = 0
    norm_num

theorem pay_norm (x : Vec Ideal S256x512 .f32) (g : Vec Ideal S1x512 .f32) (r : Fin 256) (n : Fin 512) (h : ∀ k, ∃ z : ℝ, x (ix2 r k) = z) :
    k0_pay14 (k0_pay6 (F := Ideal)) x g (ix2 r n) = normAt (fun k => x (ix2 r k)) (fun k => g (ix2 0 k)) n := by
  unfold normAt
  rw [← mul_64th, ← sum_head_split _ (fun k => mul_real _ _ (h k) (h k))]
  simp only [← pay_ones]
  unfold k0_pay14
  generalize k0_pay6 (F := Ideal) = o
  pointwise

theorem pay_turn (c a b y : FVec Ideal S256x512 .f32) (r : Fin 256) (n : Fin 512) : k0_pay1 c a b y (ix2 r n)
    = y (ix2 r n) * c (ix2 r n) + y (ix2 r ⟨(n.val + 8) % 512, Nat.mod_lt _ (by decide)⟩) * a (ix2 r n)
      + y (ix2 r ⟨(n.val + 504) % 512, Nat.mod_lt _ (by decide)⟩) * b (ix2 r n) := by
  pointwise [k0_pay1]
  have e : (⟨(n.val + 512 - 504) % 512, Nat.mod_lt _ (by decide)⟩ : Fin 512) = ⟨(n.val + 8) % 512, Nat.mod_lt _ (by decide)⟩ :=
    Fin.ext (by show (n.val + 512 - 504) % 512 = (n.val + 8) % 512; omega)
  have e' : (⟨(n.val + 512 - 8) % 512, Nat.mod_lt _ (by decide)⟩ : Fin 512) = ⟨(n.val + 504) % 512, Nat.mod_lt _ (by decide)⟩ :=
    Fin.ext (by show (n.val + 512 - 8) % 512 = (n.val + 504) % 512; omega)
  rw [e, e']

theorem pay_13 (o : FVec Ideal S512x512 .bf16) (c a b : FVec Ideal S256x512 .f32) (x : Vec Ideal S256x512 .f32) (g : Vec Ideal S1x512 .f32) :
    k0_pay13 o c a b x g = k0_pay1 c a b (k0_pay14 o x g) := rfl

theorem pay_q (y : FVec Ideal S256x512 .f32) (r : Fin 256) (n : Fin 512) : k0_pay2 y (ix2 r n) = y (ix2 r n) * Ideal.ofBits .f32 0x3E38AA3B#32 := by
  pointwise [k0_pay2]

theorem pay_k (c a b y : FVec Ideal S256x512 .f32) (r : Fin 256) (n : Fin 512) : k0_pay3 c a b y (ix2 r n) = k0_pay1 c a b y (ix2 r n) := by
  unfold k0_pay3
  generalize k0_pay1 c a b y = z
  pointwise

theorem pay_v (x : Vec Ideal S256x512 .f32) (r : Fin 256) (n : Fin 512) : k0_pay4 x (ix2 r n) = x (ix2 r n) := by
  pointwise [k0_pay4]

theorem pay_mean (c a b y : FVec Ideal S256x512 .f32) (n : Fin 512) : k0_pay5 c a b y (ix3 0 0 n)
    = Ideal.div (∑ r : Fin 256, k0_pay1 c a b y (ix2 r n)) (Ideal.ofBits .f32 0x43800000#32) := by
  unfold k0_pay5
  generalize k0_pay1 c a b y = z
  pointwise

end Cert.Layer.Qk
-- ==== Proof.QkBlocks.lean ====
/-
  The attention's queries, keys, values and mean keys, from the projected columns and the positions: what the points of the
  call leave, as functions of its arguments.
-/
module

public import proofs.«01_k».proof.Proof.Qk
public import proofs.«01_k».proof.Proof.Norm
public import proofs.«01_k».proof.Proof.Gen.Kernel8Ideal.Value

@[expose] public section
noncomputable section
namespace Cert.Layer.Qk
open Idealize.ShloMosaic Idealize.ShloMosaic.TcCoe Idealize.SL.Sem Idealize.ShloMosaic.Pointwise
open Cert.Kernel8Ideal Cert.Kernel8Ideal.Gen

/-- The call's arguments. -/
structure Args where
  x : Vec Ideal S32768x1536 .f32
  pos : Vec Ideal S4x8192 .i32
  gq : Vec Ideal S1x64 .f32
  gk : Vec Ideal S1x64 .f32

/-- The eight frequencies. -/
def freqs : FVec Ideal S8 .f32 :=
  Host.powf (broadcastInDim S8 ![] bcast_S_S8 (constant (F := Ideal) S_ .f32 0x48F42400#32))
    (Host.divf (Host.negf (mulf (sitofp .f32 (iotaInDim S8 32 0)) (broadcastInDim S8 ![] bcast_S_S8 (constant (F := Ideal) S_ .f32 0x40000000#32))))
      (broadcastInDim S8 ![] bcast_S_S8 (constant (F := Ideal) S_ .f32 0x41800000#32)))

/-- A row's angles. -/
def Args.ang (A : Args) (row : Fin 32768) (d : Fin 8) : EReal := (((A.pos (ix2 (seqOf row) (posOf row))).toInt : ℝ) : EReal) * freqs (ix1 d)

def Args.rowQ (A : Args) (row : Fin 32768) (n : Fin 512) : EReal := A.x (ix2 row ⟨n.val, by have := n.isLt; omega⟩)
def Args.rowK (A : Args) (row : Fin 32768) (n : Fin 512) : EReal := A.x (ix2 row ⟨512 + n.val, by have := n.isLt; omega⟩)
def Args.rowV (A : Args) (row : Fin 32768) (n : Fin 512) : EReal := A.x (ix2 row ⟨1024 + n.val, by have := n.isLt; omega⟩)

/-- The query under no factor. -/
def Args.q (A : Args) (row : Fin 32768) (n : Fin 512) : EReal := turn (normAt (A.rowQ row) (fun n => A.gq (ix2 0 (inHead n)))) (A.ang row) n

/-- The query. -/
def Args.qs (A : Args) (row : Fin 32768) (n : Fin 512) : EReal := A.q row n * Ideal.ofBits .f32 0x3E38AA3B#32

/-- The key. -/
def Args.k (A : Args) (row : Fin 32768) (n : Fin 512) : EReal := turn (normAt (A.rowK row) (fun n => A.gk (ix2 0 (inHead n)))) (A.ang row) n

/-- The mean key of a block of 256 rows. -/
def Args.km (A : Args) (b : Fin 128) (n : Fin 512) : EReal :=
  Ideal.div (∑ r : Fin 256, A.k ⟨b.val * 256 + r.val, by have := b.isLt; have := r.isLt; omega⟩ n) (Ideal.ofBits .f32 0x43800000#32)

/-- The windows' block indices at a point. -/
theorem wins : ∀ (t : Fin cfg0.N),
    (win0_0.index t = ![(grid0.coords t 0).val, 0] ∧ win0_1.index t = ![(grid0.coords t 0).val, 0])
    ∧ (win0_2.index t = ![0, 0] ∧ win0_3.index t = ![0, 0] ∧ win0_4.index t = ![0, 0])
    ∧ (win0_5.index t = ![(grid0.coords t 0).val, 0] ∧ win0_6.index t = ![(grid0.coords t 0).val, 0]
      ∧ win0_7.index t = ![(grid0.coords t 0).val, 0] ∧ win0_8.index t = ![(grid0.coords t 0).val, 0, 0]) :=
  (by decide +kernel : ∀ t : Fin grid0.N, _)

variable (m : (ℓ : Loc nD τ sig) → Buf (Elt Ideal) ℓ) (c : Dev nD) (t : Fin cfg0.N)

/-- The arguments that a run starts from. -/
def args : Args where
  x := m ((c : Thread nD τ).loc main_arg0)
  pos := m ((c : Thread nD τ).loc main_arg1)
  gq := m ((c : Thread nD τ).loc main_arg2)
  gk := m ((c : Thread nD τ).loc main_arg3)

/-- A head's vector as the host code repeats it over the heads. -/
def asHeads (x : Vec Ideal S1x64 .f32) : Vec Ideal S1x512 .f32 :=
  shapeCast S1x512 (shapeCast S512 (broadcastInDim S8x64 ![0, 1] bcast_S1x64_S8x64_0_1
    (shapeCast S1x64 (shapeCast S64 x shapeCasts_S1x64_S64) shapeCasts_S64_S1x64)) shapeCasts_S8x64_S512) shapeCasts_S512_S1x512

theorem asHeads_at (x : Vec Ideal S1x64 .f32) (n : Fin 512) : asHeads x (ix2 0 n) = x (ix2 0 (inHead n)) := by
  have := n.isLt
  pointwise [asHeads]

/-- The lanes' frequencies as the host code looks them up. -/
def lanes : Vec Ideal S1x128 .f32 :=
  shapeCast S1x128 (select (fun i => lit1 (S128.rowMajor i))
    (Host.gather gather_S8_S128x1_S128_n_0_n_n_0_1_1 freqs (broadcastInDim S128x1 ![0] bcast_S128_S128x1_0
      (select (constantI S128 1 0#1) (addi (fun i => lit0 (S128.rowMajor i)) (broadcastInDim S128 ![] bcast_S_S128 (constantI S_ 32 8#32)))
        (fun i => lit0 (S128.rowMajor i)))))
    (broadcastInDim S128 ![] bcast_S_S128 (constant (F := Ideal) S_ .f32 0x00000000#32))) shapeCasts_S128_S1x128

theorem V_pos : V m c main_v0 = shapeCast S32768x1 (args m c).pos shapeCasts_S4x8192_S32768x1 := by
  show StableHlo.after _ _ _ = _
  simp only [hostOps0, hostOps0_1, hostOps0_2, List.flatten_cons, List.flatten_nil, List.append_nil, List.cons_append, List.nil_append]
  after_results
  rfl

theorem V_gq : V m c main_v5 = asHeads (args m c).gq := by
  show StableHlo.after _ _ _ = _
  simp only [hostOps0, hostOps0_1, hostOps0_2, List.flatten_cons, List.flatten_nil, List.append_nil, List.cons_append, List.nil_append]
  after_results
  rfl

theorem V_gk : V m c main_v10 = asHeads (args m c).gk := by
  show StableHlo.after _ _ _ = _
  simp only [hostOps0, hostOps0_1, hostOps0_2, List.flatten_cons, List.flatten_nil, List.append_nil, List.cons_append, List.nil_append]
  after_results
  rfl

theorem V_lanes : V m c main_v25 = lanes := by
  show StableHlo.after _ _ _ = _
  simp only [hostOps0, hostOps0_1, hostOps0_2, List.flatten_cons, List.flatten_nil, List.append_nil, List.cons_append, List.nil_append]
  after_results
  rfl

theorem lookup_at (x : FVec Ideal S8 .f32) (i : IVec S128x1 32) (k : Fin 128) :
    Host.gather gather_S8_S128x1_S128_n_0_n_n_0_1_1 x i (ix1 k) = x (ix1 ⟨min (i (ix2 k 0)).toInt.toNat 7, by omega⟩) := by
  unfold Host.gather
  congr 1
  funext a
  obtain rfl : a = 0 := Subsingleton.elim _ _
  refine Fin.ext ?_
  show gather_S8_S128x1_S128_n_0_n_n_0_1_1.start (ix1 k) i 0 + gather_S8_S128x1_S128_n_0_n_n_0_1_1.batchCoord (ix1 k) 0
    + gather_S8_S128x1_S128_n_0_n_n_0_1_1.offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S8_S128x1_S128_n_0_n_n_0_1_1.startIndexMap from List.mem_singleton.mpr rfl)]
  have e : gather_S8_S128x1_S128_n_0_n_n_0_1_1.siIdx (ix1 k) ⟨List.idxOf (0 : Fin 1) gather_S8_S128x1_S128_n_0_n_n_0_1_1.startIndexMap,
      List.idxOf_lt_length_iff.2 (List.mem_singleton.mpr rfl)⟩ = ix2 k 0 := by
    funext b
    fin_cases b <;> rfl
  rw [e]
  rfl

theorem lit0_at (k : Fin 128) : lit0 k = BitVec.ofNat 32 (k.val % 8) :=
  (by decide +kernel : ∀ k : Fin 128, lit0 k = BitVec.ofNat 32 (k.val % 8)) k

theorem lit1_at (k : Fin 128) : lit1 k = if k.val % 64 < 16 then 1#1 else 0#1 :=
  (by decide +kernel : ∀ k : Fin 128, lit1 k = if k.val % 64 < 16 then 1#1 else 0#1) k

theorem lanes_at (k : Fin 128) : lanes (ix2 0 k) = if k.val % 64 < 16 then freqs (ix1 ⟨k.val % 8, by omega⟩) else 0 := by
  have hk : S128.rowMajor (ix1 k) = k := Fin.ext (Shape.rowMajor_val_one _)
  have e : lanes (ix2 0 k) = (select (fun i => lit1 (S128.rowMajor i))
      (Host.gather gather_S8_S128x1_S128_n_0_n_n_0_1_1 freqs (broadcastInDim S128x1 ![0] bcast_S128_S128x1_0
        (select (constantI S128 1 0#1) (addi (fun i => lit0 (S128.rowMajor i)) (broadcastInDim S128 ![] bcast_S_S128 (constantI S_ 32 8#32)))
          (fun i => lit0 (S128.rowMajor i)))))
      (broadcastInDim S128 ![] bcast_S_S128 (constant (F := Ideal) S_ .f32 0x00000000#32)) : FVec Ideal S128 .f32) (ix1 k) := by
    refine shapeCast_apply _ _ _ _ ?_
    rewrite [Shape.rowMajor_val_one, Shape.rowMajor_val_two]
    show k.val = 0 * 128 + k.val
    omega
  rw [e]
  show Scalar.select (lit1 (S128.rowMajor (ix1 k))) (Host.gather gather_S8_S128x1_S128_n_0_n_n_0_1_1 freqs _ (ix1 k)) (Ideal.ofBits .f32 0x00000000#32) = _
  rw [lookup_at, hk, lit1_at, Ideal.ofBits_zero]
  have hi : (broadcastInDim S128x1 ![0] bcast_S128_S128x1_0
        (select (constantI S128 1 0#1) (addi (fun i => lit0 (S128.rowMajor i)) (broadcastInDim S128 ![] bcast_S_S128 (constantI S_ 32 8#32)))
          (fun i => lit0 (S128.rowMajor i))) : IVec S128x1 32) (ix2 k 0) = BitVec.ofNat 32 (k.val % 8) := by
    rw [← lit0_at]
    pointwise
    exact congrArg lit0 (Fin.ext (Shape.rowMajor_val_one _))
  have hb : ∀ d : Fin 8, min ((BitVec.ofNat 32 d.val).toInt.toNat) 7 = d.val := by decide +kernel
  have hf : (⟨min ((broadcastInDim S128x1 ![0] bcast_S128_S128x1_0
        (select (constantI S128 1 0#1) (addi (fun i => lit0 (S128.rowMajor i)) (broadcastInDim S128 ![] bcast_S_S128 (constantI S_ 32 8#32)))
          (fun i => lit0 (S128.rowMajor i))) : IVec S128x1 32) (ix2 k 0)).toInt.toNat 7, by omega⟩ : Fin 8) = ⟨k.val % 8, by omega⟩ :=
    Fin.ext ((congrArg (fun b : BitVec 32 => min b.toInt.toNat 7) hi).trans (hb ⟨k.val % 8, by omega⟩))
  rw [hf]
  split <;> rfl

theorem grid_lt : (grid0.coords t 0).val < 128 := (grid0.coords t 0).isLt

/-- A row of the point's block, among all the rows. -/
def rowAt (r : Fin 256) : Fin 32768 := ⟨(grid0.coords t 0).val * 256 + r.val, by have := grid_lt t; have := r.isLt; omega⟩

theorem blk_x (r : Fin 256) (k : Fin 1536) : (iblk m c 0 t : Vec Ideal S256x1536 .f32) (ix2 r k) = (args m c).x (ix2 (rowAt t r) k) := by
  show _ = (m ((c : Thread nD τ).loc main_arg0) : Vec Ideal S32768x1536 .f32) (ix2 (rowAt t r) k)
  rw [← V_main_arg0 m c]
  unfold rowAt
  blk_ext [iblk, (wins t).1.1]

theorem pos_at (x : Vec Ideal S4x8192 .i32) (row : Fin 32768) :
    shapeCast S32768x1 x shapeCasts_S4x8192_S32768x1 (ix2 row 0) = x (ix2 (seqOf row) (posOf row)) := by
  have := row.isLt
  refine shapeCast_apply x _ _ _ ?_
  rewrite [Shape.rowMajor_val_two, Shape.rowMajor_val_two]
  show row.val / 8192 * 8192 + row.val % 8192 = row.val * 1 + 0
  omega

theorem blk_pos (r : Fin 256) : (iblk m c 1 t : Vec Ideal S256x1 .i32) (ix2 r 0) = (args m c).pos (ix2 (seqOf (rowAt t r)) (posOf (rowAt t r))) := by
  rw [← pos_at (args m c).pos, ← V_pos m c]
  unfold rowAt
  blk_ext [iblk, (wins t).1.2]

theorem blk_gq (n : Fin 512) : (iblk m c 2 t : Vec Ideal S1x512 .f32) (ix2 0 n) = (args m c).gq (ix2 0 (inHead n)) := by
  rw [← asHeads_at (args m c).gq, ← V_gq m c]
  blk_ext [iblk, (wins t).2.1.1]

theorem blk_gk (n : Fin 512) : (iblk m c 3 t : Vec Ideal S1x512 .f32) (ix2 0 n) = (args m c).gk (ix2 0 (inHead n)) := by
  rw [← asHeads_at (args m c).gk, ← V_gk m c]
  blk_ext [iblk, (wins t).2.1.2.1]

theorem blk_lanes (k : Fin 128) : (iblk m c 4 t : Vec Ideal S1x128 .f32) (ix2 0 k) = if k.val % 64 < 16 then freqs (ix1 ⟨k.val % 8, by omega⟩) else 0 := by
  rw [← lanes_at, ← V_lanes m c]
  blk_ext [iblk, (wins t).2.1.2.2]

section
variable (x : Vec Ideal S256x1536 .f32) (r : Fin 256) (n : Fin 512)

theorem cols_q : View.ld x r0_2 (ix2 r n) = x (ix2 r ⟨n.val, by have := n.isLt; omega⟩) :=
  congrArg x (by funext a; fin_cases a <;> exact Fin.ext (by simp))

theorem cols_k : View.ld x r0_4 (ix2 r n) = x (ix2 r ⟨512 + n.val, by have := n.isLt; omega⟩) :=
  congrArg x (by funext a; fin_cases a <;> exact Fin.ext (by simp))

theorem cols_v : View.ld x r0_6 (ix2 r n) = x (ix2 r ⟨1024 + n.val, by have := n.isLt; omega⟩) :=
  congrArg x (by funext a; fin_cases a <;> exact Fin.ext (by simp))

end

/-- The turn of a block's rows by the point's angles. -/
theorem turned (y : FVec Ideal S256x512 .f32) (r : Fin 256) (n : Fin 512) :
    k0_pay1 (k0_pay8 (iblk m c 1 t) (iblk m c 4 t)) (k0_pay11 (iblk m c 1 t) (iblk m c 4 t)) (k0_pay12 (iblk m c 1 t) (iblk m c 4 t)) y (ix2 r n)
      = turn (fun k => y (ix2 r k)) ((args m c).ang (rowAt t r)) n := by
  have hn := n.isLt
  have e : angAt (iblk m c 1 t) (iblk m c 4 t) r n = (((args m c).pos (ix2 (seqOf (rowAt t r)) (posOf (rowAt t r))) : BitVec 32).toInt : ℝ)
      * (if n.val % 128 % 64 < 16 then freqs (ix1 ⟨n.val % 128 % 8, by omega⟩) else 0) := by
    unfold angAt
    rw [blk_pos, blk_lanes]
  rw [pay_turn, pay_cos, pay_low, pay_high, e]
  refine turn_eq (fun k => y (ix2 r k)) ((args m c).ang (rowAt t r)) n _ ?_ ?_ ?_
  · intro h
    rw [if_pos (by omega)]
    exact congrArg (fun d : Fin 8 => (args m c).ang (rowAt t r) d) (Fin.ext (by show n.val % 128 % 8 = n.val % 64; omega))
  · intro h h'
    rw [if_pos (by omega)]
    exact congrArg (fun d : Fin 8 => (args m c).ang (rowAt t r) d) (Fin.ext (by show n.val % 128 % 8 = n.val % 64 - 8; omega))
  · intro h
    rw [if_neg (by omega), mul_zero]

section
variable (h : ∀ i, ∃ z : ℝ, (args m c).x i = (z : EReal)) (r : Fin 256) (n : Fin 512)
include h

theorem point_q : k0_pay2 (k0_pay13 (k0_pay6 (F := Ideal)) (k0_pay8 (iblk m c 1 t) (iblk m c 4 t)) (k0_pay11 (iblk m c 1 t) (iblk m c 4 t))
      (k0_pay12 (iblk m c 1 t) (iblk m c 4 t)) (View.ld (iblk m c 0 t : Vec Ideal S256x1536 .f32) r0_2) (iblk m c 2 t)) (ix2 r n)
    = (args m c).qs (rowAt t r) n := by
  rw [pay_q, pay_13, turned]
  have e : (fun k => k0_pay14 (k0_pay6 (F := Ideal)) (View.ld (iblk m c 0 t : Vec Ideal S256x1536 .f32) r0_2) (iblk m c 2 t) (ix2 r k))
      = normAt ((args m c).rowQ (rowAt t r)) (fun n => (args m c).gq (ix2 0 (inHead n))) := by
    funext k
    have hx : ∀ j, View.ld (iblk m c 0 t : Vec Ideal S256x1536 .f32) r0_2 (ix2 r j) = (args m c).rowQ (rowAt t r) j := fun j =>
      (cols_q _ r j).trans (blk_x m c t r _)
    refine (pay_norm _ _ r k fun j => ?_).trans ?_
    · rw [hx]
      exact h _
    · exact congrArg₂ (fun a b => normAt a b k) (funext hx) (funext fun j => blk_gq m c t j)
  rw [e]
  rfl

theorem key_rows : (fun k => k0_pay14 (k0_pay6 (F := Ideal)) (View.ld (iblk m c 0 t : Vec Ideal S256x1536 .f32) r0_4) (iblk m c 3 t) (ix2 r k))
    = normAt ((args m c).rowK (rowAt t r)) (fun n => (args m c).gk (ix2 0 (inHead n))) := by
  funext k
  have hx : ∀ j, View.ld (iblk m c 0 t : Vec Ideal S256x1536 .f32) r0_4 (ix2 r j) = (args m c).rowK (rowAt t r) j := fun j =>
    (cols_k _ r j).trans (blk_x m c t r _)
  refine (pay_norm _ _ r k fun j => ?_).trans ?_
  · rw [hx]
    exact h _
  · exact congrArg₂ (fun a b => normAt a b k) (funext hx) (funext fun j => blk_gk m c t j)

theorem point_k : k0_pay3 (k0_pay8 (iblk m c 1 t) (iblk m c 4 t)) (k0_pay11 (iblk m c 1 t) (iblk m c 4 t)) (k0_pay12 (iblk m c 1 t) (iblk m c 4 t))
      (k0_pay14 (k0_pay6 (F := Ideal)) (View.ld (iblk m c 0 t : Vec Ideal S256x1536 .f32) r0_4) (iblk m c 3 t)) (ix2 r n)
    = (args m c).k (rowAt t r) n := by
  rw [pay_k, turned, key_rows m c t h]
  rfl

theorem point_km : k0_pay5 (k0_pay8 (iblk m c 1 t) (iblk m c 4 t)) (k0_pay11 (iblk m c 1 t) (iblk m c 4 t)) (k0_pay12 (iblk m c 1 t) (iblk m c 4 t))
      (k0_pay14 (k0_pay6 (F := Ideal)) (View.ld (iblk m c 0 t : Vec Ideal S256x1536 .f32) r0_4) (iblk m c 3 t)) (ix3 0 0 n)
    = (args m c).km ⟨(grid0.coords t 0).val, grid_lt t⟩ n := by
  rw [pay_mean]
  simp only [turned m c t, key_rows m c t h]
  rfl

omit h in
theorem point_v : k0_pay4 (View.ld (iblk m c 0 t : Vec Ideal S256x1536 .f32) r0_6) (ix2 r n) = (args m c).rowV (rowAt t r) n := by
  rw [pay_v, cols_v, blk_x]
  rfl

end

end Cert.Layer.Qk
-- ==== Proof.QkArrays.lean ====
/-
  The four arrays that the attention's preparation leaves.
-/
module

public import proofs.«01_k».proof.Proof.QkBlocks

@[expose] public section
noncomputable section
namespace Cert.Layer.Qk
open Idealize.ShloMosaic Idealize.ShloMosaic.TcCoe Idealize.SL.Sem Idealize.ShloMosaic.Pointwise
open Cert.Kernel8Ideal Cert.Kernel8Ideal.Gen

section
variable (x0 : Vec Ideal S256x1536 .f32) (x1 : Vec Ideal S256x1 .i32) (x2 x3 : Vec Ideal S1x512 .f32) (x4 : Vec Ideal S1x128 .f32)

theorem out_q : out0_5 x0 x1 x2 x3 x4 = k0_pay2 (k0_pay13 (k0_pay6 (F := Ideal)) (k0_pay8 x1 x4) (k0_pay11 x1 x4) (k0_pay12 x1 x4) (View.ld x0 r0_2) x2) := by
  frame_out [out0_5, k0_pay15, k0_pay16, k0_pay17, k0_pay18]

theorem out_k : out0_6 x0 x1 x2 x3 x4 = k0_pay3 (k0_pay8 x1 x4) (k0_pay11 x1 x4) (k0_pay12 x1 x4) (k0_pay14 (k0_pay6 (F := Ideal)) (View.ld x0 r0_4) x3) := by
  frame_out [out0_6, k0_pay15, k0_pay16, k0_pay17, k0_pay18, k0_pay19]

theorem out_v : out0_7 x0 x1 x2 x3 x4 = k0_pay4 (View.ld x0 r0_6) := by
  frame_out [out0_7]

theorem out_km : out0_8 x0 x1 x2 x3 x4 = k0_pay5 (k0_pay8 x1 x4) (k0_pay11 x1 x4) (k0_pay12 x1 x4) (k0_pay14 (k0_pay6 (F := Ideal)) (View.ld x0 r0_4) x3) := by
  frame_out [out0_8, k0_pay15, k0_pay16, k0_pay17, k0_pay18, k0_pay19]

end

variable (m : (ℓ : Loc nD τ sig) → Buf (Elt Ideal) ℓ) (c : Dev nD)

/-- A block of 256 rows of an array, from its rows and lanes. -/
theorem rows_of (t : Fin cfg0.N) (e : S256x512.Idx → S32768x512.Idx) (he : ∀ (r : Fin 256) (n : Fin 512), e (ix2 r n) = ix2 (rowAt t r) n)
    (p : FVec Ideal S256x512 .bf16) (f : Fin 32768 → Fin 512 → EReal) (hp : ∀ (r : Fin 256) (n : Fin 512), p (ix2 r n) = f (rowAt t r) n)
    (y : S256x512.Idx) : p y = f (e y 0) (e y 1) := by
  obtain ⟨r, n, rfl⟩ : ∃ (r : Fin 256) (n : Fin 512), y = ix2 r n := ⟨y 0, y 1, by funext a; fin_cases a <;> rfl⟩
  rw [he]
  exact hp r n

theorem block_of (t : Fin cfg0.N) (e : S1x1x512.Idx → S128x1x512.Idx) (he : ∀ n : Fin 512, e (ix3 0 0 n) = ix3 ⟨(grid0.coords t 0).val, grid_lt t⟩ 0 n)
    (p : FVec Ideal S1x1x512 .f32) (f : Fin 128 → Fin 512 → EReal) (hp : ∀ n : Fin 512, p (ix3 0 0 n) = f ⟨(grid0.coords t 0).val, grid_lt t⟩ n)
    (y : S1x1x512.Idx) : p y = f (e y 0) (e y 2) := by
  obtain ⟨n, rfl⟩ : ∃ n : Fin 512, y = ix3 0 0 n := ⟨y 2, by
    funext a
    fin_cases a
    · exact Fin.ext (Nat.lt_one_iff.mp (y 0).isLt)
    · exact Fin.ext (Nat.lt_one_iff.mp (y 1).isLt)
    · rfl⟩
  rw [he]
  exact hp n

variable (h : ∀ i, ∃ z : ℝ, (args m c).x i = (z : EReal))
include h

theorem array_q : (dats m 0 c).arrAt 5 cfg0.N = fun j : S32768x512.Idx => (args m c).qs (j 0) (j 1) := by
  refine (dats m 0 c).arrAt_eq_of_covers 5 _ (by decide +kernel) fun t hf y => ?_
  rw [after0_5, out_q]
  refine rows_of t (win0_5.blk t).view.emb (fun r n => ?_) _ _ (point_q m c t h) y
  funext a
  fin_cases a <;> apply Fin.ext <;> blk_simp [(wins t).2.2.1] <;> rfl

theorem array_k : (dats m 0 c).arrAt 6 cfg0.N = fun j : S32768x512.Idx => (args m c).k (j 0) (j 1) := by
  refine (dats m 0 c).arrAt_eq_of_covers 6 _ (by decide +kernel) fun t hf y => ?_
  rw [after0_6, out_k]
  refine rows_of t (win0_6.blk t).view.emb (fun r n => ?_) _ _ (point_k m c t h) y
  funext a
  fin_cases a <;> apply Fin.ext <;> blk_simp [(wins t).2.2.2.1] <;> rfl

omit h in
theorem array_v : (dats m 0 c).arrAt 7 cfg0.N = fun j : S32768x512.Idx => (args m c).rowV (j 0) (j 1) := by
  refine (dats m 0 c).arrAt_eq_of_covers 7 _ (by decide +kernel) fun t hf y => ?_
  rw [after0_7, out_v]
  refine rows_of t (win0_7.blk t).view.emb (fun r n => ?_) _ _ (point_v m c t) y
  funext a
  fin_cases a <;> apply Fin.ext <;> blk_simp [(wins t).2.2.2.2.1] <;> rfl

theorem array_km : (dats m 0 c).arrAt 8 cfg0.N = fun j : S128x1x512.Idx => (args m c).km (j 0) (j 2) := by
  refine (dats m 0 c).arrAt_eq_of_covers 8 _ (by decide +kernel) fun t hf y => ?_
  rw [after0_8, out_km]
  refine block_of t (win0_8.blk t).view.emb (fun n => ?_) _ _ (point_km m c t h) y
  funext a
  fin_cases a <;> apply Fin.ext <;> blk_simp [(wins t).2.2.2.2.2] <;> rfl

end Cert.Layer.Qk
-- ==== Proof.QkRef.lean ====
/-
  The reference's queries, keys, values and mean keys at a row and a lane.
-/
module

public import proofs.«01_k».proof.Proof.QkBlocks
public import proofs.«01_k».proof.Proof.RwkvRef
public import proofs.«01_k».proof.Proof.Gen.Reference8Ideal.Run
public import proofs.«01_k».proof.Proof.Gen.Reference8Ideal.Read

@[expose] public section
noncomputable section
namespace Cert.Layer.Qk
open Idealize.ShloMosaic Idealize.ShloMosaic.TcCoe Idealize.SL.Sem Idealize.ShloMosaic.Pointwise
open Cert.Layer.Rwkv (at4 head_lane)
open Cert.Reference8Ideal Cert.Reference8Ideal.Gen Cert.Reference8Ideal.Read

variable (A : Args) (row : Fin 32768)

/-- A lane of a head of the reference's arrays. -/
abbrev lane {w : Nat} (n : Fin 512) (d : Fin w) := ix4 (seqOf row) (posOf row) (⟨n.val / 64, by have := n.isLt; omega⟩ : Fin 8) d

theorem lane_eq (n : Fin 512) (d : Fin 64) (k : Fin 512) (h : k.val = n.val / 64 * 64 + d.val) : lane row n d = at4 row k := by
  have := d.isLt
  funext a; fin_cases a <;> apply Fin.ext
  · rfl
  · rfl
  · show n.val / 64 = k.val / 64; omega
  · show d.val = k.val % 64; omega

/-- Rows of 512 lanes as rows of heads. -/
theorem split_at (y : Vec Ideal S32768x512 .f32) (n : Fin 512) :
    shapeCast S4x8192x8x64 y shapeCasts_S32768x512_S4x8192x8x64 (at4 row n) = y (ix2 row n) := by
  have := row.isLt; have := n.isLt
  refine shapeCast_apply y _ _ _ ?_
  rewrite [Shape.rowMajor_val_two, Shape.rowMajor_val_four]
  show row.val * 512 + n.val = (((row.val / 8192) * 8192 + row.val % 8192) * 8 + n.val / 64) * 64 + n.val % 64
  omega

theorem ref_q (n : Fin 512) : val_main_v3 (F := Ideal) A.x (at4 row n) = A.rowQ row n := by
  refine (split_at row _ n).trans ?_
  rw [val_main_v0_apply]
  refine congrArg A.x ?_
  funext a; fin_cases a <;> rfl

theorem ref_k (n : Fin 512) : val_main_v4 (F := Ideal) A.x (at4 row n) = A.rowK row n := by
  refine (split_at row _ n).trans ?_
  rw [val_main_v1_apply]
  refine congrArg A.x ?_
  funext a; fin_cases a <;> rfl

theorem ref_v (n : Fin 512) : val_main_v5 (F := Ideal) A.x (at4 row n) = A.rowV row n := by
  refine (split_at row _ n).trans ?_
  rw [val_main_v2_apply]
  refine congrArg A.x ?_
  funext a; fin_cases a <;> rfl

theorem ref_gq (n : Fin 512) : val_main_v18 (F := Ideal) A.gq (at4 row n) = A.gq (ix2 0 (inHead n)) := by
  rw [val_main_v18_apply, val_main_v17_apply, val_main_v6_apply]
  refine congrArg A.gq ?_
  funext a; fin_cases a
  · rfl
  · exact Fin.ext (by show n.val % 64 % 64 = n.val % 64; omega)

theorem ref_gk (n : Fin 512) : val_main_v64 (F := Ideal) A.gk (at4 row n) = A.gk (ix2 0 (inHead n)) := by
  rw [val_main_v64_apply, val_main_v63_apply, val_main_v52_apply]
  refine congrArg A.gk ?_
  funext a; fin_cases a
  · rfl
  · exact Fin.ext (by show n.val % 64 % 64 = n.val % 64; omega)

theorem ref_nq (n : Fin 512) : val_main_v19 (F := Ideal) A.x A.gq (at4 row n) = normAt (A.rowQ row) (fun n => A.gq (ix2 0 (inHead n))) n := by
  have hi : ∀ k, idx_main_v8 (idx_main_v9 (idx_main_v15 (at4 row n))) k
      = at4 row ⟨n.val / 64 * 64 + k.val, by have := k.isLt; have := n.isLt; omega⟩ := fun k => by
    rw [← head_lane]; funext a; fin_cases a <;> rfl
  rw [val_main_v19_apply, val_main_v16_apply, val_main_v15_apply, val_main_v14_apply, val_main_v13_apply, val_main_v12_apply, val_main_v11_apply,
    val_main_v10_apply, val_main_v9_apply, val_main_v8_apply, val_main_cst_apply, val_main_cst_0_apply, val_main_cst_1_apply, ref_q, ref_gq]
  simp only [hi, val_main_v7_apply, ref_q]
  unfold normAt headSum
  show A.rowQ row n * Ideal.rsqrt (Ideal.div (Ideal.ofBits .f32 0x00000000#32 + _) _ + _) * _ = _
  rw [Ideal.ofBits_zero, zero_add]
  rfl

theorem ref_nk (n : Fin 512) : val_main_v65 (F := Ideal) A.x A.gk (at4 row n) = normAt (A.rowK row) (fun n => A.gk (ix2 0 (inHead n))) n := by
  have hi : ∀ k, idx_main_v54 (idx_main_v55 (idx_main_v61 (at4 row n))) k
      = at4 row ⟨n.val / 64 * 64 + k.val, by have := k.isLt; have := n.isLt; omega⟩ := fun k => by
    rw [← head_lane]; funext a; fin_cases a <;> rfl
  rw [val_main_v65_apply, val_main_v62_apply, val_main_v61_apply, val_main_v60_apply, val_main_v59_apply, val_main_v58_apply, val_main_v57_apply,
    val_main_v56_apply, val_main_v55_apply, val_main_v54_apply, val_main_cst_5_apply, val_main_cst_6_apply, val_main_cst_7_apply, ref_k, ref_gk]
  simp only [hi, val_main_v53_apply, ref_k]
  unfold normAt headSum
  show A.rowK row n * Ideal.rsqrt (Ideal.div (Ideal.ofBits .f32 0x00000000#32 + _) _ + _) * _ = _
  rw [Ideal.ofBits_zero, zero_add]
  rfl

theorem freq_q : val_main_v27 (F := Ideal) = freqs := rfl
theorem freq_k : val_main_v73 (F := Ideal) = freqs := rfl

theorem ang_q (d : Fin 8) : val_main_v33 (F := Ideal) A.pos (ix3 (seqOf row) (posOf row) d) = A.ang row d := by
  have hp : idx_main_v29 (idx_main_v31 (ix3 (seqOf row) (posOf row) d)) = ix2 (seqOf row) (posOf row) := by funext a; fin_cases a <;> rfl
  have hf : idx_main_v30 (idx_main_v32 (ix3 (seqOf row) (posOf row) d)) = ix1 d := by funext a; fin_cases a; rfl
  rw [val_main_v33_apply, val_main_v31_apply, val_main_v29_apply, val_main_v28_apply, val_main_v32_apply, val_main_v30_apply, freq_q, hp, hf]
  rfl

theorem ang_k (d : Fin 8) : val_main_v79 (F := Ideal) A.pos (ix3 (seqOf row) (posOf row) d) = A.ang row d := by
  have hp : idx_main_v75 (idx_main_v77 (ix3 (seqOf row) (posOf row) d)) = ix2 (seqOf row) (posOf row) := by funext a; fin_cases a <;> rfl
  have hf : idx_main_v76 (idx_main_v78 (ix3 (seqOf row) (posOf row) d)) = ix1 d := by funext a; fin_cases a; rfl
  rw [val_main_v79_apply, val_main_v77_apply, val_main_v75_apply, val_main_v74_apply, val_main_v78_apply, val_main_v76_apply, freq_k, hp, hf]
  rfl

/-- Three arrays side by side along the lanes of the heads. -/
abbrev joined (a b : Vec Ideal S4x8192x8x8 .f32) (w : Vec Ideal S4x8192x8x48 .f32) : Vec Ideal S4x8192x8x64 .f32 :=
  concatenate S4x8192x8x64 3 [⟨S4x8192x8x8, a⟩, ⟨S4x8192x8x8, b⟩, ⟨S4x8192x8x48, w⟩]
    concatenates_S4x8192x8x8_S4x8192x8x8_S4x8192x8x48_S4x8192x8x64_d3

theorem joined_at (a b : Vec Ideal S4x8192x8x8 .f32) (w : Vec Ideal S4x8192x8x48 .f32) (n : Fin 512) : joined a b w (at4 row n)
    = if h : n.val % 64 < 8 then a (lane row n ⟨n.val % 64, h⟩)
      else if h' : n.val % 64 < 16 then b (lane row n ⟨n.val % 64 - 8, by omega⟩)
      else w (lane row n ⟨n.val % 64 - 16, by omega⟩) := by
  have := n.isLt
  unfold joined
  pointwise
  by_cases h : n.val % 64 < 8
  · rw [dif_pos h, dif_pos h]
  · rw [dif_neg h, dif_neg h]
    by_cases h' : n.val % 64 < 16
    · rw [dif_pos (by omega), dif_pos h']
    · rw [dif_neg (by omega), dif_neg h']
      rfl

/-- The lanes of the heads, turned by a row's angles. -/
theorem joined_turn (y : Vec Ideal S4x8192x8x64 .f32) (a b : Vec Ideal S4x8192x8x8 .f32) (w : Vec Ideal S4x8192x8x48 .f32) (ang : Fin 8 → EReal) (n : Fin 512)
    (ha : ∀ d : Fin 8, a (lane row n d) = y (lane row n (⟨d.val, by omega⟩ : Fin 64)) * Ideal.cos (ang d) - y (lane row n (⟨8 + d.val, by omega⟩ : Fin 64)) * Ideal.sin (ang d))
    (hb : ∀ d : Fin 8, b (lane row n d) = y (lane row n (⟨8 + d.val, by omega⟩ : Fin 64)) * Ideal.cos (ang d) + y (lane row n (⟨d.val, by omega⟩ : Fin 64)) * Ideal.sin (ang d))
    (hw : ∀ d : Fin 48, w (lane row n d) = y (lane row n (⟨16 + d.val, by omega⟩ : Fin 64))) :
    joined a b w (at4 row n) = turn (fun n => y (at4 row n)) ang n := by
  have hn := n.isLt
  rw [joined_at]
  unfold turn
  by_cases h : n.val % 64 < 8
  · rw [dif_pos h, dif_pos h, ha, lane_eq row n _ n (by show n.val = n.val / 64 * 64 + n.val % 64; omega),
      lane_eq row n _ ⟨n.val + 8, by omega⟩ (by show n.val + 8 = n.val / 64 * 64 + (8 + n.val % 64); omega)]
  · rw [dif_neg h, dif_neg h]
    by_cases h' : n.val % 64 < 16
    · rw [dif_pos h', dif_pos h', hb, lane_eq row n _ n (by show n.val = n.val / 64 * 64 + (8 + (n.val % 64 - 8)); omega),
        lane_eq row n _ ⟨n.val - 8, by omega⟩ (by show n.val - 8 = n.val / 64 * 64 + (n.val % 64 - 8); omega)]
    · rw [dif_neg h', dif_neg h', hw, lane_eq row n _ n (by show n.val = n.val / 64 * 64 + (16 + (n.val % 64 - 16)); omega)]

theorem ref_tq (n : Fin 512) : val_main_v51 (F := Ideal) A.x A.pos A.gq (at4 row n) = A.q row n := by
  have hc : ∀ d : Fin 8, val_main_v34 (F := Ideal) A.pos (ix3 (seqOf row) (posOf row) d) = Ideal.cos (A.ang row d) := fun d => by
    rw [val_main_v34_apply, ang_q]; rfl
  have hs : ∀ d : Fin 8, val_main_v36 (F := Ideal) A.pos (ix3 (seqOf row) (posOf row) d) = Ideal.sin (A.ang row d) := fun d => by
    rw [val_main_v36_apply, ang_q]; rfl
  have lo : ∀ d : Fin 8, idx_main_v38 (lane row n d) = lane row n (⟨d.val, by omega⟩ : Fin 64) := fun d => by funext a; fin_cases a <;> rfl
  have hi : ∀ d : Fin 8, idx_main_v39 (lane row n d) = lane row n (⟨8 + d.val, by omega⟩ : Fin 64) := fun d => by funext a; fin_cases a <;> rfl
  have rest : ∀ d : Fin 48, idx_main_v50 (lane row n d) = lane row n (⟨16 + d.val, by omega⟩ : Fin 64) := fun d => by funext a; fin_cases a <;> rfl
  have i0 : ∀ d : Fin 8, idx_main_v35 (idx_main_v40 (lane row n d)) = ix3 (seqOf row) (posOf row) d := fun d => by funext a; fin_cases a <;> rfl
  have i1 : ∀ d : Fin 8, idx_main_v37 (idx_main_v42 (lane row n d)) = ix3 (seqOf row) (posOf row) d := fun d => by funext a; fin_cases a <;> rfl
  have i2 : ∀ d : Fin 8, idx_main_v35 (idx_main_v45 (lane row n d)) = ix3 (seqOf row) (posOf row) d := fun d => by funext a; fin_cases a <;> rfl
  have i3 : ∀ d : Fin 8, idx_main_v37 (idx_main_v47 (lane row n d)) = ix3 (seqOf row) (posOf row) d := fun d => by funext a; fin_cases a <;> rfl
  refine (joined_turn row (val_main_v19 (F := Ideal) A.x A.gq) (val_main_v44 (F := Ideal) A.x A.pos A.gq) (val_main_v49 (F := Ideal) A.x A.pos A.gq)
    (val_main_v50 (F := Ideal) A.x A.gq) (A.ang row) n (fun d => ?_) (fun d => ?_) fun d => ?_).trans ?_
  · rw [val_main_v44_apply, val_main_v41_apply, val_main_v43_apply, val_main_v38_apply, val_main_v39_apply, val_main_v40_apply, val_main_v42_apply,
      val_main_v35_apply, val_main_v37_apply, lo, hi, i0, i1, hc, hs]
    rfl
  · rw [val_main_v49_apply, val_main_v46_apply, val_main_v48_apply, val_main_v38_apply, val_main_v39_apply, val_main_v45_apply, val_main_v47_apply,
      val_main_v35_apply, val_main_v37_apply, lo, hi, i2, i3, hc, hs]
    rfl
  · rw [val_main_v50_apply, rest]
  · exact congrArg (fun y => turn y (A.ang row) n) (funext (ref_nq A row))

theorem ref_tk (n : Fin 512) : val_main_v97 (F := Ideal) A.x A.pos A.gk (at4 row n) = A.k row n := by
  have hc : ∀ d : Fin 8, val_main_v80 (F := Ideal) A.pos (ix3 (seqOf row) (posOf row) d) = Ideal.cos (A.ang row d) := fun d => by
    rw [val_main_v80_apply, ang_k]; rfl
  have hs : ∀ d : Fin 8, val_main_v82 (F := Ideal) A.pos (ix3 (seqOf row) (posOf row) d) = Ideal.sin (A.ang row d) := fun d => by
    rw [val_main_v82_apply, ang_k]; rfl
  have lo : ∀ d : Fin 8, idx_main_v84 (lane row n d) = lane row n (⟨d.val, by omega⟩ : Fin 64) := fun d => by funext a; fin_cases a <;> rfl
  have hi : ∀ d : Fin 8, idx_main_v85 (lane row n d) = lane row n (⟨8 + d.val, by omega⟩ : Fin 64) := fun d => by funext a; fin_cases a <;> rfl
  have rest : ∀ d : Fin 48, idx_main_v96 (lane row n d) = lane row n (⟨16 + d.val, by omega⟩ : Fin 64) := fun d => by funext a; fin_cases a <;> rfl
  have i0 : ∀ d : Fin 8, idx_main_v81 (idx_main_v86 (lane row n d)) = ix3 (seqOf row) (posOf row) d := fun d => by funext a; fin_cases a <;> rfl
  have i1 : ∀ d : Fin 8, idx_main_v83 (idx_main_v88 (lane row n d)) = ix3 (seqOf row) (posOf row) d := fun d => by funext a; fin_cases a <;> rfl
  have i2 : ∀ d : Fin 8, idx_main_v81 (idx_main_v91 (lane row n d)) = ix3 (seqOf row) (posOf row) d := fun d => by funext a; fin_cases a <;> rfl
  have i3 : ∀ d : Fin 8, idx_main_v83 (idx_main_v93 (lane row n d)) = ix3 (seqOf row) (posOf row) d := fun d => by funext a; fin_cases a <;> rfl
  refine (joined_turn row (val_main_v65 (F := Ideal) A.x A.gk) (val_main_v90 (F := Ideal) A.x A.pos A.gk) (val_main_v95 (F := Ideal) A.x A.pos A.gk)
    (val_main_v96 (F := Ideal) A.x A.gk) (A.ang row) n (fun d => ?_) (fun d => ?_) fun d => ?_).trans ?_
  · rw [val_main_v90_apply, val_main_v87_apply, val_main_v89_apply, val_main_v84_apply, val_main_v85_apply, val_main_v86_apply, val_main_v88_apply,
      val_main_v81_apply, val_main_v83_apply, lo, hi, i0, i1, hc, hs]
    rfl
  · rw [val_main_v95_apply, val_main_v92_apply, val_main_v94_apply, val_main_v84_apply, val_main_v85_apply, val_main_v91_apply, val_main_v93_apply,
      val_main_v81_apply, val_main_v83_apply, lo, hi, i2, i3, hc, hs]
    rfl
  · rw [val_main_v96_apply, rest]
  · exact congrArg (fun y => turn y (A.ang row) n) (funext (ref_nk A row))

theorem ref_qs (n : Fin 512) : val_main_v103 (F := Ideal) A.x A.pos A.gq (at4 row n) = A.qs row n := by
  rw [val_main_v103_apply, val_main_v102_apply, val_main_cst_13_apply, ref_tq]
  rfl

theorem ref_km (b : Fin 128) (n : Fin 512) : val_main_v110 (F := Ideal) A.x A.pos A.gk (ix3 b 0 n) = A.km b n := by
  have hb := b.isLt; have hn := n.isLt
  have hi : ∀ k : Fin 256, idx_main_v98 (idx_main_v99 (idx_main_v110 (ix3 b 0 n)) k)
      = at4 (⟨b.val * 256 + k.val, by have := k.isLt; omega⟩ : Fin 32768) n := fun k => by
    have hk := k.isLt
    have e0 : ((b.val * 1 + 0) * 512 + n.val) / 16384 = b.val / 32 := by omega
    have e1 : ((b.val * 1 + 0) * 512 + n.val) / 512 % 32 = b.val % 32 := by omega
    have e2 : ((b.val * 1 + 0) * 512 + n.val) / 64 % 8 = n.val / 64 := by omega
    have e3 : ((b.val * 1 + 0) * 512 + n.val) % 64 = n.val % 64 := by omega
    have e : ((((((b.val * 1 + 0) * 512 + n.val) / 16384 * 32 + ((b.val * 1 + 0) * 512 + n.val) / 512 % 32) * 256 + k.val) * 8
        + ((b.val * 1 + 0) * 512 + n.val) / 64 % 8) * 64 + ((b.val * 1 + 0) * 512 + n.val) % 64) = (b.val * 256 + k.val) * 512 + n.val := by
      rw [e0, e1, e2, e3]; omega
    funext a; fin_cases a <;> apply Fin.ext
    · refine (congrArg (fun q : Nat => q / 4194304) e).trans ?_
      show ((b.val * 256 + k.val) * 512 + n.val) / 4194304 = (b.val * 256 + k.val) / 8192
      omega
    · refine (congrArg (fun q : Nat => q / 512 % 8192) e).trans ?_
      show ((b.val * 256 + k.val) * 512 + n.val) / 512 % 8192 = (b.val * 256 + k.val) % 8192
      omega
    · refine (congrArg (fun q : Nat => q / 64 % 8) e).trans ?_
      show ((b.val * 256 + k.val) * 512 + n.val) / 64 % 8 = n.val / 64
      omega
    · refine (congrArg (fun q : Nat => q % 64) e).trans ?_
      show ((b.val * 256 + k.val) * 512 + n.val) % 64 = n.val % 64
      omega
  rw [val_main_v110_apply, val_main_v101_apply, val_main_v100_apply, val_main_v99_apply, val_main_cst_11_apply, val_main_cst_12_apply]
  simp only [val_main_v98_apply, hi, ref_tk]
  show Ideal.div (Ideal.ofBits .f32 0x00000000#32 + _) _ = _
  rw [Ideal.ofBits_zero, zero_add]
  rfl

end Cert.Layer.Qk
-- ==== Proof.QkClaims.lean ====
/-
  The attention's preparation: the four arrays that the call leaves are the reference's results, when the projected columns
  are finite.
-/
module

public import proofs.«01_k».proof.Proof.QkArrays
public import proofs.«01_k».proof.Proof.QkRef
public import proofs.«01_k».proof.Proof.MobaPre
public import proofs.«01_k».proof.Defs
public import Idealize.ShloMosaic.Lib.Quiescent
public import Idealize.ShloMosaic.Lib.Claim

@[expose] public section
noncomputable section
namespace Cert.Layer.Qk
open Idealize.ShloMosaic Idealize.ShloMosaic.TcCoe Idealize.SL.Sem Idealize.ShloMosaic.Pointwise

section
open Cert.Kernel8Ideal Cert.Kernel8Ideal.Gen

/-- The call's arrays, after a run from finite columns. -/
theorem arrays (m : (ℓ : Loc nD τ sig) → Buf (Elt Ideal) ℓ) (ρ : Dev nD → PrngReg) (h : ∀ c : Dev nD, ∀ i, ∃ z : ℝ, (args m c).x i = (z : EReal)) :
    θ_run defs (onTc (τ := τ) (main (F := Ideal))) ⟨m, fun _ => 0, ρ⟩ fun r => ∀ c : Dev nD,
      r.2.mem ((c : Thread nD τ).loc main_v26_0) = (fun j : S32768x512.Idx => (args m c).qs (j 0) (j 1))
      ∧ r.2.mem ((c : Thread nD τ).loc main_v26_1) = (fun j : S32768x512.Idx => (args m c).k (j 0) (j 1))
      ∧ r.2.mem ((c : Thread nD τ).loc main_v26_2) = (fun j : S32768x512.Idx => (args m c).rowV (j 0) (j 1))
      ∧ r.2.mem ((c : Thread nD τ).loc main_v26_3) = (fun j : S128x1x512.Idx => (args m c).km (j 0) (j 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r r0 c => ⟨(r0 c).1.trans (array_q m c (h c)), (r0 c).2.1.trans (array_k m c (h c)), (r0 c).2.2.1.trans (array_v m c),
      (r0 c).2.2.2.1.trans (array_km m c (h c)), (r0 c).2.2.2.2⟩)
    (Cert.Kernel8Ideal.Value.run_blocks (F := Ideal) m ρ)

end

section
open Cert.Reference8Ideal Cert.Reference8Ideal.Gen Cert.Reference8Ideal.Read

variable (A : Args)

/-- The arrays of heads as arrays of rows. -/
theorem rows_ext (y : Vec Ideal S4x8192x8x64 .f32) (a : Fin 32768 → Fin 512 → EReal) (h : ∀ row n, y (Rwkv.at4 row n) = a row n) :
    (shapeCast S32768x512 y shapeCasts_S4x8192x8x64_S32768x512 : Vec Ideal S32768x512 .f32) = fun j : S32768x512.Idx => a (j 0) (j 1) := by
  funext j
  obtain ⟨row, n, rfl⟩ : ∃ (row : Fin 32768) (n : Fin 512), j = ix2 row n := ⟨j 0, j 1, by funext a; fin_cases a <;> rfl⟩
  exact (Rwkv.flat_at row y n).trans (h row n)

theorem res_q : val_main_v105 (F := Ideal) A.x A.pos A.gq = fun j : S32768x512.Idx => A.qs (j 0) (j 1) := rows_ext _ _ (ref_qs A)

theorem res_k : val_main_v107 (F := Ideal) A.x A.pos A.gk = fun j : S32768x512.Idx => A.k (j 0) (j 1) := rows_ext _ _ (ref_tk A)

theorem res_v : val_main_v109 (F := Ideal) A.x = fun j : S32768x512.Idx => A.rowV (j 0) (j 1) := rows_ext _ _ (ref_v A)

theorem res_km : val_main_v110 (F := Ideal) A.x A.pos A.gk = fun j : S128x1x512.Idx => A.km (j 0) (j 2) := by
  funext j
  obtain ⟨b, n, rfl⟩ : ∃ (b : Fin 128) (n : Fin 512), j = ix3 b 0 n := ⟨j 0, j 2, by
    funext a
    fin_cases a
    · rfl
    · exact Fin.ext (Nat.lt_one_iff.mp (j 1).isLt)
    · rfl⟩
  exact ref_km A b n

end

instance preFacts : Cert.Pre_finite_qk.Facts where
  bcast_S_S32768x1536 := by decide
  reducesTo_S32768x1536_S_d0_1 := by decide
  h_S_ := by decide

/-- What the precondition says of the projected columns. -/
theorem finite_of (A : Args) (h : Cert.Pre_finite_qk.fn (F := Ideal) A.x A.pos A.gq A.gk = fun _ => 1#1) : ∀ i, ∃ z : ℝ, A.x i = (z : EReal) := by
  have h1 := congrFun h (fun a => a.elim0)
  haveI : Subsingleton Cert.Pre_finite_qk.S_.Idx := ⟨fun a b => funext fun d => d.elim0⟩
  exact fun i => Cert.Moba.real_of_abs_lt _ (lt_of_lt_of_eq (Cert.Moba.lt_of_cmp _ _ (Host.reduce_andi_all _ _ _ _ _ h1 i)) Cert.Moba.inf_f32)

/-- **The kernel's arrays are the reference's results**, when the projected columns are finite. -/
theorem algebraic : Cert.algebraic_Kernel8Ideal_Reference8Ideal_pre_finite_qk (hKernel8Ideal := Cert.Kernel8Ideal.Gen.facts)
    (hReference8Ideal := Cert.Reference8Ideal.Gen.facts) (hPre_finite_qk := preFacts) := by
  pair_intro
  · run_from (arrays m g fun c => finite_of (args m c) (hpre c))
  · refine θ_run_mono (Cert.Reference8Ideal.Value.run (F := Ideal) m' g') ?_
    intro r hr c
    obtain ⟨a0, a1, a2, a3⟩ := hagree c
    refine ⟨(hr c).1.trans ?_, (hr c).2.1.trans ?_, (hr c).2.2.1.trans ?_, (hr c).2.2.2.1.trans ?_, (hr c).2.2.2.2⟩
    · rw [Cert.Reference8Ideal.Read.val_main_v105_eq, a0, a1, a2]
      exact res_q (args m c)
    · rw [Cert.Reference8Ideal.Read.val_main_v107_eq, a0, a1, a3]
      exact res_k (args m c)
    · refine (Cert.Reference8Ideal.Read.val_main_v109_eq _).trans ?_
      rw [a0]
      exact res_v (args m c)
    · rw [Cert.Reference8Ideal.Read.val_main_v110_eq, a0, a1, a3]
      exact res_km (args m c)

theorem frame_reference : Cert.quiescent_Reference8Ideal (hReference8Ideal := Cert.Reference8Ideal.Gen.facts) := fun m ρ _ =>
  (θ_run Cert.Reference8Ideal.defs _ _).mono (fun r h => ⟨fun c => (h c).2.2.2.2, Idealize.ShloMosaic.sem_eq_zero_of_no_sems (by decide) r.2⟩)
    (Cert.Reference8Ideal.Value.run (F := Ideal) m ρ)

theorem frame_reference_finite : Cert.quiescent_Reference8Ideal_pre_finite_qk (hReference8Ideal := Cert.Reference8Ideal.Gen.facts)
    (hPre_finite_qk := preFacts) := fun m ρ _ =>
  (θ_run Cert.Reference8Ideal.defs _ _).mono (fun r h => ⟨fun c => (h c).2.2.2.2, Idealize.ShloMosaic.sem_eq_zero_of_no_sems (by decide) r.2⟩)
    (Cert.Reference8Ideal.Value.run (F := Ideal) m ρ)

end Cert.Layer.Qk
-- ==== Proof.InProj2.lean ====
/-
  The first group of columns of the input projection: the array that the call leaves is the reference's result.
-/
module

public import proofs.«01_k».proof.Proof.Norm
public import proofs.«01_k».proof.Defs
public import Idealize.ShloMosaic.Lib.Quiescent

@[expose] public section
noncomputable section
namespace Cert.Layer.Cols2
open Idealize.ShloMosaic Idealize.ShloMosaic.TcCoe Idealize.SL.Sem Idealize.ShloMosaic.Pointwise

section
open Cert.Kernel2Ideal Cert.Kernel2Ideal.Gen

/-- The windows' block indices at a point. -/
theorem wins : ∀ (t : Fin cfg0.N),
    win0_0.index t = ![(grid0.coords t 0).val, 0]
    ∧ win0_1.index t = ![(grid0.coords t 0).val / 16, 0, 0]
    ∧ win0_2.index t = ![0, 0]
    ∧ win0_3.index t = ![0, 0]
    ∧ win0_4.index t = ![(grid0.coords t 0).val, 0] :=
  (by decide +kernel : ∀ t : Fin grid0.N, _)

variable (m : (ℓ : Loc nD τ sig) → Buf (Elt Ideal) ℓ) (c : Dev nD) (t : Fin cfg0.N)

theorem V_x : V m c main_v0 = shapeCast S32768x1024 (m ((c : Thread nD τ).loc main_arg0) : Vec Ideal S4x8192x1024 .f32) shapeCasts_S4x8192x1024_S32768x1024 := by
  show StableHlo.after _ _ _ = _
  simp only [hostOps0, List.flatten_cons, List.flatten_nil, List.append_nil, List.cons_append, List.nil_append]
  after_results
  rfl

theorem V_g : V m c main_v4 = shapeCast S1x1024 (shapeCast S1024 (m ((c : Thread nD τ).loc main_arg2) : Vec Ideal S1x1024 .f32) shapeCasts_S1x1024_S1024) shapeCasts_S1024_S1x1024 := by
  show StableHlo.after _ _ _ = _
  simp only [hostOps0, List.flatten_cons, List.flatten_nil, List.append_nil, List.cons_append, List.nil_append]
  after_results
  rfl

theorem V_w : V m c main_v5 = extractStridedSlice S1024x1536 ![0, 0]
    (truncf (F := Ideal) .bf16 (shapeCast S1024x5376 (m ((c : Thread nD τ).loc main_arg3) : Vec Ideal S1x1024x5376 .f32) shapeCasts_S1x1024x5376_S1024x5376) bitsLt_bf16_f32)
    slices_S1024x5376_S1024x1536_0_0 := by
  show StableHlo.after _ _ _ = _
  simp only [hostOps0, List.flatten_cons, List.flatten_nil, List.append_nil, List.cons_append, List.nil_append]
  after_results
  rfl

theorem grid_lt : (grid0.coords t 0).val < 64 := (grid0.coords t 0).isLt

/-- A row of the point's block, among all the rows. -/
def rowAt (r : Fin 512) : Fin 32768 := ⟨(grid0.coords t 0).val * 512 + r.val, by have := grid_lt t; have := r.isLt; omega⟩

theorem blk_x (r : Fin 512) (k : Fin 1024) : (iblk m c 0 t : Vec Ideal S512x1024 .f32) (ix2 r k)
    = (m ((c : Thread nD τ).loc main_arg0) : Vec Ideal S4x8192x1024 .f32) (ix3 (seqOf (rowAt t r)) (posOf (rowAt t r)) k) := by
  refine Eq.trans ?_ (cast_rows (m ((c : Thread nD τ).loc main_arg0)) (rowAt t r) k)
  rw [← V_x m c]
  unfold rowAt
  blk_ext [iblk, (wins t).1]

theorem blk_mod (r : Fin 512) (k : Fin 6144) : (iblk m c 1 t : Vec Ideal S1x1x6144 .f32) (ix3 0 0 k)
    = (m ((c : Thread nD τ).loc main_arg1) : Vec Ideal S4x1x6144 .f32) (ix3 (seqOf (rowAt t r)) 0 k) := by
  have h := grid_lt t
  have := r.isLt
  have e : seqOf (rowAt t r) = ⟨(grid0.coords t 0).val / 16, by omega⟩ := Fin.ext (by
    show ((grid0.coords t 0).val * 512 + r.val) / 8192 = (grid0.coords t 0).val / 16; omega)
  rw [← V_main_arg1 m c, e]
  blk_ext [iblk, (wins t).2.1]

theorem blk_g (k : Fin 1024) : (iblk m c 2 t : Vec Ideal S1x1024 .f32) (ix2 0 k)
    = (m ((c : Thread nD τ).loc main_arg2) : Vec Ideal S1x1024 .f32) (ix2 0 k) := by
  have e : (iblk m c 2 t : Vec Ideal S1x1024 .f32) (ix2 0 k) = (V m c main_v4 : Vec Ideal S1x1024 .f32) (ix2 0 k) := by
    blk_ext [iblk, (wins t).2.2.1]
  rw [e, V_g]
  pointwise

theorem blk_w (k : Fin 1024) (n : Fin 1536) : (iblk m c 3 t : Vec Ideal S1024x1536 .bf16) (ix2 k n)
    = (m ((c : Thread nD τ).loc main_arg3) : Vec Ideal S1x1024x5376 .f32) (ix3 0 k ⟨0 + n.val, by have := n.isLt; omega⟩) := by
  have := n.isLt
  refine Eq.trans ?_ (cast_cols (m ((c : Thread nD τ).loc main_arg3)) k ⟨0 + n.val, by omega⟩)
  have e : (iblk m c 3 t : Vec Ideal S1024x1536 .bf16) (ix2 k n) = (V m c main_v5 : Vec Ideal S1024x1536 .bf16) (ix2 k n) := by
    blk_ext [iblk, (wins t).2.2.2.1]
  rw [e, V_w]
  generalize shapeCast S1024x5376 _ _ = y
  pointwise

theorem pay (v0 : Vec Ideal S512x1024 .f32) (v2 : Vec Ideal S1x1024 .f32) (v4 : Vec Ideal S1x1x6144 .f32) (v27 : Vec Ideal S1024x1536 .bf16)
    (r : Fin 512) (n : Fin 1536) :
    k0_pay1 v0 v2 v4 v27 (ix2 r n) = ∑ k : Fin 1024, blockIn v0 v2 v4 (ix2 r k) * v27 (ix2 k n) := by
  have e : k0_pay1 v0 v2 v4 v27 = matmul dot_S512x1024_S1024x1536_S512x1536_1_0_0_1_n_n none (truncf .bf16 (blockIn v0 v2 v4) bitsLt_bf16_f32)
      (shapeCast S1024x1536 v27 shapeCasts_S1024x1536_S1024x1536) (constant S512x1536 .f32 0x00000000#32) := rfl
  rw [e]
  generalize blockIn v0 v2 v4 = y
  pointwise

theorem out_eq (x0 : Vec Ideal S512x1024 .f32) (x1 : Vec Ideal S1x1x6144 .f32) (x2 : Vec Ideal S1x1024 .f32) (x3 : Vec Ideal S1024x1536 .bf16) :
    out0_4 x0 x1 x2 x3 = k0_pay1 x0 x2 x1 x3 := by
  frame_out [out0_4]

/-- What a point computes. -/
theorem point (r : Fin 512) (n : Fin 1536) :
    k0_pay1 (F := Ideal) (iblk m c 0 t) (iblk m c 2 t) (iblk m c 1 t) (iblk m c 3 t) (ix2 r n)
      = inCol (m ((c : Thread nD τ).loc main_arg0)) (m ((c : Thread nD τ).loc main_arg1)) (m ((c : Thread nD τ).loc main_arg2))
          (m ((c : Thread nD τ).loc main_arg3)) (seqOf (rowAt t r)) (posOf (rowAt t r)) ⟨0 + n.val, by have := n.isLt; omega⟩ := by
  rw [pay]
  unfold inCol
  refine Finset.sum_congr rfl fun k _ => ?_
  rw [blockIn_apply, blk_w m c t]
  simp only [blk_x m c t, blk_mod m c t r, blk_g m c t]

/-- **The array after the run.** -/
theorem array : (dats m 0 c).arrAt 4 cfg0.N = fun j : S32768x1536.Idx =>
      inCol (m ((c : Thread nD τ).loc main_arg0)) (m ((c : Thread nD τ).loc main_arg1)) (m ((c : Thread nD τ).loc main_arg2))
        (m ((c : Thread nD τ).loc main_arg3)) (seqOf (j 0)) (posOf (j 0)) ⟨0 + (j 1).val, by have : (j 1).val < 1536 := (j 1).isLt; omega⟩ := by
  refine (dats m 0 c).arrAt_eq_of_covers 4 _ (by decide +kernel) fun t hf y => ?_
  have h := grid_lt t
  blk_simp [(wins t).2.2.2.2]
  rw [after0_4]
  obtain ⟨r, n, rfl⟩ : ∃ (r : Fin 512) (n : Fin 1536), y = ix2 r n := ⟨y 0, y 1, by
    funext a; fin_cases a <;> rfl⟩
  have er : (win0_4.blk t).view.emb (ix2 r n) 0 = rowAt t r := by
    apply Fin.ext
    blk_simp [(wins t).2.2.2.2]
    rfl
  rw [er, out_eq]
  exact (point m c t r n).trans (congrArg (inCol _ _ _ _ _ _) (Fin.ext (by show 0 + n.val = n.val; omega)))

end

/-- The reference's result at a row and a column. -/
theorem ref_apply (x : Vec Ideal Cert.Reference2Ideal.S4x8192x1024 .f32) (mod : Vec Ideal Cert.Reference2Ideal.S4x1x6144 .f32)
    (g : Vec Ideal Cert.Reference2Ideal.S1x1024 .f32) (w : Vec Ideal Cert.Reference2Ideal.S1x1024x5376 .f32) (row : Fin 32768) (n : Fin 1536) :
    Cert.Reference2Ideal.Read.val_main_v29 (F := Ideal) x mod g w (ix2 row n) = inCol x mod g w (seqOf row) (posOf row) ⟨0 + n.val, by have := n.isLt; omega⟩ := by
  have := row.isLt; have := n.isLt
  rw [Cert.Reference2Ideal.Read.val_main_v29_apply, Cert.Reference2Ideal.Read.val_main_v28_apply, ← host_product]
  refine congrArg (Cert.Reference2Ideal.Read.val_main_v27 (F := Ideal) x mod g w) ?_
  funext a; fin_cases a <;> apply Fin.ext
  · show (row.val * 1536 + n.val) / 12582912 = row.val / 8192; omega
  · show (row.val * 1536 + n.val) / 1536 % 8192 = row.val % 8192; omega
  · show (row.val * 1536 + n.val) % 1536 = 0 + n.val; omega

/-- **The kernel's array is the reference's result.** -/
theorem algebraic : Cert.algebraic_Kernel2Ideal_Reference2Ideal (hKernel2Ideal := Cert.Kernel2Ideal.Gen.facts)
    (hReference2Ideal := Cert.Reference2Ideal.Gen.facts) := by
  pair_intro
  · run_from (Cert.Kernel2Ideal.Value.run_blocks (F := Ideal) m g)
  · refine θ_run_mono (Cert.Reference2Ideal.Value.run (F := Ideal) m' g') ?_
    intro r hr c
    refine ⟨(hr c).1.trans ?_, (hr c).2⟩
    rw [Cert.Reference2Ideal.Read.val_main_v29_eq, (hagree c).1, (hagree c).2.1, (hagree c).2.2.1, (hagree c).2.2.2]
    refine Eq.trans ?_ (array m c).symm
    funext j
    obtain ⟨row, n, rfl⟩ : ∃ (row : Fin 32768) (n : Fin 1536), j = ix2 row n := ⟨j 0, j 1, by funext a; fin_cases a <;> rfl⟩
    exact ref_apply _ _ _ _ row n

theorem frame_reference : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

end Cert.Layer.Cols2
-- ==== Proof.InProj3.lean ====
/-
  The second group of columns of the input projection: the array that the call leaves is the reference's result.
-/
module

public import proofs.«01_k».proof.Proof.Norm
public import proofs.«01_k».proof.Defs
public import proofs.«01_k».proof.Proof.Gen.Kernel3Ideal.Value
public import proofs.«01_k».proof.Proof.Gen.Reference3Ideal.Read
public import Idealize.ShloMosaic.Lib.Quiescent

@[expose] public section
noncomputable section
namespace Cert.Layer.Cols3
open Idealize.ShloMosaic Idealize.ShloMosaic.TcCoe Idealize.SL.Sem Idealize.ShloMosaic.Pointwise

section
open Cert.Kernel3Ideal Cert.Kernel3Ideal.Gen

/-- The windows' block indices at a point. -/
theorem wins : ∀ (t : Fin cfg0.N),
    win0_0.index t = ![(grid0.coords t 0).val, 0]
    ∧ win0_1.index t = ![(grid0.coords t 0).val / 16, 0, 0]
    ∧ win0_2.index t = ![0, 0]
    ∧ win0_3.index t = ![0, 0]
    ∧ win0_4.index t = ![(grid0.coords t 0).val, 0] :=
  (by decide +kernel : ∀ t : Fin grid0.N, _)

variable (m : (ℓ : Loc nD τ sig) → Buf (Elt Ideal) ℓ) (c : Dev nD) (t : Fin cfg0.N)

theorem V_x : V m c main_v0 = shapeCast S32768x1024 (m ((c : Thread nD τ).loc main_arg0) : Vec Ideal S4x8192x1024 .f32) shapeCasts_S4x8192x1024_S32768x1024 := by
  show StableHlo.after _ _ _ = _
  simp only [hostOps0, List.flatten_cons, List.flatten_nil, List.append_nil, List.cons_append, List.nil_append]
  after_results
  rfl

theorem V_g : V m c main_v4 = shapeCast S1x1024 (shapeCast S1024 (m ((c : Thread nD τ).loc main_arg2) : Vec Ideal S1x1024 .f32) shapeCasts_S1x1024_S1024) shapeCasts_S1024_S1x1024 := by
  show StableHlo.after _ _ _ = _
  simp only [hostOps0, List.flatten_cons, List.flatten_nil, List.append_nil, List.cons_append, List.nil_append]
  after_results
  rfl

theorem V_w : V m c main_v5 = extractStridedSlice S1024x1792 ![0, 1536]
    (truncf (F := Ideal) .bf16 (shapeCast S1024x5376 (m ((c : Thread nD τ).loc main_arg3) : Vec Ideal S1x1024x5376 .f32) shapeCasts_S1x1024x5376_S1024x5376) bitsLt_bf16_f32)
    slices_S1024x5376_S1024x1792_0_1536 := by
  show StableHlo.after _ _ _ = _
  simp only [hostOps0, List.flatten_cons, List.flatten_nil, List.append_nil, List.cons_append, List.nil_append]
  after_results
  rfl

theorem grid_lt : (grid0.coords t 0).val < 64 := (grid0.coords t 0).isLt

/-- A row of the point's block, among all the rows. -/
def rowAt (r : Fin 512) : Fin 32768 := ⟨(grid0.coords t 0).val * 512 + r.val, by have := grid_lt t; have := r.isLt; omega⟩

theorem blk_x (r : Fin 512) (k : Fin 1024) : (iblk m c 0 t : Vec Ideal S512x1024 .f32) (ix2 r k)
    = (m ((c : Thread nD τ).loc main_arg0) : Vec Ideal S4x8192x1024 .f32) (ix3 (seqOf (rowAt t r)) (posOf (rowAt t r)) k) := by
  refine Eq.trans ?_ (cast_rows (m ((c : Thread nD τ).loc main_arg0)) (rowAt t r) k)
  rw [← V_x m c]
  unfold rowAt
  blk_ext [iblk, (wins t).1]

theorem blk_mod (r : Fin 512) (k : Fin 6144) : (iblk m c 1 t : Vec Ideal S1x1x6144 .f32) (ix3 0 0 k)
    = (m ((c : Thread nD τ).loc main_arg1) : Vec Ideal S4x1x6144 .f32) (ix3 (seqOf (rowAt t r)) 0 k) := by
  have h := grid_lt t
  have := r.isLt
  have e : seqOf (rowAt t r) = ⟨(grid0.coords t 0).val / 16, by omega⟩ := Fin.ext (by
    show ((grid0.coords t 0).val * 512 + r.val) / 8192 = (grid0.coords t 0).val / 16; omega)
  rw [← V_main_arg1 m c, e]
  blk_ext [iblk, (wins t).2.1]

theorem blk_g (k : Fin 1024) : (iblk m c 2 t : Vec Ideal S1x1024 .f32) (ix2 0 k)
    = (m ((c : Thread nD τ).loc main_arg2) : Vec Ideal S1x1024 .f32) (ix2 0 k) := by
  have e : (iblk m c 2 t : Vec Ideal S1x1024 .f32) (ix2 0 k) = (V m c main_v4 : Vec Ideal S1x1024 .f32) (ix2 0 k) := by
    blk_ext [iblk, (wins t).2.2.1]
  rw [e, V_g]
  pointwise

theorem blk_w (k : Fin 1024) (n : Fin 1792) : (iblk m c 3 t : Vec Ideal S1024x1792 .bf16) (ix2 k n)
    = (m ((c : Thread nD τ).loc main_arg3) : Vec Ideal S1x1024x5376 .f32) (ix3 0 k ⟨1536 + n.val, by have := n.isLt; omega⟩) := by
  have := n.isLt
  refine Eq.trans ?_ (cast_cols (m ((c : Thread nD τ).loc main_arg3)) k ⟨1536 + n.val, by omega⟩)
  have e : (iblk m c 3 t : Vec Ideal S1024x1792 .bf16) (ix2 k n) = (V m c main_v5 : Vec Ideal S1024x1792 .bf16) (ix2 k n) := by
    blk_ext [iblk, (wins t).2.2.2.1]
  rw [e, V_w]
  generalize shapeCast S1024x5376 _ _ = y
  pointwise

theorem pay (v0 : Vec Ideal S512x1024 .f32) (v2 : Vec Ideal S1x1024 .f32) (v4 : Vec Ideal S1x1x6144 .f32) (v27 : Vec Ideal S1024x1792 .bf16)
    (r : Fin 512) (n : Fin 1792) :
    k0_pay1 v0 v2 v4 v27 (ix2 r n) = ∑ k : Fin 1024, blockIn v0 v2 v4 (ix2 r k) * v27 (ix2 k n) := by
  have e : k0_pay1 v0 v2 v4 v27 = matmul dot_S512x1024_S1024x1792_S512x1792_1_0_0_1_n_n none (truncf .bf16 (blockIn v0 v2 v4) bitsLt_bf16_f32)
      (shapeCast S1024x1792 v27 shapeCasts_S1024x1792_S1024x1792) (constant S512x1792 .f32 0x00000000#32) := rfl
  rw [e]
  generalize blockIn v0 v2 v4 = y
  pointwise

theorem out_eq (x0 : Vec Ideal S512x1024 .f32) (x1 : Vec Ideal S1x1x6144 .f32) (x2 : Vec Ideal S1x1024 .f32) (x3 : Vec Ideal S1024x1792 .bf16) :
    out0_4 x0 x1 x2 x3 = k0_pay1 x0 x2 x1 x3 := by
  frame_out [out0_4]

/-- What a point computes. -/
theorem point (r : Fin 512) (n : Fin 1792) :
    k0_pay1 (F := Ideal) (iblk m c 0 t) (iblk m c 2 t) (iblk m c 1 t) (iblk m c 3 t) (ix2 r n)
      = inCol (m ((c : Thread nD τ).loc main_arg0)) (m ((c : Thread nD τ).loc main_arg1)) (m ((c : Thread nD τ).loc main_arg2))
          (m ((c : Thread nD τ).loc main_arg3)) (seqOf (rowAt t r)) (posOf (rowAt t r)) ⟨1536 + n.val, by have := n.isLt; omega⟩ := by
  rw [pay]
  unfold inCol
  refine Finset.sum_congr rfl fun k _ => ?_
  rw [blockIn_apply, blk_w m c t]
  simp only [blk_x m c t, blk_mod m c t r, blk_g m c t]

/-- **The array after the run.** -/
theorem array : (dats m 0 c).arrAt 4 cfg0.N = fun j : S32768x1792.Idx =>
      inCol (m ((c : Thread nD τ).loc main_arg0)) (m ((c : Thread nD τ).loc main_arg1)) (m ((c : Thread nD τ).loc main_arg2))
        (m ((c : Thread nD τ).loc main_arg3)) (seqOf (j 0)) (posOf (j 0)) ⟨1536 + (j 1).val, by have : (j 1).val < 1792 := (j 1).isLt; omega⟩ := by
  refine (dats m 0 c).arrAt_eq_of_covers 4 _ (by decide +kernel) fun t hf y => ?_
  have h := grid_lt t
  blk_simp [(wins t).2.2.2.2]
  rw [after0_4]
  obtain ⟨r, n, rfl⟩ : ∃ (r : Fin 512) (n : Fin 1792), y = ix2 r n := ⟨y 0, y 1, by
    funext a; fin_cases a <;> rfl⟩
  have er : (win0_4.blk t).view.emb (ix2 r n) 0 = rowAt t r := by
    apply Fin.ext
    blk_simp [(wins t).2.2.2.2]
    rfl
  rw [er, out_eq]
  exact (point m c t r n).trans (congrArg (inCol _ _ _ _ _ _) (Fin.ext (by show 1536 + n.val = 1536 + n.val; omega)))

end

/-- The reference's result at a row and a column. -/
theorem ref_apply (x : Vec Ideal Cert.Reference3Ideal.S4x8192x1024 .f32) (mod : Vec Ideal Cert.Reference3Ideal.S4x1x6144 .f32)
    (g : Vec Ideal Cert.Reference3Ideal.S1x1024 .f32) (w : Vec Ideal Cert.Reference3Ideal.S1x1024x5376 .f32) (row : Fin 32768) (n : Fin 1792) :
    Cert.Reference3Ideal.Read.val_main_v29 (F := Ideal) x mod g w (ix2 row n) = inCol x mod g w (seqOf row) (posOf row) ⟨1536 + n.val, by have := n.isLt; omega⟩ := by
  have := row.isLt; have := n.isLt
  rw [Cert.Reference3Ideal.Read.val_main_v29_apply, Cert.Reference3Ideal.Read.val_main_v28_apply, show Cert.Reference3Ideal.Read.val_main_v27 (F := Ideal) x mod g w = Cert.Reference2Ideal.Read.val_main_v27 (F := Ideal) x mod g w from rfl, ← host_product]
  refine congrArg (Cert.Reference2Ideal.Read.val_main_v27 (F := Ideal) x mod g w) ?_
  funext a; fin_cases a <;> apply Fin.ext
  · show (row.val * 1792 + n.val) / 14680064 = row.val / 8192; omega
  · show (row.val * 1792 + n.val) / 1792 % 8192 = row.val % 8192; omega
  · show 1536 + (row.val * 1792 + n.val) % 1792 = 1536 + n.val; omega

/-- **The kernel's array is the reference's result.** -/
theorem algebraic : Cert.algebraic_Kernel3Ideal_Reference3Ideal (hKernel3Ideal := Cert.Kernel3Ideal.Gen.facts)
    (hReference3Ideal := Cert.Reference3Ideal.Gen.facts) := by
  pair_intro
  · run_from (Cert.Kernel3Ideal.Value.run_blocks (F := Ideal) m g)
  · refine θ_run_mono (Cert.Reference3Ideal.Value.run (F := Ideal) m' g') ?_
    intro r hr c
    refine ⟨(hr c).1.trans ?_, (hr c).2⟩
    rw [Cert.Reference3Ideal.Read.val_main_v29_eq, (hagree c).1, (hagree c).2.1, (hagree c).2.2.1, (hagree c).2.2.2]
    refine Eq.trans ?_ (array m c).symm
    funext j
    obtain ⟨row, n, rfl⟩ : ∃ (row : Fin 32768) (n : Fin 1792), j = ix2 row n := ⟨j 0, j 1, by funext a; fin_cases a <;> rfl⟩
    exact ref_apply _ _ _ _ row n

theorem frame_reference : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

end Cert.Layer.Cols3
-- ==== Proof.InProj4.lean ====
/-
  The third group of columns of the input projection: the array that the call leaves is the reference's result.
-/
module

public import proofs.«01_k».proof.Proof.Norm
public import proofs.«01_k».proof.Defs
public import proofs.«01_k».proof.Proof.Gen.Kernel4Ideal.Value
public import proofs.«01_k».proof.Proof.Gen.Reference4Ideal.Read
public import Idealize.ShloMosaic.Lib.Quiescent

@[expose] public section
noncomputable section
namespace Cert.Layer.Cols4
open Idealize.ShloMosaic Idealize.ShloMosaic.TcCoe Idealize.SL.Sem Idealize.ShloMosaic.Pointwise

section
open Cert.Kernel4Ideal Cert.Kernel4Ideal.Gen

/-- The windows' block indices at a point. -/
theorem wins : ∀ (t : Fin cfg0.N),
    win0_0.index t = ![(grid0.coords t 0).val, 0]
    ∧ win0_1.index t = ![(grid0.coords t 0).val / 16, 0, 0]
    ∧ win0_2.index t = ![0, 0]
    ∧ win0_3.index t = ![0, 0]
    ∧ win0_4.index t = ![(grid0.coords t 0).val, 0] :=
  (by decide +kernel : ∀ t : Fin grid0.N, _)

variable (m : (ℓ : Loc nD τ sig) → Buf (Elt Ideal) ℓ) (c : Dev nD) (t : Fin cfg0.N)

theorem V_x : V m c main_v0 = shapeCast S32768x1024 (m ((c : Thread nD τ).loc main_arg0) : Vec Ideal S4x8192x1024 .f32) shapeCasts_S4x8192x1024_S32768x1024 := by
  show StableHlo.after _ _ _ = _
  simp only [hostOps0, List.flatten_cons, List.flatten_nil, List.append_nil, List.cons_append, List.nil_append]
  after_results
  rfl

theorem V_g : V m c main_v4 = shapeCast S1x1024 (shapeCast S1024 (m ((c : Thread nD τ).loc main_arg2) : Vec Ideal S1x1024 .f32) shapeCasts_S1x1024_S1024) shapeCasts_S1024_S1x1024 := by
  show StableHlo.after _ _ _ = _
  simp only [hostOps0, List.flatten_cons, List.flatten_nil, List.append_nil, List.cons_append, List.nil_append]
  after_results
  rfl

theorem V_w : V m c main_v5 = extractStridedSlice S1024x2048 ![0, 3328]
    (truncf (F := Ideal) .bf16 (shapeCast S1024x5376 (m ((c : Thread nD τ).loc main_arg3) : Vec Ideal S1x1024x5376 .f32) shapeCasts_S1x1024x5376_S1024x5376) bitsLt_bf16_f32)
    slices_S1024x5376_S1024x2048_0_3328 := by
  show StableHlo.after _ _ _ = _
  simp only [hostOps0, List.flatten_cons, List.flatten_nil, List.append_nil, List.cons_append, List.nil_append]
  after_results
  rfl

theorem grid_lt : (grid0.coords t 0).val < 64 := (grid0.coords t 0).isLt

/-- A row of the point's block, among all the rows. -/
def rowAt (r : Fin 512) : Fin 32768 := ⟨(grid0.coords t 0).val * 512 + r.val, by have := grid_lt t; have := r.isLt; omega⟩

theorem blk_x (r : Fin 512) (k : Fin 1024) : (iblk m c 0 t : Vec Ideal S512x1024 .f32) (ix2 r k)
    = (m ((c : Thread nD τ).loc main_arg0) : Vec Ideal S4x8192x1024 .f32) (ix3 (seqOf (rowAt t r)) (posOf (rowAt t r)) k) := by
  refine Eq.trans ?_ (cast_rows (m ((c : Thread nD τ).loc main_arg0)) (rowAt t r) k)
  rw [← V_x m c]
  unfold rowAt
  blk_ext [iblk, (wins t).1]

theorem blk_mod (r : Fin 512) (k : Fin 6144) : (iblk m c 1 t : Vec Ideal S1x1x6144 .f32) (ix3 0 0 k)
    = (m ((c : Thread nD τ).loc main_arg1) : Vec Ideal S4x1x6144 .f32) (ix3 (seqOf (rowAt t r)) 0 k) := by
  have h := grid_lt t
  have := r.isLt
  have e : seqOf (rowAt t r) = ⟨(grid0.coords t 0).val / 16, by omega⟩ := Fin.ext (by
    show ((grid0.coords t 0).val * 512 + r.val) / 8192 = (grid0.coords t 0).val / 16; omega)
  rw [← V_main_arg1 m c, e]
  blk_ext [iblk, (wins t).2.1]

theorem blk_g (k : Fin 1024) : (iblk m c 2 t : Vec Ideal S1x1024 .f32) (ix2 0 k)
    = (m ((c : Thread nD τ).loc main_arg2) : Vec Ideal S1x1024 .f32) (ix2 0 k) := by
  have e : (iblk m c 2 t : Vec Ideal S1x1024 .f32) (ix2 0 k) = (V m c main_v4 : Vec Ideal S1x1024 .f32) (ix2 0 k) := by
    blk_ext [iblk, (wins t).2.2.1]
  rw [e, V_g]
  pointwise

theorem blk_w (k : Fin 1024) (n : Fin 2048) : (iblk m c 3 t : Vec Ideal S1024x2048 .bf16) (ix2 k n)
    = (m ((c : Thread nD τ).loc main_arg3) : Vec Ideal S1x1024x5376 .f32) (ix3 0 k ⟨3328 + n.val, by have := n.isLt; omega⟩) := by
  have := n.isLt
  refine Eq.trans ?_ (cast_cols (m ((c : Thread nD τ).loc main_arg3)) k ⟨3328 + n.val, by omega⟩)
  have e : (iblk m c 3 t : Vec Ideal S1024x2048 .bf16) (ix2 k n) = (V m c main_v5 : Vec Ideal S1024x2048 .bf16) (ix2 k n) := by
    blk_ext [iblk, (wins t).2.2.2.1]
  rw [e, V_w]
  generalize shapeCast S1024x5376 _ _ = y
  pointwise

theorem pay (v0 : Vec Ideal S512x1024 .f32) (v2 : Vec Ideal S1x1024 .f32) (v4 : Vec Ideal S1x1x6144 .f32) (v27 : Vec Ideal S1024x2048 .bf16)
    (r : Fin 512) (n : Fin 2048) :
    k0_pay1 v0 v2 v4 v27 (ix2 r n) = ∑ k : Fin 1024, blockIn v0 v2 v4 (ix2 r k) * v27 (ix2 k n) := by
  have e : k0_pay1 v0 v2 v4 v27 = matmul dot_S512x1024_S1024x2048_S512x2048_1_0_0_1_n_n none (truncf .bf16 (blockIn v0 v2 v4) bitsLt_bf16_f32)
      (shapeCast S1024x2048 v27 shapeCasts_S1024x2048_S1024x2048) (constant S512x2048 .f32 0x00000000#32) := rfl
  rw [e]
  generalize blockIn v0 v2 v4 = y
  pointwise

theorem out_eq (x0 : Vec Ideal S512x1024 .f32) (x1 : Vec Ideal S1x1x6144 .f32) (x2 : Vec Ideal S1x1024 .f32) (x3 : Vec Ideal S1024x2048 .bf16) :
    out0_4 x0 x1 x2 x3 = k0_pay1 x0 x2 x1 x3 := by
  frame_out [out0_4]

/-- What a point computes. -/
theorem point (r : Fin 512) (n : Fin 2048) :
    k0_pay1 (F := Ideal) (iblk m c 0 t) (iblk m c 2 t) (iblk m c 1 t) (iblk m c 3 t) (ix2 r n)
      = inCol (m ((c : Thread nD τ).loc main_arg0)) (m ((c : Thread nD τ).loc main_arg1)) (m ((c : Thread nD τ).loc main_arg2))
          (m ((c : Thread nD τ).loc main_arg3)) (seqOf (rowAt t r)) (posOf (rowAt t r)) ⟨3328 + n.val, by have := n.isLt; omega⟩ := by
  rw [pay]
  unfold inCol
  refine Finset.sum_congr rfl fun k _ => ?_
  rw [blockIn_apply, blk_w m c t]
  simp only [blk_x m c t, blk_mod m c t r, blk_g m c t]

/-- **The array after the run.** -/
theorem array : (dats m 0 c).arrAt 4 cfg0.N = fun j : S32768x2048.Idx =>
      inCol (m ((c : Thread nD τ).loc main_arg0)) (m ((c : Thread nD τ).loc main_arg1)) (m ((c : Thread nD τ).loc main_arg2))
        (m ((c : Thread nD τ).loc main_arg3)) (seqOf (j 0)) (posOf (j 0)) ⟨3328 + (j 1).val, by have : (j 1).val < 2048 := (j 1).isLt; omega⟩ := by
  refine (dats m 0 c).arrAt_eq_of_covers 4 _ (by decide +kernel) fun t hf y => ?_
  have h := grid_lt t
  blk_simp [(wins t).2.2.2.2]
  rw [after0_4]
  obtain ⟨r, n, rfl⟩ : ∃ (r : Fin 512) (n : Fin 2048), y = ix2 r n := ⟨y 0, y 1, by
    funext a; fin_cases a <;> rfl⟩
  have er : (win0_4.blk t).view.emb (ix2 r n) 0 = rowAt t r := by
    apply Fin.ext
    blk_simp [(wins t).2.2.2.2]
    rfl
  rw [er, out_eq]
  exact (point m c t r n).trans (congrArg (inCol _ _ _ _ _ _) (Fin.ext (by show 3328 + n.val = 3328 + n.val; omega)))

end

/-- The reference's result at a row and a column. -/
theorem ref_apply (x : Vec Ideal Cert.Reference4Ideal.S4x8192x1024 .f32) (mod : Vec Ideal Cert.Reference4Ideal.S4x1x6144 .f32)
    (g : Vec Ideal Cert.Reference4Ideal.S1x1024 .f32) (w : Vec Ideal Cert.Reference4Ideal.S1x1024x5376 .f32) (row : Fin 32768) (n : Fin 2048) :
    Cert.Reference4Ideal.Read.val_main_v29 (F := Ideal) x mod g w (ix2 row n) = inCol x mod g w (seqOf row) (posOf row) ⟨3328 + n.val, by have := n.isLt; omega⟩ := by
  have := row.isLt; have := n.isLt
  rw [Cert.Reference4Ideal.Read.val_main_v29_apply, Cert.Reference4Ideal.Read.val_main_v28_apply, show Cert.Reference4Ideal.Read.val_main_v27 (F := Ideal) x mod g w = Cert.Reference2Ideal.Read.val_main_v27 (F := Ideal) x mod g w from rfl, ← host_product]
  refine congrArg (Cert.Reference2Ideal.Read.val_main_v27 (F := Ideal) x mod g w) ?_
  funext a; fin_cases a <;> apply Fin.ext
  · show (row.val * 2048 + n.val) / 16777216 = row.val / 8192; omega
  · show (row.val * 2048 + n.val) / 2048 % 8192 = row.val % 8192; omega
  · show 3328 + (row.val * 2048 + n.val) % 2048 = 3328 + n.val; omega

/-- **The kernel's array is the reference's result.** -/
theorem algebraic : Cert.algebraic_Kernel4Ideal_Reference4Ideal (hKernel4Ideal := Cert.Kernel4Ideal.Gen.facts)
    (hReference4Ideal := Cert.Reference4Ideal.Gen.facts) := by
  pair_intro
  · run_from (Cert.Kernel4Ideal.Value.run_blocks (F := Ideal) m g)
  · refine θ_run_mono (Cert.Reference4Ideal.Value.run (F := Ideal) m' g') ?_
    intro r hr c
    refine ⟨(hr c).1.trans ?_, (hr c).2⟩
    rw [Cert.Reference4Ideal.Read.val_main_v29_eq, (hagree c).1, (hagree c).2.1, (hagree c).2.2.1, (hagree c).2.2.2]
    refine Eq.trans ?_ (array m c).symm
    funext j
    obtain ⟨row, n, rfl⟩ : ∃ (row : Fin 32768) (n : Fin 2048), j = ix2 row n := ⟨j 0, j 1, by funext a; fin_cases a <;> rfl⟩
    exact ref_apply _ _ _ _ row n

theorem frame_reference : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

end Cert.Layer.Cols4
-- ==== Proof.Merge.lean ====
/-
  The merge of the two mixers' outputs, the second norm and the experts' query: the arrays that the call leaves are the
  reference's results.
-/
module

public import proofs.«01_k».proof.Proof.Norm
public import proofs.«01_k».proof.Defs
public import proofs.«01_k».proof.Proof.Gen.Kernel5Ideal.Frame
public import proofs.«01_k».proof.Proof.Gen.Reference5Ideal.Run
public import proofs.«01_k».proof.Proof.Gen.Reference5Ideal.Read
public import Idealize.ShloMosaic.Lib.Quiescent

@[expose] public section
noncomputable section
namespace Cert.Layer.Merge
open Idealize.ShloMosaic Idealize.ShloMosaic.TcCoe Idealize.SL.Sem Idealize.ShloMosaic.Pointwise

/-- The gate's sigmoid. -/
def gate (x : EReal) : EReal := Ideal.div (Ideal.ofBits .f32 0x3F800000#32) (Ideal.ofBits .f32 0x3F800000#32 + Ideal.exp (-x))

/-- The mixers' projected outputs of a row, each under its gate, summed. -/
def mixAt (om orw : Fin 512 → EReal) (gl : Fin 2048 → EReal) (wm wr : Fin 512 → Fin 1024 → EReal) (d : Fin 1024) : EReal :=
  gate (gl ⟨d.val, by have := d.isLt; omega⟩) * (∑ k : Fin 512, om k * wm k d)
    + gate (gl ⟨1024 + d.val, by have := d.isLt; omega⟩) * (∑ k : Fin 512, orw k * wr k d)

/-- The residual row. -/
def resAt (x gm mix : Fin 1024 → EReal) (wo : Fin 1024 → Fin 1024 → EReal) (d : Fin 1024) : EReal :=
  x d + gm d * (∑ k : Fin 1024, mix k * wo k d)

/-- The call's arguments. -/
structure Args where
  x : Vec Ideal Cert.Kernel5Ideal.S4x8192x1024 .f32
  om : Vec Ideal Cert.Kernel5Ideal.S4x8192x512 .bf16
  orw : Vec Ideal Cert.Kernel5Ideal.S32768x512 .bf16
  gl : Vec Ideal Cert.Kernel5Ideal.S32768x2048 .f32
  mod : Vec Ideal Cert.Kernel5Ideal.S4x1x6144 .f32
  g : Vec Ideal Cert.Kernel5Ideal.S1x1024 .f32
  wm : Vec Ideal Cert.Kernel5Ideal.S1x512x1024 .f32
  wr : Vec Ideal Cert.Kernel5Ideal.S1x512x1024 .f32
  wo : Vec Ideal Cert.Kernel5Ideal.S1x1024x1024 .f32
  wq : Vec Ideal Cert.Kernel5Ideal.S1x1024x2048 .f32

/-- The mixed row. -/
def Args.mix (A : Args) (row : Fin 32768) : Fin 1024 → EReal :=
  mixAt (fun k => A.om (ix3 (seqOf row) (posOf row) k)) (fun k => A.orw (ix2 row k)) (fun k => A.gl (ix2 row k))
    (fun k d => A.wm (ix3 0 k d)) (fun k d => A.wr (ix3 0 k d))

/-- The residual row after the mixers. -/
def Args.res (A : Args) (row : Fin 32768) : Fin 1024 → EReal :=
  resAt (fun k => A.x (ix3 (seqOf row) (posOf row) k)) (fun k => A.mod (ix3 (seqOf row) 0 ⟨2048 + k.val, by have := k.isLt; omega⟩))
    (A.mix row) (fun k d => A.wo (ix3 0 k d))

/-- The second norm's row. -/
def Args.norm (A : Args) (row : Fin 32768) : Fin 1024 → EReal :=
  normAt (A.res row) (fun k => A.g (ix2 0 k)) (fun k => A.mod (ix3 (seqOf row) 0 ⟨4096 + k.val, by have := k.isLt; omega⟩))
    (fun k => A.mod (ix3 (seqOf row) 0 ⟨3072 + k.val, by have := k.isLt; omega⟩))

/-- The query's row. -/
def Args.query (A : Args) (row : Fin 32768) (n : Fin 2048) : EReal := ∑ k : Fin 1024, A.norm row k * A.wq (ix3 0 k n)

section
open Cert.Kernel5Ideal Cert.Kernel5Ideal.Gen

theorem gate_word (x : EReal) : Ideal.div (Ideal.ofBits .f32 0x3F800000#32)
    (Ideal.ofBits .f32 0x3F800000#32 + Ideal.exp (Ideal.ofBits .f32 0x00000000#32 - x)) = gate x := by
  simp [gate, Ideal.ofBits_zero]

theorem pay_mix (v2 : Vec Ideal S512x512 .bf16) (v4 : Vec Ideal S512x1024 .bf16) (v7 : Vec Ideal S512x512 .bf16) (v8 : Vec Ideal S512x1024 .bf16)
    (v11 : Vec Ideal S512x2048 .f32) (r : Fin 512) (d : Fin 1024) :
    k0_pay5 v2 v4 v7 v8 v11 (ix2 r d) = mixAt (fun k => v2 (ix2 r k)) (fun k => v7 (ix2 r k)) (fun k => v11 (ix2 r k))
      (fun k d => v4 (ix2 k d)) (fun k d => v8 (ix2 k d)) d := by
  unfold mixAt
  simp only [← gate_word]
  pointwise [k0_pay5]

theorem pay_res (v30 v32 : FVec Ideal S512x1024 .f32) (v33 : FVec Ideal S1x1024 .f32) (v34 : Vec Ideal S1024x1024 .bf16) (r : Fin 512) (d : Fin 1024) :
    k0_pay1 v30 v32 v33 v34 (ix2 r d) = resAt (fun k => v32 (ix2 r k)) (fun k => v33 (ix2 0 k)) (fun k => v30 (ix2 r k)) (fun k d => v34 (ix2 k d)) d := by
  pointwise [k0_pay1, resAt]

theorem pay_norm (v1 : FVec Ideal S1x6144 .f32) (v30 v32 : FVec Ideal S512x1024 .f32) (v33 : FVec Ideal S1x1024 .f32) (v34 : Vec Ideal S1024x1024 .bf16)
    (v42 : Vec Ideal S1x1024 .f32) (r : Fin 512) (d : Fin 1024) :
    k0_pay2 v1 v30 v32 v33 v34 v42 (ix2 r d) = normAt (fun k => k0_pay1 v30 v32 v33 v34 (ix2 r k)) (fun k => v42 (ix2 0 k))
      (fun k => v1 (ix2 0 ⟨4096 + k.val, by have := k.isLt; omega⟩)) (fun k => v1 (ix2 0 ⟨3072 + k.val, by have := k.isLt; omega⟩)) d := by
  have e : k0_pay2 v1 v30 v32 v33 v34 v42 = blockNorm (k0_pay1 v30 v32 v33 v34) (shapeCast S1x1024 v42 shapeCasts_S1x1024_S1x1024)
      (extractStridedSlice S1x1024 ![0, 4096] v1 slices_S1x6144_o0_4096_S1x1024) (extractStridedSlice S1x1024 ![0, 3072] v1 slices_S1x6144_o0_3072_S1x1024) := rfl
  rw [e, blockNorm_apply]
  congr 1
  · funext k; pointwise
  · funext k; pointwise
  · funext k; pointwise

theorem pay_query (v1 : FVec Ideal S1x6144 .f32) (v30 v32 : FVec Ideal S512x1024 .f32) (v33 : FVec Ideal S1x1024 .f32) (v34 : Vec Ideal S1024x1024 .bf16)
    (v42 : Vec Ideal S1x1024 .f32) (v65 : Vec Ideal S1024x2048 .bf16) (r : Fin 512) (n : Fin 2048) :
    k0_pay3 v1 v30 v32 v33 v34 v42 v65 (ix2 r n) = ∑ k : Fin 1024, k0_pay2 v1 v30 v32 v33 v34 v42 (ix2 r k) * v65 (ix2 k n) := by
  unfold k0_pay3
  generalize k0_pay2 v1 v30 v32 v33 v34 v42 = y
  pointwise

/-- The windows' block indices at a point. -/
theorem wins : ∀ (t : Fin cfg0.N),
    (win0_0.index t = ![(grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val / 16, 0, 0])
    ∧ (win0_5.index t = ![0, 0] ∧ win0_6.index t = ![0, 0] ∧ win0_7.index t = ![0, 0] ∧ win0_8.index t = ![0, 0] ∧ win0_9.index t = ![0, 0])
    ∧ (win0_10.index t = ![(grid0.coords t 0).val, 0]
    ∧ win0_11.index t = ![(grid0.coords t 0).val, 0]
    ∧ win0_12.index t = ![(grid0.coords t 0).val, 0]) :=
  (by decide +kernel : ∀ t : Fin grid0.N, _)

variable (m : (ℓ : Loc nD τ sig) → Buf (Elt Ideal) ℓ) (c : Dev nD) (t : Fin cfg0.N)

/-- The arguments that a run starts from. -/
def args : Args where
  x := m ((c : Thread nD τ).loc main_arg0)
  om := m ((c : Thread nD τ).loc main_arg1)
  orw := m ((c : Thread nD τ).loc main_arg2)
  gl := m ((c : Thread nD τ).loc main_arg3)
  mod := m ((c : Thread nD τ).loc main_arg4)
  g := m ((c : Thread nD τ).loc main_arg5)
  wm := m ((c : Thread nD τ).loc main_arg6)
  wr := m ((c : Thread nD τ).loc main_arg7)
  wo := m ((c : Thread nD τ).loc main_arg8)
  wq := m ((c : Thread nD τ).loc main_arg9)

theorem V_x : V m c main_v0 = shapeCast S32768x1024 (args m c).x shapeCasts_S4x8192x1024_S32768x1024 := by
  show StableHlo.after _ _ _ = _
  simp only [hostOps0, List.flatten_cons, List.flatten_nil, List.append_nil, List.cons_append, List.nil_append]
  after_results
  rfl

theorem V_om : V m c main_v1 = shapeCast S32768x512 (args m c).om shapeCasts_S4x8192x512_S32768x512 := by
  show StableHlo.after _ _ _ = _
  simp only [hostOps0, List.flatten_cons, List.flatten_nil, List.append_nil, List.cons_append, List.nil_append]
  after_results
  rfl

theorem V_g : V m c main_v3 = shapeCast S1x1024 (shapeCast S1024 (args m c).g shapeCasts_S1x1024_S1024) shapeCasts_S1024_S1x1024 := by
  show StableHlo.after _ _ _ = _
  simp only [hostOps0, List.flatten_cons, List.flatten_nil, List.append_nil, List.cons_append, List.nil_append]
  after_results
  rfl

theorem V_wm : V m c main_v5 = truncf (F := Ideal) .bf16 (shapeCast S512x1024 (args m c).wm shapeCasts_S1x512x1024_S512x1024) bitsLt_bf16_f32 := by
  show StableHlo.after _ _ _ = _
  simp only [hostOps0, List.flatten_cons, List.flatten_nil, List.append_nil, List.cons_append, List.nil_append]
  after_results
  rfl

theorem V_wr : V m c main_v7 = truncf (F := Ideal) .bf16 (shapeCast S512x1024 (args m c).wr shapeCasts_S1x512x1024_S512x1024) bitsLt_bf16_f32 := by
  show StableHlo.after _ _ _ = _
  simp only [hostOps0, List.flatten_cons, List.flatten_nil, List.append_nil, List.cons_append, List.nil_append]
  after_results
  rfl

theorem V_wo : V m c main_v9 = truncf (F := Ideal) .bf16 (shapeCast S1024x1024 (args m c).wo shapeCasts_S1x1024x1024_S1024x1024) bitsLt_bf16_f32 := by
  show StableHlo.after _ _ _ = _
  simp only [hostOps0, List.flatten_cons, List.flatten_nil, List.append_nil, List.cons_append, List.nil_append]
  after_results
  rfl

theorem V_wq : V m c main_v11 = truncf (F := Ideal) .bf16 (shapeCast S1024x2048 (args m c).wq shapeCasts_S1x1024x2048_S1024x2048) bitsLt_bf16_f32 := by
  show StableHlo.after _ _ _ = _
  simp only [hostOps0, List.flatten_cons, List.flatten_nil, List.append_nil, List.cons_append, List.nil_append]
  after_results
  rfl

theorem grid_lt : (grid0.coords t 0).val < 64 := (grid0.coords t 0).isLt

/-- A row of the point's block, among all the rows. -/
def rowAt (r : Fin 512) : Fin 32768 := ⟨(grid0.coords t 0).val * 512 + r.val, by have := grid_lt t; have := r.isLt; omega⟩

theorem cast_half (x : Vec Ideal S4x8192x512 .bf16) (row : Fin 32768) (k : Fin 512) :
    shapeCast S32768x512 x shapeCasts_S4x8192x512_S32768x512 (ix2 row k) = x (ix3 (seqOf row) (posOf row) k) := by
  have := row.isLt; have := k.isLt
  pointwise
  rfl

theorem blk_x (r : Fin 512) (k : Fin 1024) : (iblk m c 0 t : Vec Ideal S512x1024 .f32) (ix2 r k)
    = (args m c).x (ix3 (seqOf (rowAt t r)) (posOf (rowAt t r)) k) := by
  refine Eq.trans ?_ (cast_rows (args m c).x (rowAt t r) k)
  rw [← V_x m c]
  unfold rowAt
  blk_ext [iblk, (wins t).1.1]

theorem blk_om (r : Fin 512) (k : Fin 512) : (iblk m c 1 t : Vec Ideal S512x512 .bf16) (ix2 r k)
    = (args m c).om (ix3 (seqOf (rowAt t r)) (posOf (rowAt t r)) k) := by
  refine Eq.trans ?_ (cast_half (args m c).om (rowAt t r) k)
  rw [← V_om m c]
  unfold rowAt
  blk_ext [iblk, (wins t).1.2.1]

theorem blk_orw (r : Fin 512) (k : Fin 512) : (iblk m c 2 t : Vec Ideal S512x512 .bf16) (ix2 r k) = (args m c).orw (ix2 (rowAt t r) k) := by
  show _ = (m ((c : Thread nD τ).loc main_arg2) : Vec Ideal S32768x512 .bf16) (ix2 (rowAt t r) k)
  rw [← V_main_arg2 m c]
  unfold rowAt
  blk_ext [iblk, (wins t).1.2.2.1]

theorem blk_gl (r : Fin 512) (k : Fin 2048) : (iblk m c 3 t : Vec Ideal S512x2048 .f32) (ix2 r k) = (args m c).gl (ix2 (rowAt t r) k) := by
  show _ = (m ((c : Thread nD τ).loc main_arg3) : Vec Ideal S32768x2048 .f32) (ix2 (rowAt t r) k)
  rw [← V_main_arg3 m c]
  unfold rowAt
  blk_ext [iblk, (wins t).1.2.2.2.1]

theorem blk_mod (r : Fin 512) (k : Fin 6144) : (iblk m c 4 t : Vec Ideal S1x1x6144 .f32) (ix3 0 0 k)
    = (args m c).mod (ix3 (seqOf (rowAt t r)) 0 k) := by
  have h := grid_lt t
  have := r.isLt
  have e : seqOf (rowAt t r) = ⟨(grid0.coords t 0).val / 16, by omega⟩ := Fin.ext (by
    show ((grid0.coords t 0).val * 512 + r.val) / 8192 = (grid0.coords t 0).val / 16; omega)
  show _ = (m ((c : Thread nD τ).loc main_arg4) : Vec Ideal S4x1x6144 .f32) (ix3 (seqOf (rowAt t r)) 0 k)
  rw [← V_main_arg4 m c, e]
  blk_ext [iblk, (wins t).1.2.2.2.2]

theorem blk_g (k : Fin 1024) : (iblk m c 5 t : Vec Ideal S1x1024 .f32) (ix2 0 k) = (args m c).g (ix2 0 k) := by
  have e : (iblk m c 5 t : Vec Ideal S1x1024 .f32) (ix2 0 k) = (V m c main_v3 : Vec Ideal S1x1024 .f32) (ix2 0 k) := by
    blk_ext [iblk, (wins t).2.1.1]
  rw [e, V_g]
  pointwise

theorem blk_wm (k : Fin 512) (d : Fin 1024) : (iblk m c 6 t : Vec Ideal S512x1024 .bf16) (ix2 k d) = (args m c).wm (ix3 0 k d) := by
  have e : (iblk m c 6 t : Vec Ideal S512x1024 .bf16) (ix2 k d) = (V m c main_v5 : Vec Ideal S512x1024 .bf16) (ix2 k d) := by
    blk_ext [iblk, (wins t).2.1.2.1]
  rw [e, V_wm]
  pointwise

theorem blk_wr (k : Fin 512) (d : Fin 1024) : (iblk m c 7 t : Vec Ideal S512x1024 .bf16) (ix2 k d) = (args m c).wr (ix3 0 k d) := by
  have e : (iblk m c 7 t : Vec Ideal S512x1024 .bf16) (ix2 k d) = (V m c main_v7 : Vec Ideal S512x1024 .bf16) (ix2 k d) := by
    blk_ext [iblk, (wins t).2.1.2.2.1]
  rw [e, V_wr]
  pointwise

theorem blk_wo (k : Fin 1024) (d : Fin 1024) : (iblk m c 8 t : Vec Ideal S1024x1024 .bf16) (ix2 k d) = (args m c).wo (ix3 0 k d) := by
  have e : (iblk m c 8 t : Vec Ideal S1024x1024 .bf16) (ix2 k d) = (V m c main_v9 : Vec Ideal S1024x1024 .bf16) (ix2 k d) := by
    blk_ext [iblk, (wins t).2.1.2.2.2.1]
  rw [e, V_wo]
  pointwise

theorem blk_wq (k : Fin 1024) (n : Fin 2048) : (iblk m c 9 t : Vec Ideal S1024x2048 .bf16) (ix2 k n) = (args m c).wq (ix3 0 k n) := by
  have e : (iblk m c 9 t : Vec Ideal S1024x2048 .bf16) (ix2 k n) = (V m c main_v11 : Vec Ideal S1024x2048 .bf16) (ix2 k n) := by
    blk_ext [iblk, (wins t).2.1.2.2.2.2]
  rw [e, V_wq]
  pointwise

/-- The residual rows that a point stores. -/
def bRes (x0 : Vec Ideal S512x1024 .f32) (x1 x2 : Vec Ideal S512x512 .bf16) (x3 : Vec Ideal S512x2048 .f32) (x4 : Vec Ideal S1x1x6144 .f32)
    (x6 x7 : Vec Ideal S512x1024 .bf16) (x8 : Vec Ideal S1024x1024 .bf16) : FVec Ideal S512x1024 .f32 :=
  k0_pay1 (k0_pay5 x1 x6 x2 x7 x3) (k0_pay6 x0) (k0_pay7 x4) x8

/-- The second norm's rows that a point stores. -/
def bNorm (x0 : Vec Ideal S512x1024 .f32) (x1 x2 : Vec Ideal S512x512 .bf16) (x3 : Vec Ideal S512x2048 .f32) (x4 : Vec Ideal S1x1x6144 .f32)
    (x5 : Vec Ideal S1x1024 .f32) (x6 x7 : Vec Ideal S512x1024 .bf16) (x8 : Vec Ideal S1024x1024 .bf16) : FVec Ideal S512x1024 .f32 :=
  k0_pay2 (k0_pay4 x4) (k0_pay5 x1 x6 x2 x7 x3) (k0_pay6 x0) (k0_pay7 x4) x8 x5

/-- The query's rows that a point stores. -/
def bQuery (x0 : Vec Ideal S512x1024 .f32) (x1 x2 : Vec Ideal S512x512 .bf16) (x3 : Vec Ideal S512x2048 .f32) (x4 : Vec Ideal S1x1x6144 .f32)
    (x5 : Vec Ideal S1x1024 .f32) (x6 x7 : Vec Ideal S512x1024 .bf16) (x8 : Vec Ideal S1024x1024 .bf16) (x9 : Vec Ideal S1024x2048 .bf16) :
    FVec Ideal S512x2048 .f32 :=
  k0_pay3 (k0_pay4 x4) (k0_pay5 x1 x6 x2 x7 x3) (k0_pay6 x0) (k0_pay7 x4) x8 x5 x9

theorem out_res (x0 : Vec Ideal S512x1024 .f32) (x1 x2 : Vec Ideal S512x512 .bf16) (x3 : Vec Ideal S512x2048 .f32) (x4 : Vec Ideal S1x1x6144 .f32)
    (x5 : Vec Ideal S1x1024 .f32) (x6 x7 : Vec Ideal S512x1024 .bf16) (x8 : Vec Ideal S1024x1024 .bf16) (x9 : Vec Ideal S1024x2048 .bf16) :
    out0_10 x0 x1 x2 x3 x4 x5 x6 x7 x8 x9 = bRes x0 x1 x2 x3 x4 x6 x7 x8 := by
  unfold bRes
  frame_out [out0_10, k0_pay9, k0_pay10, k0_pay11]

theorem out_norm (x0 : Vec Ideal S512x1024 .f32) (x1 x2 : Vec Ideal S512x512 .bf16) (x3 : Vec Ideal S512x2048 .f32) (x4 : Vec Ideal S1x1x6144 .f32)
    (x5 : Vec Ideal S1x1024 .f32) (x6 x7 : Vec Ideal S512x1024 .bf16) (x8 : Vec Ideal S1024x1024 .bf16) (x9 : Vec Ideal S1024x2048 .bf16) :
    out0_11 x0 x1 x2 x3 x4 x5 x6 x7 x8 x9 = bNorm x0 x1 x2 x3 x4 x5 x6 x7 x8 := by
  unfold bNorm
  frame_out [out0_11, k0_pay8, k0_pay9, k0_pay10, k0_pay11]

theorem out_query (x0 : Vec Ideal S512x1024 .f32) (x1 x2 : Vec Ideal S512x512 .bf16) (x3 : Vec Ideal S512x2048 .f32) (x4 : Vec Ideal S1x1x6144 .f32)
    (x5 : Vec Ideal S1x1024 .f32) (x6 x7 : Vec Ideal S512x1024 .bf16) (x8 : Vec Ideal S1024x1024 .bf16) (x9 : Vec Ideal S1024x2048 .bf16) :
    out0_12 x0 x1 x2 x3 x4 x5 x6 x7 x8 x9 = bQuery x0 x1 x2 x3 x4 x5 x6 x7 x8 x9 := by
  unfold bQuery
  frame_out [out0_12, k0_pay8, k0_pay9, k0_pay10, k0_pay11]

theorem pay_slice (x4 : Vec Ideal S1x1x6144 .f32) (k : Fin 1024) : k0_pay7 x4 (ix2 0 k) = x4 (ix3 0 0 ⟨2048 + k.val, by have := k.isLt; omega⟩) := by
  pointwise [k0_pay7, k0_pay4]

theorem pay_mod (x4 : Vec Ideal S1x1x6144 .f32) (k : Fin 6144) : k0_pay4 x4 (ix2 0 k) = x4 (ix3 0 0 k) := by
  pointwise [k0_pay4]

theorem pay_x (x0 : Vec Ideal S512x1024 .f32) (r : Fin 512) (k : Fin 1024) : k0_pay6 x0 (ix2 r k) = x0 (ix2 r k) := by
  pointwise [k0_pay6]

/-- The residual at a point. -/
theorem point_res (r : Fin 512) (d : Fin 1024) :
    bRes (iblk m c 0 t) (iblk m c 1 t) (iblk m c 2 t) (iblk m c 3 t) (iblk m c 4 t) (iblk m c 6 t) (iblk m c 7 t) (iblk m c 8 t) (ix2 r d)
      = (args m c).res (rowAt t r) d := by
  unfold bRes Args.res Args.mix
  rw [pay_res]
  simp only [pay_x, pay_slice, pay_mix, blk_x m c t, blk_om m c t, blk_orw m c t, blk_gl m c t, blk_mod m c t r, blk_wm m c t, blk_wr m c t, blk_wo m c t]

/-- The second norm at a point. -/
theorem point_norm (r : Fin 512) (d : Fin 1024) :
    bNorm (iblk m c 0 t) (iblk m c 1 t) (iblk m c 2 t) (iblk m c 3 t) (iblk m c 4 t) (iblk m c 5 t) (iblk m c 6 t) (iblk m c 7 t) (iblk m c 8 t) (ix2 r d)
      = (args m c).norm (rowAt t r) d := by
  unfold bNorm Args.norm
  rw [pay_norm]
  congr 1
  · funext k; exact point_res m c t r k
  · funext k; exact blk_g m c t k
  · funext k; rw [pay_mod]; exact blk_mod m c t r _
  · funext k; rw [pay_mod]; exact blk_mod m c t r _

/-- The query at a point. -/
theorem point_query (r : Fin 512) (n : Fin 2048) :
    bQuery (iblk m c 0 t) (iblk m c 1 t) (iblk m c 2 t) (iblk m c 3 t) (iblk m c 4 t) (iblk m c 5 t) (iblk m c 6 t) (iblk m c 7 t) (iblk m c 8 t)
        (iblk m c 9 t) (ix2 r n)
      = (args m c).query (rowAt t r) n := by
  unfold bQuery Args.query
  rw [pay_query]
  refine Finset.sum_congr rfl fun k _ => ?_
  rw [blk_wq m c t]
  exact congrArg (· * _) (point_norm m c t r k)

/-- **The residual's array after the run.** -/
theorem array_res : (dats m 0 c).arrAt 10 cfg0.N = fun j : S32768x1024.Idx => (args m c).res (j 0) (j 1) := by
  refine (dats m 0 c).arrAt_eq_of_covers 10 _ (by decide +kernel) fun t hf y => ?_
  have h := grid_lt t
  blk_simp [(wins t).2.2.1]
  rw [after0_10]
  obtain ⟨r, n, rfl⟩ : ∃ (r : Fin 512) (n : Fin 1024), y = ix2 r n := ⟨y 0, y 1, by
    funext a; fin_cases a <;> rfl⟩
  have er : (win0_10.blk t).view.emb (ix2 r n) 0 = rowAt t r := by
    apply Fin.ext
    blk_simp [(wins t).2.2.1]
    rfl
  have ec : (win0_10.blk t).view.emb (ix2 r n) 1 = n := by
    apply Fin.ext
    blk_simp [(wins t).2.2.1]
  rw [er, out_res]
  exact (point_res m c t r n).trans (congrArg ((args m c).res (rowAt t r)) ec.symm)

/-- **The second norm's array after the run.** -/
theorem array_norm : (dats m 0 c).arrAt 11 cfg0.N = fun j : S32768x1024.Idx => (args m c).norm (j 0) (j 1) := by
  refine (dats m 0 c).arrAt_eq_of_covers 11 _ (by decide +kernel) fun t hf y => ?_
  have h := grid_lt t
  blk_simp [(wins t).2.2.2.1]
  rw [after0_11]
  obtain ⟨r, n, rfl⟩ : ∃ (r : Fin 512) (n : Fin 1024), y = ix2 r n := ⟨y 0, y 1, by
    funext a; fin_cases a <;> rfl⟩
  have er : (win0_11.blk t).view.emb (ix2 r n) 0 = rowAt t r := by
    apply Fin.ext
    blk_simp [(wins t).2.2.2.1]
    rfl
  have ec : (win0_11.blk t).view.emb (ix2 r n) 1 = n := by
    apply Fin.ext
    blk_simp [(wins t).2.2.2.1]
  rw [er, out_norm]
  exact (point_norm m c t r n).trans (congrArg ((args m c).norm (rowAt t r)) ec.symm)

/-- **The query's array after the run.** -/
theorem array_query : (dats m 0 c).arrAt 12 cfg0.N = fun j : S32768x2048.Idx => (args m c).query (j 0) (j 1) := by
  refine (dats m 0 c).arrAt_eq_of_covers 12 _ (by decide +kernel) fun t hf y => ?_
  have h := grid_lt t
  blk_simp [(wins t).2.2.2.2]
  rw [after0_12]
  obtain ⟨r, n, rfl⟩ : ∃ (r : Fin 512) (n : Fin 2048), y = ix2 r n := ⟨y 0, y 1, by
    funext a; fin_cases a <;> rfl⟩
  have er : (win0_12.blk t).view.emb (ix2 r n) 0 = rowAt t r := by
    apply Fin.ext
    blk_simp [(wins t).2.2.2.2]
    rfl
  have ec : (win0_12.blk t).view.emb (ix2 r n) 1 = n := by
    apply Fin.ext
    blk_simp [(wins t).2.2.2.2]
  rw [er, out_query]
  exact (point_query m c t r n).trans (congrArg ((args m c).query (rowAt t r)) ec.symm)

/-- The three arrays after a run, and the arguments as they were. -/
theorem arrays (ρ : Dev nD → PrngReg) : θ_run defs (onTc (τ := τ) (main (F := Ideal))) ⟨m, fun _ => 0, ρ⟩ fun r => ∀ c : Dev nD,
      r.2.mem ((c : Thread nD τ).loc main_v12_0) = (fun j : S32768x1024.Idx => (args m c).res (j 0) (j 1))
      ∧ r.2.mem ((c : Thread nD τ).loc main_v12_1) = (fun j : S32768x1024.Idx => (args m c).norm (j 0) (j 1))
      ∧ r.2.mem ((c : Thread nD τ).loc main_v12_2) = (fun j : S32768x2048.Idx => (args m c).query (j 0) (j 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  refine (θ_run defs _ _).mono (fun r h c => ⟨((h c).1 10).trans (array_res m c), ((h c).1 11).trans (array_norm m c),
      ((h c).1 12).trans (array_query m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m ρ)

end

section
open Cert.Reference5Ideal Cert.Reference5Ideal.Gen Cert.Reference5Ideal.Read

variable (A : Args)

theorem half_rows (x : Vec Ideal S32768x512 .bf16) (row : Fin 32768) (k : Fin 512) :
    shapeCast S4x8192x512 x shapeCasts_S32768x512_S4x8192x512 (ix3 (seqOf row) (posOf row) k) = x (ix2 row k) := by
  refine (val_main_v7_apply x _).trans (congrArg x ?_)
  have := row.isLt; have := k.isLt
  funext a; fin_cases a <;> apply Fin.ext
  · show ((row.val / 8192 * 8192 + row.val % 8192) * 512 + k.val) / 512 = row.val; omega
  · show ((row.val / 8192 * 8192 + row.val % 8192) * 512 + k.val) % 512 = k.val; omega

theorem gate_rows (x : Vec Ideal S32768x2048 .f32) (row : Fin 32768) (k : Fin 2048) :
    shapeCast S4x8192x2048 x shapeCasts_S32768x2048_S4x8192x2048 (ix3 (seqOf row) (posOf row) k) = x (ix2 row k) := by
  refine (val_main_v9_apply x _).trans (congrArg x ?_)
  have := row.isLt; have := k.isLt
  funext a; fin_cases a <;> apply Fin.ext
  · show ((row.val / 8192 * 8192 + row.val % 8192) * 2048 + k.val) / 2048 = row.val; omega
  · show ((row.val / 8192 * 8192 + row.val % 8192) * 2048 + k.val) % 2048 = k.val; omega

theorem ref_gate (row : Fin 32768) (k : Fin 2048) :
    val_main_v15 (F := Ideal) A.gl (ix3 (seqOf row) (posOf row) k) = gate (A.gl (ix2 row k)) := by
  exact congrArg gate (gate_rows A.gl row k)

theorem ref_mix (row : Fin 32768) (d : Fin 1024) :
    val_main_v24 (F := Ideal) A.om A.orw A.gl A.wm A.wr (ix3 (seqOf row) (posOf row) d) = A.mix row d := by
  rw [val_main_v24_apply, val_main_v20_apply, val_main_v23_apply, val_main_v16_apply, val_main_v17_apply, val_main_v19_apply, val_main_v22_apply]
  have h0 : idx_main_v16 (ix3 (seqOf row) (posOf row) d) = ix3 (seqOf row) (posOf row) ⟨d.val, by have := d.isLt; omega⟩ := by
    funext a; fin_cases a <;> rfl
  have h1 : idx_main_v17 (ix3 (seqOf row) (posOf row) d) = ix3 (seqOf row) (posOf row) ⟨1024 + d.val, by have := d.isLt; omega⟩ := by
    funext a; fin_cases a <;> rfl
  have hl : ∀ k, lidx_main_v19 (ix3 (seqOf row) (posOf row) d) k = ix3 (seqOf row) (posOf row) k := fun k => by funext a; fin_cases a <;> rfl
  have hr : ∀ k, ridx_main_v19 (ix3 (seqOf row) (posOf row) d) k = ix2 k d := fun k => by funext a; fin_cases a <;> rfl
  have hl' : ∀ k, lidx_main_v22 (ix3 (seqOf row) (posOf row) d) k = ix3 (seqOf row) (posOf row) k := fun k => by funext a; fin_cases a <;> rfl
  have hr' : ∀ k, ridx_main_v22 (ix3 (seqOf row) (posOf row) d) k = ix2 k d := fun k => by funext a; fin_cases a <;> rfl
  have hw : ∀ k, val_main_v18 (F := Ideal) A.wm (ix2 k d) = A.wm (ix3 0 k d) := fun k => by unfold val_main_v18; pointwise
  have hw' : ∀ k, val_main_v21 (F := Ideal) A.wr (ix2 k d) = A.wr (ix3 0 k d) := fun k => by unfold val_main_v21; pointwise
  have ho : ∀ k, val_main_v8 (F := Ideal) A.orw (ix3 (seqOf row) (posOf row) k) = A.orw (ix2 row k) := fun k => half_rows A.orw row k
  have hm : ∀ k, val_main_v6 (F := Ideal) A.om (ix3 (seqOf row) (posOf row) k) = A.om (ix3 (seqOf row) (posOf row) k) := fun k => rfl
  rw [h0, h1, ref_gate, ref_gate]
  simp only [hl, hr, hl', hr', hw, hw', ho, hm]
  rfl

theorem ref_res (row : Fin 32768) (d : Fin 1024) :
    val_main_v29 (F := Ideal) A.x A.om A.orw A.gl A.mod A.wm A.wr A.wo (ix3 (seqOf row) (posOf row) d) = A.res row d := by
  rw [val_main_v29_apply, val_main_v28_apply, val_main_v26_apply]
  have hl : ∀ k, lidx_main_v26 (ix3 (seqOf row) (posOf row) d) k = ix3 (seqOf row) (posOf row) k := fun k => by funext a; fin_cases a <;> rfl
  have hr : ∀ k, ridx_main_v26 (ix3 (seqOf row) (posOf row) d) k = ix2 k d := fun k => by funext a; fin_cases a <;> rfl
  have hw : ∀ k, val_main_v25 (F := Ideal) A.wo (ix2 k d) = A.wo (ix3 0 k d) := fun k => by unfold val_main_v25; pointwise
  have hg : val_main_v27 (F := Ideal) A.mod (ix3 (seqOf row) (posOf row) d)
      = A.mod (ix3 (seqOf row) 0 ⟨2048 + d.val, by have := d.isLt; omega⟩) := by
    rw [val_main_v27_apply, val_main_v2_apply]
    refine congrArg A.mod ?_
    funext a; fin_cases a <;> rfl
  rw [hg]
  simp only [hl, hr, hw, ref_mix]
  rfl

theorem ref_norm (row : Fin 32768) (d : Fin 1024) :
    val_main_v49 (F := Ideal) A.x A.om A.orw A.gl A.mod A.g A.wm A.wr A.wo (ix3 (seqOf row) (posOf row) d) = A.norm row d := by
  have e : val_main_v49 (F := Ideal) A.x A.om A.orw A.gl A.mod A.g A.wm A.wr A.wo
      = hostNorm (val_main_v29 (F := Ideal) A.x A.om A.orw A.gl A.mod A.wm A.wr A.wo) (val_main_v30 (F := Ideal) A.g)
          (val_main_v4 (F := Ideal) A.mod) (val_main_v3 (F := Ideal) A.mod) := rfl
  rw [e, hostNorm_apply]
  unfold Args.norm
  congr 1
  · funext k; exact ref_res A row k
  · funext k; unfold val_main_v30; pointwise
  · funext k; unfold val_main_v4; pointwise
  · funext k; unfold val_main_v3; pointwise

theorem ref_query (row : Fin 32768) (n : Fin 2048) :
    val_main_v52 (F := Ideal) A.x A.om A.orw A.gl A.mod A.g A.wm A.wr A.wo A.wq (ix2 row n) = A.query row n := by
  have hl : ∀ k, lidx_main_v52 (ix2 row n) k = ix2 row k := fun k => by funext a; fin_cases a <;> rfl
  have hr : ∀ k, ridx_main_v52 (ix2 row n) k = ix2 k n := fun k => by funext a; fin_cases a <;> rfl
  have hw : ∀ k, val_main_v51 (F := Ideal) A.wq (ix2 k n) = A.wq (ix3 0 k n) := fun k => by unfold val_main_v51; pointwise
  have hx : ∀ k, val_main_v50 (F := Ideal) A.x A.om A.orw A.gl A.mod A.g A.wm A.wr A.wo (ix2 row k) = A.norm row k := fun k =>
    (cast_rows _ row k).trans (ref_norm A row k)
  rw [val_main_v52_apply]
  unfold Args.query
  simp only [hl, hr, hw, hx]

end

/-- **The kernel's arrays are the reference's results.** -/
theorem algebraic : Cert.algebraic_Kernel5Ideal_Reference5Ideal (hKernel5Ideal := Cert.Kernel5Ideal.Gen.facts)
    (hReference5Ideal := Cert.Reference5Ideal.Gen.facts) := by
  pair_intro
  · run_from (arrays m g)
  · refine θ_run_mono (Cert.Reference5Ideal.Value.run (F := Ideal) m' g') ?_
    intro r hr c
    obtain ⟨a0, a1, a2, a3, a4, a5, a6, a7, a8, a9⟩ := hagree c
    refine ⟨(hr c).1.trans ?_, (hr c).2.1.trans ?_, (hr c).2.2.1.trans ?_, (hr c).2.2.2⟩
    · rw [Cert.Reference5Ideal.Read.val_main_v53_eq, a0, a1, a2, a3, a4, a6, a7, a8]
      funext j
      obtain ⟨row, n, rfl⟩ : ∃ (row : Fin 32768) (n : Fin 1024), j = ix2 row n := ⟨j 0, j 1, by funext a; fin_cases a <;> rfl⟩
      exact (cast_rows _ row n).trans (ref_res (args m c) row n)
    · rw [Cert.Reference5Ideal.Read.val_main_v54_eq, a0, a1, a2, a3, a4, a5, a6, a7, a8]
      funext j
      obtain ⟨row, n, rfl⟩ : ∃ (row : Fin 32768) (n : Fin 1024), j = ix2 row n := ⟨j 0, j 1, by funext a; fin_cases a <;> rfl⟩
      exact (cast_rows _ row n).trans (ref_norm (args m c) row n)
    · rw [Cert.Reference5Ideal.Read.val_main_v52_eq, a0, a1, a2, a3, a4, a5, a6, a7, a8, a9]
      funext j
      obtain ⟨row, n, rfl⟩ : ∃ (row : Fin 32768) (n : Fin 2048), j = ix2 row n := ⟨j 0, j 1, by funext a; fin_cases a <;> rfl⟩
      exact ref_query (args m c) row n

theorem frame_reference : Cert.quiescent_Reference5Ideal (hReference5Ideal := Cert.Reference5Ideal.Gen.facts) := fun m ρ _ =>
  (θ_run Cert.Reference5Ideal.defs _ _).mono (fun r h => ⟨fun c => (h c).2.2.2, Idealize.ShloMosaic.sem_eq_zero_of_no_sems (by decide) r.2⟩)
    (Cert.Reference5Ideal.Value.run (F := Ideal) m ρ)

end Cert.Layer.Merge
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.MobaClaims
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Ada
public import proofs.«01_k».proof.Proof.RwkvClaims
public import proofs.«01_k».proof.Proof.QkClaims
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.InProj2
public import proofs.«01_k».proof.Proof.InProj3
public import proofs.«01_k».proof.Proof.InProj4
public import proofs.«01_k».proof.Proof.Merge
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Moba.preFacts, Cert.Layer.Ada.preFacts, Cert.Layer.Rwkv.preFacts, Cert.Layer.Qk.preFacts,
    fun m ρ _ => Cert.Kernel.Gen.frame m ρ, fun m ρ _ => Cert.KernelIdeal.Gen.frame m ρ, fun m ρ _ => Cert.KernelIdeal.Gen.frame m ρ,
    Cert.Moba.frame_reference, Cert.Moba.frame_reference_finite,
    fun m ρ _ => Cert.Kernel2.Gen.frame m ρ, fun m ρ _ => Cert.Kernel2Ideal.Gen.frame m ρ, Cert.Layer.Cols2.frame_reference,
    fun m ρ _ => Cert.Kernel3.Gen.frame m ρ, fun m ρ _ => Cert.Kernel3Ideal.Gen.frame m ρ, Cert.Layer.Cols3.frame_reference,
    fun m ρ _ => Cert.Kernel4.Gen.frame m ρ, fun m ρ _ => Cert.Kernel4Ideal.Gen.frame m ρ, Cert.Layer.Cols4.frame_reference,
    fun m ρ _ => Cert.Kernel5.Gen.frame m ρ, fun m ρ _ => Cert.Kernel5Ideal.Gen.frame m ρ, Cert.Layer.Merge.frame_reference,
    fun m ρ _ => Cert.Kernel6.Gen.frame m ρ, fun m ρ _ => Cert.Kernel6Ideal.Gen.frame m ρ, fun m ρ _ => Cert.Kernel6Ideal.Gen.frame m ρ,
    Cert.Layer.Ada.frame_reference, Cert.Layer.Ada.frame_reference_finite,
    fun m ρ _ => Cert.Kernel7.Gen.frame m ρ, fun m ρ _ => Cert.Kernel7Ideal.Gen.frame m ρ, fun m ρ _ => Cert.Kernel7Ideal.Gen.frame m ρ,
    Cert.Layer.Rwkv.frame_reference, Cert.Layer.Rwkv.frame_reference_finite,
    fun m ρ _ => Cert.Kernel8.Gen.frame m ρ, fun m ρ _ => Cert.Kernel8Ideal.Gen.frame m ρ, fun m ρ _ => Cert.Kernel8Ideal.Gen.frame m ρ,
    Cert.Layer.Qk.frame_reference, Cert.Layer.Qk.frame_reference_finite,
    IdealRules.named_const.statement Cert.KernelIdeal.κ "mask" .f32 0xF149F2CA#32 ⊥ rfl,
    Cert.Moba.algebraic,
    trivial, Cert.Layer.Cols2.algebraic,
    trivial, Cert.Layer.Cols3.algebraic,
    trivial, Cert.Layer.Cols4.algebraic,
    trivial, Cert.Layer.Merge.algebraic,
    trivial, Cert.Layer.Ada.algebraic,
    trivial, Cert.Layer.Rwkv.algebraic,
    trivial, Cert.Layer.Qk.algebraic⟩

end Cert.Proof

end
